-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v22)) (v6 : (c : Dev Cert.KernelIdeal.nD) → Buf (Elt Ideal) ((c.tc : Thread Cert.KernelIdeal.nD Cert.KernelIdeal.τ).loc Cert.KernelIdeal.main_v23)) (v7 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_v23) = v6 c
          ∧ r.2.mem ((c.tc : Thread Cert.KernelIdeal.nD Cert.KernelIdeal.τ).loc Cert.KernelIdeal.main_v26) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v12) = v5 c
          ∧ r.2.mem ((c.tc : Thread Cert.ReferenceIdeal.nD Cert.ReferenceIdeal.τ).loc Cert.ReferenceIdeal.main_v13) = v6 c
          ∧ r.2.mem ((c.tc : Thread Cert.ReferenceIdeal.nD Cert.ReferenceIdeal.τ).loc Cert.ReferenceIdeal.main_v14) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x2048 : Shape := ⟨3, ![4, 1024, 2048]⟩
abbrev S2048x5632 : Shape := ⟨2, ![2048, 5632]⟩
abbrev S5632 : Shape := ⟨1, ![5632]⟩
abbrev S5632x2048 : Shape := ⟨2, ![5632, 2048]⟩
abbrev S2048 : Shape := ⟨1, ![2048]⟩
abbrev S1x5632 : Shape := ⟨2, ![1, 5632]⟩
abbrev S1x2048 : Shape := ⟨2, ![1, 2048]⟩
abbrev S4096x2048 : Shape := ⟨2, ![4096, 2048]⟩
abbrev S4096x128 : Shape := ⟨2, ![4096, 128]⟩
abbrev S4096x5632 : Shape := ⟨2, ![4096, 5632]⟩
abbrev S256x2048 : Shape := ⟨2, ![256, 2048]⟩
abbrev S256x128 : Shape := ⟨2, ![256, 128]⟩
abbrev S256x5632 : Shape := ⟨2, ![256, 5632]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x512 : Shape := ⟨2, ![2048, 512]⟩
abbrev S256x512 : Shape := ⟨2, ![256, 512]⟩
abbrev S1x512 : Shape := ⟨2, ![1, 512]⟩
abbrev S3x4096x2048 : Shape := ⟨3, ![3, 4096, 2048]⟩
abbrev S8x1x4096 : Shape := ⟨3, ![8, 1, 4096]⟩
abbrev S1x128 : Shape := ⟨2, ![1, 128]⟩
abbrev S512x2048 : Shape := ⟨2, ![512, 2048]⟩
abbrev S512x128 : Shape := ⟨2, ![512, 128]⟩
abbrev S512x5632 : Shape := ⟨2, ![512, 5632]⟩
abbrev S1x512x2048 : Shape := ⟨3, ![1, 512, 2048]⟩
abbrev S1x1x512 : Shape := ⟨3, ![1, 1, 512]⟩
abbrev S512x1 : Shape := ⟨2, ![512, 1]⟩
abbrev S512x512 : Shape := ⟨2, ![512, 512]⟩
abbrev S5632x512 : Shape := ⟨2, ![5632, 512]⟩
abbrev S1x512x512 : Shape := ⟨3, ![1, 512, 512]⟩
abbrev S128x128 : Shape := ⟨2, ![128, 128]⟩
abbrev S128 : Shape := ⟨1, ![128]⟩
abbrev S1408x512 : Shape := ⟨2, ![1408, 512]⟩
abbrev S1x8x1x4096 : Shape := ⟨4, ![1, 8, 1, 4096]⟩
abbrev S3x8x1x4096 : Shape := ⟨4, ![3, 8, 1, 4096]⟩
abbrev S3x8x4x1024 : Shape := ⟨4, ![3, 8, 4, 1024]⟩
abbrev S3x128 : Shape := ⟨2, ![3, 128]⟩
abbrev S_ : Shape := ⟨0, ![]⟩
abbrev S3 : Shape := ⟨1, ![3]⟩
abbrev S3x4x1024x2048 : Shape := ⟨4, ![3, 4, 1024, 2048]⟩
abbrev S4096x1 : Shape := ⟨2, ![4096, 1]⟩
abbrev S4096 : Shape := ⟨1, ![4096]⟩
abbrev S4x1024 : Shape := ⟨2, ![4, 1024]⟩
abbrev S4x1024x5632 : Shape := ⟨3, ![4, 1024, 5632]⟩

abbrev nBuf : Space → Nat
  | .hbm => 51
  | .vmem => 61
  | .smem => 0
  | _ => 0

abbrev bufTy : (tb : Table) → Fin (tcTables nBuf tb) → BufTy
  | .hbm, ⟨0, _⟩ => ⟨S4x1024x2048, .bf16⟩
  | .hbm, ⟨1, _⟩ => ⟨S2048x5632, .fp8e4m3⟩
  | .hbm, ⟨2, _⟩ => ⟨S5632, .f32⟩
  | .hbm, ⟨3, _⟩ => ⟨S2048x5632, .fp8e4m3⟩
  | .hbm, ⟨4, _⟩ => ⟨S5632, .f32⟩
  | .hbm, ⟨5, _⟩ => ⟨S5632x2048, .fp8e4m3⟩
  | .hbm, ⟨6, _⟩ => ⟨S2048, .f32⟩
  | .hbm, ⟨7, _⟩ => ⟨S2048x5632, .i8⟩
  | .hbm, ⟨8, _⟩ => ⟨S2048x5632, .i8⟩
  | .hbm, ⟨9, _⟩ => ⟨S5632x2048, .i8⟩
  | .hbm, ⟨10, _⟩ => ⟨S1x5632, .f32⟩
  | .hbm, ⟨11, _⟩ => ⟨S1x5632, .f32⟩
  | .hbm, ⟨12, _⟩ => ⟨S1x2048, .f32⟩
  | .hbm, ⟨13, _⟩ => ⟨S4096x2048, .bf16⟩
  | .hbm, ⟨14, _⟩ => ⟨S4096x2048, .fp8e4m3⟩
  | .hbm, ⟨15, _⟩ => ⟨S4096x128, .f32⟩
  | .hbm, ⟨16, _⟩ => ⟨S4096x5632, .f32⟩
  | .hbm, ⟨17, _⟩ => ⟨S4096x5632, .f32⟩
  | .hbm, ⟨18, _⟩ => ⟨S4096x5632, .fp8e4m3⟩
  | .hbm, ⟨19, _⟩ => ⟨S4096x128, .f32⟩
  | .hbm, ⟨20, _⟩ => ⟨S3x4096x2048, .f32⟩
  | .hbm, ⟨21, _⟩ => ⟨S8x1x4096, .f32⟩
  | .hbm, ⟨22, _⟩ => ⟨S1x128, .f32⟩
  | .hbm, ⟨23, _⟩ => ⟨S3x4096x2048, .f32⟩
  | .hbm, ⟨24, _⟩ => ⟨S8x1x4096, .f32⟩
  | .hbm, ⟨25, _⟩ => ⟨S1x128, .f32⟩
  | .hbm, ⟨26, _⟩ => ⟨S3x4096x2048, .f32⟩
  | .hbm, ⟨27, _⟩ => ⟨S8x1x4096, .f32⟩
  | .hbm, ⟨28, _⟩ => ⟨S1x128, .f32⟩
  | .hbm, ⟨29, _⟩ => ⟨S4096x2048, .bf16⟩
  | .hbm, ⟨30, _⟩ => ⟨S1x8x1x4096, .f32⟩
  | .hbm, ⟨31, _⟩ => ⟨S1x8x1x4096, .f32⟩
  | .hbm, ⟨32, _⟩ => ⟨S1x8x1x4096, .f32⟩
  | .hbm, ⟨33, _⟩ => ⟨S3x8x1x4096, .f32⟩
  | .hbm, ⟨34, _⟩ => ⟨S3x8x4x1024, .f32⟩
  | .hbm, ⟨35, _⟩ => ⟨S3x128, .f32⟩
  | .hbm, ⟨36, _⟩ => ⟨S_, .f32⟩
  | .hbm, ⟨37, _⟩ => ⟨S3, .f32⟩
  | .hbm, ⟨38, _⟩ => ⟨S_, .f32⟩
  | .hbm, ⟨39, _⟩ => ⟨S3, .f32⟩
  | .hbm, ⟨40, _⟩ => ⟨S3, .f32⟩
  | .hbm, ⟨41, _⟩ => ⟨S4x1024x2048, .bf16⟩
  | .hbm, ⟨42, _⟩ => ⟨S3x4x1024x2048, .f32⟩
  | .hbm, ⟨43, _⟩ => ⟨S4x1024x2048, .fp8e4m3⟩
  | .hbm, ⟨44, _⟩ => ⟨S4096x1, .f32⟩
  | .hbm, ⟨45, _⟩ => ⟨S4096, .f32⟩
  | .hbm, ⟨46, _⟩ => ⟨S4x1024, .f32⟩
  | .hbm, ⟨47, _⟩ => ⟨S4x1024x5632, .fp8e4m3⟩
  | .hbm, ⟨48, _⟩ => ⟨S4096x1, .f32⟩
  | .hbm, ⟨49, _⟩ => ⟨S4096, .f32⟩
  | .hbm, ⟨50, _⟩ => ⟨S4x1024, .f32⟩
  | .local _ .vmem, ⟨0, _⟩ => ⟨S256x2048, .bf16⟩
  | .local _ .vmem, ⟨1, _⟩ => ⟨S256x2048, .bf16⟩
  | .local _ .vmem, ⟨2, _⟩ => ⟨S2048x5632, .fp8e4m3⟩
  | .local _ .vmem, ⟨3, _⟩ => ⟨S2048x5632, .fp8e4m3⟩
  | .local _ .vmem, ⟨4, _⟩ => ⟨S1x5632, .f32⟩
  | .local _ .vmem, ⟨5, _⟩ => ⟨S1x5632, .f32⟩
  | .local _ .vmem, ⟨6, _⟩ => ⟨S256x2048, .fp8e4m3⟩
  | .local _ .vmem, ⟨7, _⟩ => ⟨S256x2048, .fp8e4m3⟩
  | .local _ .vmem, ⟨8, _⟩ => ⟨S256x128, .f32⟩
  | .local _ .vmem, ⟨9, _⟩ => ⟨S256x128, .f32⟩
  | .local _ .vmem, ⟨10, _⟩ => ⟨S256x5632, .f32⟩
  | .local _ .vmem, ⟨11, _⟩ => ⟨S256x5632, .f32⟩
  | .local _ .vmem, ⟨12, _⟩ => ⟨S256x5632, .f32⟩
  | .local _ .vmem, ⟨13, _⟩ => ⟨S256x5632, .f32⟩
  | .local _ .vmem, ⟨14, _⟩ => ⟨S256x5632, .fp8e4m3⟩
  | .local _ .vmem, ⟨15, _⟩ => ⟨S256x5632, .fp8e4m3⟩
  | .local _ .vmem, ⟨16, _⟩ => ⟨S256x128, .f32⟩
  | .local _ .vmem, ⟨17, _⟩ => ⟨S256x128, .f32⟩
  | .local _ .vmem, ⟨18, _⟩ => ⟨S256x5632, .f32⟩
  | .local _ .vmem, ⟨19, _⟩ => ⟨S512x2048, .fp8e4m3⟩
  | .local _ .vmem, ⟨20, _⟩ => ⟨S512x2048, .fp8e4m3⟩
  | .local _ .vmem, ⟨21, _⟩ => ⟨S512x128, .f32⟩
  | .local _ .vmem, ⟨22, _⟩ => ⟨S512x128, .f32⟩
  | .local _ .vmem, ⟨23, _⟩ => ⟨S512x5632, .f32⟩
  | .local _ .vmem, ⟨24, _⟩ => ⟨S2048x5632, .i8⟩
  | .local _ .vmem, ⟨25, _⟩ => ⟨S5632x2048, .fp8e4m3⟩
  | .local _ .vmem, ⟨26, _⟩ => ⟨S1x2048, .f32⟩
  | .local _ .vmem, ⟨27, _⟩ => ⟨S1x512x2048, .f32⟩
  | .local _ .vmem, ⟨28, _⟩ => ⟨S1x512x2048, .f32⟩
  | .local _ .vmem, ⟨29, _⟩ => ⟨S1x1x512, .f32⟩
  | .local _ .vmem, ⟨30, _⟩ => ⟨S1x1x512, .f32⟩
  | .local _ .vmem, ⟨31, _⟩ => ⟨S1x128, .f32⟩
  | .local _ .vmem, ⟨32, _⟩ => ⟨S512x5632, .bf16⟩
  | .local _ .vmem, ⟨33, _⟩ => ⟨S512x2048, .fp8e4m3⟩
  | .local _ .vmem, ⟨34, _⟩ => ⟨S512x2048, .fp8e4m3⟩
  | .local _ .vmem, ⟨35, _⟩ => ⟨S512x128, .f32⟩
  | .local _ .vmem, ⟨36, _⟩ => ⟨S512x128, .f32⟩
  | .local _ .vmem, ⟨37, _⟩ => ⟨S512x5632, .f32⟩
  | .local _ .vmem, ⟨38, _⟩ => ⟨S2048x5632, .i8⟩
  | .local _ .vmem, ⟨39, _⟩ => ⟨S5632x2048, .fp8e4m3⟩
  | .local _ .vmem, ⟨40, _⟩ => ⟨S1x2048, .f32⟩
  | .local _ .vmem, ⟨41, _⟩ => ⟨S1x512x2048, .f32⟩
  | .local _ .vmem, ⟨42, _⟩ => ⟨S1x512x2048, .f32⟩
  | .local _ .vmem, ⟨43, _⟩ => ⟨S1x1x512, .f32⟩
  | .local _ .vmem, ⟨44, _⟩ => ⟨S1x1x512, .f32⟩
  | .local _ .vmem, ⟨45, _⟩ => ⟨S1x128, .f32⟩
  | .local _ .vmem, ⟨46, _⟩ => ⟨S512x5632, .bf16⟩
  | .local _ .vmem, ⟨47, _⟩ => ⟨S512x5632, .fp8e4m3⟩
  | .local _ .vmem, ⟨48, _⟩ => ⟨S512x5632, .fp8e4m3⟩
  | .local _ .vmem, ⟨49, _⟩ => ⟨S512x128, .f32⟩
  | .local _ .vmem, ⟨50, _⟩ => ⟨S512x128, .f32⟩
  | .local _ .vmem, ⟨51, _⟩ => ⟨S5632x2048, .i8⟩
  | .local _ .vmem, ⟨52, _⟩ => ⟨S5632x2048, .fp8e4m3⟩
  | .local _ .vmem, ⟨53, _⟩ => ⟨S1x2048, .f32⟩
  | .local _ .vmem, ⟨54, _⟩ => ⟨S1x512x2048, .f32⟩
  | .local _ .vmem, ⟨55, _⟩ => ⟨S1x512x2048, .f32⟩
  | .local _ .vmem, ⟨56, _⟩ => ⟨S1x1x512, .f32⟩
  | .local _ .vmem, ⟨57, _⟩ => ⟨S1x1x512, .f32⟩
  | .local _ .vmem, ⟨58, _⟩ => ⟨S1x128, .f32⟩
  | .local _ .vmem, ⟨59, _⟩ => ⟨S512x2048, .bf16⟩
  | .local _ .vmem, ⟨60, _⟩ => ⟨S512x2048, .bf16⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v7_0 : Ref sig .tc := ⟨.hbm, 26, rfl⟩
abbrev main_v7_1 : Ref sig .tc := ⟨.hbm, 27, rfl⟩
abbrev main_v7_2 : Ref sig .tc := ⟨.hbm, 28, rfl⟩
abbrev main_v7_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_scratch0 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg6_1 : Ref sig .tc := ⟨.vmem, 42, rfl⟩
abbrev cc2_stg7_0 : Ref sig .tc := ⟨.vmem, 43, rfl⟩
abbrev cc2_stg7_1 : Ref sig .tc := ⟨.vmem, 44, rfl⟩
abbrev cc2_stg8_0 : Ref sig .tc := ⟨.vmem, 45, rfl⟩
abbrev cc2_scratch0 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg5_1 : Ref sig .tc := ⟨.vmem, 55, rfl⟩
abbrev cc3_stg6_0 : Ref sig .tc := ⟨.vmem, 56, rfl⟩
abbrev cc3_stg6_1 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg8_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem5_1 : DmaSem sig := 52
abbrev cc3_sem6_0 : DmaSem sig := 53
abbrev cc3_sem6_1 : DmaSem sig := 54
abbrev cc3_sem7_0 : DmaSem sig := 55
abbrev cc3_sem8_0 : DmaSem sig := 56
abbrev cc3_sem8_1 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S512x5632 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S2048x5632 .i8 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S5632x2048 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x2048 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S512x5632 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 1 → Memref sig .tc .vmem S2048x5632 .i8 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S5632x2048 .fp8e4m3 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev grid3 : Pipeline.Grid := ⟨2, ![8, 8], ![false, false]⟩

def k3_cond1 (i : grid3.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc3_transform_7 (i : grid3.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x5632 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S5632x2048 .i8 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S5632x2048 .fp8e4m3 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S512x2048 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]
-- ==== ReferenceIdeal.lean ====
abbrev S4x1024x2048 : Shape := ⟨3, ![4, 1024, 2048]⟩
abbrev S2048x5632 : Shape := ⟨2, ![2048, 5632]⟩
abbrev S5632 : Shape := ⟨1, ![5632]⟩
abbrev S5632x2048 : Shape := ⟨2, ![5632, 2048]⟩
abbrev S2048 : Shape := ⟨1, ![2048]⟩
abbrev S4096x2048 : Shape := ⟨2, ![4096, 2048]⟩
abbrev S1x5632 : Shape := ⟨2, ![1, 5632]⟩
abbrev S1x2048 : Shape := ⟨2, ![1, 2048]⟩
abbrev S3x8x4096 : Shape := ⟨3, ![3, 8, 4096]⟩
abbrev S3x4096x2048 : Shape := ⟨3, ![3, 4096, 2048]⟩
abbrev S4096x1 : Shape := ⟨2, ![4096, 1]⟩
abbrev S4096x5632 : Shape := ⟨2, ![4096, 5632]⟩
abbrev S4096 : Shape := ⟨1, ![4096]⟩
abbrev S1x256 : Shape := ⟨2, ![1, 256]⟩
abbrev S4096x256 : Shape := ⟨2, ![4096, 256]⟩
abbrev S1x1x4096 : Shape := ⟨3, ![1, 1, 4096]⟩
abbrev S1x4096x2048 : Shape := ⟨3, ![1, 4096, 2048]⟩
abbrev S_ : Shape := ⟨0, ![]⟩
abbrev S3 : Shape := ⟨1, ![3]⟩
abbrev S3x8x4x1024 : Shape := ⟨4, ![3, 8, 4, 1024]⟩
abbrev S3x4x1024x2048 : Shape := ⟨4, ![3, 4, 1024, 2048]⟩
abbrev S4x1024 : Shape := ⟨2, ![4, 1024]⟩
abbrev S4x1024x5632 : Shape := ⟨3, ![4, 1024, 5632]⟩

abbrev nBuf : Space → Nat
  | .hbm => 33
  | .vmem => 17
  | .smem => 0
  | _ => 0

abbrev bufTy : (tb : Table) → Fin (tcTables nBuf tb) → BufTy
  | .hbm, ⟨0, _⟩ => ⟨S4x1024x2048, .bf16⟩
  | .hbm, ⟨1, _⟩ => ⟨S2048x5632, .fp8e4m3⟩
  | .hbm, ⟨2, _⟩ => ⟨S5632, .f32⟩
  | .hbm, ⟨3, _⟩ => ⟨S2048x5632, .fp8e4m3⟩
  | .hbm, ⟨4, _⟩ => ⟨S5632, .f32⟩
  | .hbm, ⟨5, _⟩ => ⟨S5632x2048, .fp8e4m3⟩
  | .hbm, ⟨6, _⟩ => ⟨S2048, .f32⟩
  | .hbm, ⟨7, _⟩ => ⟨S2048x5632, .i8⟩
  | .hbm, ⟨8, _⟩ => ⟨S2048x5632, .i8⟩
  | .hbm, ⟨9, _⟩ => ⟨S5632x2048, .i8⟩
  | .hbm, ⟨10, _⟩ => ⟨S4096x2048, .bf16⟩
  | .hbm, ⟨11, _⟩ => ⟨S1x5632, .f32⟩
  | .hbm, ⟨12, _⟩ => ⟨S1x5632, .f32⟩
  | .hbm, ⟨13, _⟩ => ⟨S1x2048, .f32⟩
  | .hbm, ⟨14, _⟩ => ⟨S4096x2048, .bf16⟩
  | .hbm, ⟨15, _⟩ => ⟨S3x8x4096, .f32⟩
  | .hbm, ⟨16, _⟩ => ⟨S3x4096x2048, .f32⟩
  | .hbm, ⟨17, _⟩ => ⟨S4096x2048, .fp8e4m3⟩
  | .hbm, ⟨18, _⟩ => ⟨S4096x1, .f32⟩
  | .hbm, ⟨19, _⟩ => ⟨S4096x5632, .fp8e4m3⟩
  | .hbm, ⟨20, _⟩ => ⟨S4096x1, .f32⟩
  | .hbm, ⟨21, _⟩ => ⟨S_, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S4x1024x2048, .bf16⟩
  | .hbm, ⟨27, _⟩ => ⟨S3x8x4x1024, .f32⟩
  | .hbm, ⟨28, _⟩ => ⟨S3x4x1024x2048, .f32⟩
  | .hbm, ⟨29, _⟩ => ⟨S4x1024x2048, .fp8e4m3⟩
  | .hbm, ⟨30, _⟩ => ⟨S4x1024, .f32⟩
  | .hbm, ⟨31, _⟩ => ⟨S4x1024x5632, .fp8e4m3⟩
  | .hbm, ⟨32, _⟩ => ⟨S4x1024, .f32⟩
  | .local _ .vmem, ⟨0, _⟩ => ⟨S4096x2048, .bf16⟩
  | .local _ .vmem, ⟨1, _⟩ => ⟨S2048x5632, .fp8e4m3⟩
  | .local _ .vmem, ⟨2, _⟩ => ⟨S1x5632, .f32⟩
  | .local _ .vmem, ⟨3, _⟩ => ⟨S2048x5632, .fp8e4m3⟩
  | .local _ .vmem, ⟨4, _⟩ => ⟨S1x5632, .f32⟩
  | .local _ .vmem, ⟨5, _⟩ => ⟨S5632x2048, .fp8e4m3⟩
  | .local _ .vmem, ⟨6, _⟩ => ⟨S1x2048, .f32⟩
  | .local _ .vmem, ⟨7, _⟩ => ⟨S2048x5632, .i8⟩
  | .local _ .vmem, ⟨8, _⟩ => ⟨S2048x5632, .i8⟩
  | .local _ .vmem, ⟨9, _⟩ => ⟨S5632x2048, .i8⟩
  | .local _ .vmem, ⟨10, _⟩ => ⟨S4096x2048, .bf16⟩
  | .local _ .vmem, ⟨11, _⟩ => ⟨S3x8x4096, .f32⟩
  | .local _ .vmem, ⟨12, _⟩ => ⟨S3x4096x2048, .f32⟩
  | .local _ .vmem, ⟨13, _⟩ => ⟨S4096x2048, .fp8e4m3⟩
  | .local _ .vmem, ⟨14, _⟩ => ⟨S4096x1, .f32⟩
  | .local _ .vmem, ⟨15, _⟩ => ⟨S4096x5632, .fp8e4m3⟩
  | .local _ .vmem, ⟨16, _⟩ => ⟨S4096x1, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5632x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5632 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x5632 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5632x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x8x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x4096x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4096x5632 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Frame.Region0.lean ====
/- custom call 0's REGION at the entry contents `V` of `proofs.«01_k».proof.KernelIdeal`'s
   frame certificate, which is laid out as several modules: its last, ../Frame.lean, says what each holds.
   Kept by hand in this directory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_primal` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S256x2048 .fp8e4m3 := (Memref.whole cc0_stg5_0 : Memref sig .tc .vmem S256x2048 .fp8e4m3).view
/-- One staging buffer of output window 6, through which its contents are stated (`View.read_writes_of_cover`: the
    choice does not matter). -/
abbrev VO0_6 : View sig .tc .vmem S256x128 .f32 := (Memref.whole cc0_stg6_0 : Memref sig .tc .vmem S256x128 .f32).view
/-- One staging buffer of output window 7, through which its contents are stated (`View.read_writes_of_cover`: the
    choice does not matter). -/
abbrev VO0_7 : View sig .tc .vmem S256x5632 .f32 := (Memref.whole cc0_stg7_0 : Memref sig .tc .vmem S256x5632 .f32).view
/-- One staging buffer of output window 8, through which its contents are stated (`View.read_writes_of_cover`: the
    choice does not matter). -/
abbrev VO0_8 : View sig .tc .vmem S256x5632 .f32 := (Memref.whole cc0_stg8_0 : Memref sig .tc .vmem S256x5632 .f32).view
/-- One staging buffer of output window 9, through which its contents are stated (`View.read_writes_of_cover`: the
    choice does not matter). -/
abbrev VO0_9 : View sig .tc .vmem S256x5632 .fp8e4m3 := (Memref.whole cc0_stg9_0 : Memref sig .tc .vmem S256x5632 .fp8e4m3).view
/-- One staging buffer of output window 10, through which its contents are stated (`View.read_writes_of_cover`: the
    choice does not matter). -/
abbrev VO0_10 : View sig .tc .vmem S256x128 .f32 := (Memref.whole cc0_stg10_0 : Memref sig .tc .vmem S256x128 .f32).view
/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x5632 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x5632 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5632 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5632 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5632 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5632 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x5632 .f32 := Memref.whole cc0_scratch0

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ Pipeline.scopedRestBut spec0 c [cc0_scratch0]) := by
  rw [scopedRest0_split]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_flat]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) :
    Σ' (L5 : List (View.Piece (Elt F) S256x2048 .fp8e4m3)), Σ' (L6 : List (View.Piece (Elt F) S256x128 .f32)), Σ' (L7 : List (View.Piece (Elt F) S256x5632 .f32)), Σ' (L8 : List (View.Piece (Elt F) S256x5632 .f32)), Σ' (L9 : List (View.Piece (Elt F) S256x5632 .fp8e4m3)), Σ' (L10 : List (View.Piece (Elt F) S256x128 .f32)), { LT0 : List (View.Piece (Elt F) S256x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0)) -∗ K ⟨⟩))
          ⊢ wp frame (wpE (defs₀ (F := F)) Variants.none c none) E (cc0_primal i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0_primal_eq_skeleton]; unfold cc0_primal_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact HS0

/-- The run's pieces for output 5 tile its block (1 store of `S256x2048`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).1 S256x2048.size (by sl_kernel_rfl) y

/-- What the run leaves in output 5's staging buffer: its pieces read back over junk. -/
def out0_A_5 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) : Vec F S256x2048 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).1)

/-- The run's pieces for output 6 tile its block (1 store of `S256x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1 S256x128.size (by sl_kernel_rfl) y

/-- What the run leaves in output 6's staging buffer: its pieces read back over junk. -/
def out0_A_6 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) : Vec F S256x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1)

/-- The run's pieces for output 7 tile its block (11 stores of `S256x512`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) (y : S256x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1 S256x512.size (by sl_kernel_rfl) y

/-- What the run leaves in output 7's staging buffer: its pieces read back over junk. -/
def out0_A_7 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) : Vec F S256x5632 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1)

/-- The run's pieces for output 8 tile its block (11 stores of `S256x512`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) (y : S256x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1 S256x512.size (by sl_kernel_rfl) y

/-- What the run leaves in output 8's staging buffer: its pieces read back over junk. -/
def out0_A_8 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) : Vec F S256x5632 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1)

/-- The run's pieces for output 9 tile its block (11 stores of `S256x512`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) (y : S256x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.1 S256x512.size (by sl_kernel_rfl) y

/-- What the run leaves in output 9's staging buffer: its pieces read back over junk. -/
def out0_A_9 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) : Vec F S256x5632 .fp8e4m3 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.1)

/-- The run's pieces for output 10 tile its block (1 store of `S256x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.2.1 S256x128.size (by sl_kernel_rfl) y

/-- What the run leaves in output 10's staging buffer: its pieces read back over junk. -/
def out0_A_10 (c : Dev nD) (i : grid0.Coords) (arg1 : Memref sig .tc .vmem S256x2048 .bf16) (harg1 : arg1.IsWhole) (arg2 : Memref sig .tc .vmem S2048x5632 .fp8e4m3) (harg2 : arg2.IsWhole) (arg3 : Memref sig .tc .vmem S2048x5632 .fp8e4m3) (harg3 : arg3.IsWhole) (arg4 : Memref sig .tc .vmem S1x5632 .f32) (harg4 : arg4.IsWhole) (arg5 : Memref sig .tc .vmem S1x5632 .f32) (harg5 : arg5.IsWhole) (arg6 : Memref sig .tc .vmem S256x2048 .fp8e4m3) (harg6 : arg6.IsWhole) (arg7 : Memref sig .tc .vmem S256x128 .f32) (harg7 : arg7.IsWhole) (arg8 : Memref sig .tc .vmem S256x5632 .f32) (harg8 : arg8.IsWhole) (arg9 : Memref sig .tc .vmem S256x5632 .f32) (harg9 : arg9.IsWhole) (arg10 : Memref sig .tc .vmem S256x5632 .fp8e4m3) (harg10 : arg10.IsWhole) (arg11 : Memref sig .tc .vmem S256x128 .f32) (harg11 : arg11.IsWhole) (arg12 : Memref sig .tc .vmem S256x5632 .f32) (harg12 : arg12.IsWhole)
    (x0 : Vec F S256x2048 .bf16) (x1 : Vec F S2048x5632 .fp8e4m3) (x2 : Vec F S2048x5632 .fp8e4m3) (x3 : Vec F S1x5632 .f32) (x4 : Vec F S1x5632 .f32) : Vec F S256x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x2048 .fp8e4m3 × Vec F S256x128 .f32 × Vec F S256x5632 .f32 × Vec F S256x5632 .f32 × Vec F S256x5632 .fp8e4m3 × Vec F S256x128 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2.1
    | ⟨7, _⟩ => (outsAt0 V c t).2.2.1
    | ⟨8, _⟩ => (outsAt0 V c t).2.2.2.1
    | ⟨9, _⟩ => (outsAt0 V c t).2.2.2.2.1
    | ⟨10, _⟩ => (outsAt0 V c t).2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2.1 := by dsimp only [dat0]
theorem after0_7 (c : Dev nD) (t : Fin cfg0.N) : (dat0 V c).after 7 t = (outsAt0 V c t).2.2.1 := by dsimp only [dat0]
theorem after0_8 (c : Dev nD) (t : Fin cfg0.N) : (dat0 V c).after 8 t = (outsAt0 V c t).2.2.2.1 := by dsimp only [dat0]
theorem after0_9 (c : Dev nD) (t : Fin cfg0.N) : (dat0 V c).after 9 t = (outsAt0 V c t).2.2.2.2.1 := by dsimp only [dat0]
theorem after0_10 (c : Dev nD) (t : Fin cfg0.N) : (dat0 V c).after 10 t = (outsAt0 V c t).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  rw [show (dat0 V c).Φ t.castSucc = Pipeline.ΦA spec0 c from rfl, PhiA0_eq]
  unfold outsAt0
  unfold out0_A_5 out0_A_6 out0_A_7 out0_A_8 out0_A_9 out0_A_10; (try dsimp only)
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk0 V c 0 t) (iblk0 V c 1 t) (iblk0 V c 2 t) (iblk0 V c 3 t) (iblk0 V c 4 t)).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, ⟨%e5, H5⟩, ⟨%e6, H6⟩, ⟨%e7, H7⟩, ⟨%e8, H8⟩, ⟨%e9, H9⟩, ⟨%e10, H10⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _)
  unfold owns; iexists _; isplitr
  swap; · iexact H10
  ipureintro; exact View.read_writes_of_cover _ _ _ _ _ (cover0_A_10 c _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.Region1.lean ====
/- custom call 1's REGION at the entry contents `V` of `proofs.«01_k».proof.KernelIdeal`'s
   frame certificate, which is laid out as several modules: its last, ../Frame.lean, says what each holds.
   Kept by hand in this directory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_branch0` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 64 = 0)

/-! ## The kernel body on any staging memrefs: a subtype the run finds -/

/-- One staging buffer of output window 6, through which its contents are stated (`View.read_writes_of_cover`: the
    choice does not matter). -/
abbrev VO1_6 : View sig .tc .vmem S1x512x2048 .f32 := (Memref.whole cc1_stg6_0 : Memref sig .tc .vmem S1x512x2048 .f32).view
/-- One staging buffer of output window 7, through which its contents are stated (`View.read_writes_of_cover`: the
    choice does not matter). -/
abbrev VO1_7 : View sig .tc .vmem S1x1x512 .f32 := (Memref.whole cc1_stg7_0 : Memref sig .tc .vmem S1x1x512 .f32).view
/-- One staging buffer of output window 8, through which its contents are stated (`View.read_writes_of_cover`: the
    choice does not matter). -/
abbrev VO1_8 : View sig .tc .vmem S1x128 .f32 := (Memref.whole cc1_stg8_0 : Memref sig .tc .vmem S1x128 .f32).view
/-- Each window's current staging memref at point `t`, spelled as the pipeline passes it (`bodyAt1`), and its wholeness. -/
abbrev ms1_0 (t : Fin cfg1.N) : Memref sig .tc .vmem S512x2048 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x5632 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x5632 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5632x2048 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S512x5632 .bf16 := Memref.whole cc1_scratch0

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) :
    Σ' (L6 : List (View.Piece (Elt F) S1x512x2048 .f32)), Σ' (L7 : List (View.Piece (Elt F) S1x1x512 .f32)), Σ' (L8 : List (View.Piece (Elt F) S1x128 .f32)), { LT0 : List (View.Piece (Elt F) S512x5632 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LT0)) -∗ K ⟨⟩))
          ⊢ wp frame (wpE (defs₀ (F := F)) Variants.none c none) E (cc1_branch0 i arg2 harg2 arg3 harg3 arg4 harg4 arg5 harg5 arg6 harg6 arg7 harg7 (Memref.whole main_v2) (Memref.isWhole_whole _) arg9 harg9 arg10 harg10 arg11 harg11 arg12 harg12) K } := by
  refine ⟨?_, ?_, ?_, ?_, fun E K => ?run⟩
  case run =>
    simp only [cc1_branch0_eq_skeleton]; unfold cc1_branch0_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

/-- Case A's pieces for output 6 tile its block (4 stores of `S1x512x512`, checked by the kernel's evaluation: Lib/Ring.lean `Piece.tiledL`, linear in the pieces, through a loop's `@[irreducible]` trip theorem too), so they cover it. -/
theorem cover1_A_6 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (y : S1x512x2048.Idx) :
    ∃ pc ∈ (kernelRun1_A c i arg2 harg2 arg3 harg3 arg4 harg4 arg5 harg5 arg6 harg6 arg7 harg7 arg9 harg9 arg10 harg10 arg11 harg11 arg12 harg12 hc0 x0 x1 x2 x3 x4 x5).1, y ∈ pc.1.set :=
  View.cover_of_tiledL (kernelRun1_A c i arg2 harg2 arg3 harg3 arg4 harg4 arg5 harg5 arg6 harg6 arg7 harg7 arg9 harg9 arg10 harg10 arg11 harg11 arg12 harg12 hc0 x0 x1 x2 x3 x4 x5).1 S1x512x512.size (by sl_kernel_rfl) y

/-- What case A leaves in output 6's staging buffer: its pieces read back over junk. -/
def out1_A_6 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) : Vec F S1x512x2048 .f32 :=
  VO1_6.read (Elt F) (VO1_6.writes (Elt F) VO1_6.junk (kernelRun1_A c i arg2 harg2 arg3 harg3 arg4 harg4 arg5 harg5 arg6 harg6 arg7 harg7 arg9 harg9 arg10 harg10 arg11 harg11 arg12 harg12 hc0 x0 x1 x2 x3 x4 x5).1)

/-- Case A's pieces for output 7 tile its block (1 store of `S1x1x512`, checked by the kernel's evaluation: Lib/Ring.lean `Piece.tiledL`, linear in the pieces, through a loop's `@[irreducible]` trip theorem too), so they cover it. -/
theorem cover1_A_7 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (y : S1x1x512.Idx) :
    ∃ pc ∈ (kernelRun1_A c i arg2 harg2 arg3 harg3 arg4 harg4 arg5 harg5 arg6 harg6 arg7 harg7 arg9 harg9 arg10 harg10 arg11 harg11 arg12 harg12 hc0 x0 x1 x2 x3 x4 x5).2.1, y ∈ pc.1.set :=
  View.cover_of_tiledL (kernelRun1_A c i arg2 harg2 arg3 harg3 arg4 harg4 arg5 harg5 arg6 harg6 arg7 harg7 arg9 harg9 arg10 harg10 arg11 harg11 arg12 harg12 hc0 x0 x1 x2 x3 x4 x5).2.1 S1x1x512.size (by sl_kernel_rfl) y

/-- What case A leaves in output 7's staging buffer: its pieces read back over junk. -/
def out1_A_7 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) : Vec F S1x1x512 .f32 :=
  VO1_7.read (Elt F) (VO1_7.writes (Elt F) VO1_7.junk (kernelRun1_A c i arg2 harg2 arg3 harg3 arg4 harg4 arg5 harg5 arg6 harg6 arg7 harg7 arg9 harg9 arg10 harg10 arg11 harg11 arg12 harg12 hc0 x0 x1 x2 x3 x4 x5).2.1)

/-- Case A's pieces for output 8 tile its block (2 stores of `S1x128`, checked by the kernel's evaluation: Lib/Ring.lean `Piece.tiledL`, linear in the pieces, through a loop's `@[irreducible]` trip theorem too), so they cover it. -/
theorem cover1_A_8 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (y : S1x128.Idx) :
    ∃ pc ∈ (kernelRun1_A c i arg2 harg2 arg3 harg3 arg4 harg4 arg5 harg5 arg6 harg6 arg7 harg7 arg9 harg9 arg10 harg10 arg11 harg11 arg12 harg12 hc0 x0 x1 x2 x3 x4 x5).2.2.1, y ∈ pc.1.set :=
  View.cover_of_tiledL (kernelRun1_A c i arg2 harg2 arg3 harg3 arg4 harg4 arg5 harg5 arg6 harg6 arg7 harg7 arg9 harg9 arg10 harg10 arg11 harg11 arg12 harg12 hc0 x0 x1 x2 x3 x4 x5).2.2.1 S1x128.size (by sl_kernel_rfl) y

/-- What case A leaves in output 8's staging buffer: its pieces read back over junk. -/
def out1_A_8 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) : Vec F S1x128 .f32 :=
  VO1_8.read (Elt F) (VO1_8.writes (Elt F) VO1_8.junk (kernelRun1_A c i arg2 harg2 arg3 harg3 arg4 harg4 arg5 harg5 arg6 harg6 arg7 harg7 arg9 harg9 arg10 harg10 arg11 harg11 arg12 harg12 hc0 x0 x1 x2 x3 x4 x5).2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 63: 63 of 64), WITH the
    proof that on whole staging memrefs — the inputs' at their contents, the outputs it reads before covering (8) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) :
    Σ' (L6 : List (View.Piece (Elt F) S1x512x2048 .f32)), Σ' (L7 : List (View.Piece (Elt F) S1x1x512 .f32)), Σ' (L8 : List (View.Piece (Elt F) S1x128 .f32)), { LT0 : List (View.Piece (Elt F) S512x5632 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ owns (c : Thread nD τ) arg11 fullShare xo8 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LT0)) -∗ K ⟨⟩))
          ⊢ wp frame (wpE (defs₀ (F := F)) Variants.none c none) E (cc1_branch0 i arg2 harg2 arg3 harg3 arg4 harg4 arg5 harg5 arg6 harg6 arg7 harg7 (Memref.whole main_v2) (Memref.isWhole_whole _) arg9 harg9 arg10 harg10 arg11 harg11 arg12 harg12) K } := by
  refine ⟨?_, ?_, ?_, ?_, fun E K => ?run⟩
  case run =>
    simp only [cc1_branch0_eq_skeleton]; unfold cc1_branch0_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

/-- Case B's pieces for output 6 tile its block (4 stores of `S1x512x512`, checked by the kernel's evaluation: Lib/Ring.lean `Piece.tiledL`, linear in the pieces, through a loop's `@[irreducible]` trip theorem too), so they cover it. -/
theorem cover1_B_6 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) (y : S1x512x2048.Idx) :
    ∃ pc ∈ (kernelRun1_B c i arg2 harg2 arg3 harg3 arg4 harg4 arg5 harg5 arg6 harg6 arg7 harg7 arg9 harg9 arg10 harg10 arg11 harg11 arg12 harg12 hc0 x0 x1 x2 x3 x4 x5 xo8).1, y ∈ pc.1.set :=
  View.cover_of_tiledL (kernelRun1_B c i arg2 harg2 arg3 harg3 arg4 harg4 arg5 harg5 arg6 harg6 arg7 harg7 arg9 harg9 arg10 harg10 arg11 harg11 arg12 harg12 hc0 x0 x1 x2 x3 x4 x5 xo8).1 S1x512x512.size (by sl_kernel_rfl) y

/-- What case B leaves in output 6's staging buffer: its pieces read back over junk. -/
def out1_B_6 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) : Vec F S1x512x2048 .f32 :=
  VO1_6.read (Elt F) (VO1_6.writes (Elt F) VO1_6.junk (kernelRun1_B c i arg2 harg2 arg3 harg3 arg4 harg4 arg5 harg5 arg6 harg6 arg7 harg7 arg9 harg9 arg10 harg10 arg11 harg11 arg12 harg12 hc0 x0 x1 x2 x3 x4 x5 xo8).1)

/-- Case B's pieces for output 7 tile its block (1 store of `S1x1x512`, checked by the kernel's evaluation: Lib/Ring.lean `Piece.tiledL`, linear in the pieces, through a loop's `@[irreducible]` trip theorem too), so they cover it. -/
theorem cover1_B_7 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) (y : S1x1x512.Idx) :
    ∃ pc ∈ (kernelRun1_B c i arg2 harg2 arg3 harg3 arg4 harg4 arg5 harg5 arg6 harg6 arg7 harg7 arg9 harg9 arg10 harg10 arg11 harg11 arg12 harg12 hc0 x0 x1 x2 x3 x4 x5 xo8).2.1, y ∈ pc.1.set :=
  View.cover_of_tiledL (kernelRun1_B c i arg2 harg2 arg3 harg3 arg4 harg4 arg5 harg5 arg6 harg6 arg7 harg7 arg9 harg9 arg10 harg10 arg11 harg11 arg12 harg12 hc0 x0 x1 x2 x3 x4 x5 xo8).2.1 S1x1x512.size (by sl_kernel_rfl) y

/-- What case B leaves in output 7's staging buffer: its pieces read back over junk. -/
def out1_B_7 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) : Vec F S1x1x512 .f32 :=
  VO1_7.read (Elt F) (VO1_7.writes (Elt F) VO1_7.junk (kernelRun1_B c i arg2 harg2 arg3 harg3 arg4 harg4 arg5 harg5 arg6 harg6 arg7 harg7 arg9 harg9 arg10 harg10 arg11 harg11 arg12 harg12 hc0 x0 x1 x2 x3 x4 x5 xo8).2.1)

/-- Case B's pieces for output 8 tile its block (1 store of `S1x128`, checked by the kernel's evaluation: Lib/Ring.lean `Piece.tiledL`, linear in the pieces, through a loop's `@[irreducible]` trip theorem too), so they cover it. -/
theorem cover1_B_8 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) (y : S1x128.Idx) :
    ∃ pc ∈ (kernelRun1_B c i arg2 harg2 arg3 harg3 arg4 harg4 arg5 harg5 arg6 harg6 arg7 harg7 arg9 harg9 arg10 harg10 arg11 harg11 arg12 harg12 hc0 x0 x1 x2 x3 x4 x5 xo8).2.2.1, y ∈ pc.1.set :=
  View.cover_of_tiledL (kernelRun1_B c i arg2 harg2 arg3 harg3 arg4 harg4 arg5 harg5 arg6 harg6 arg7 harg7 arg9 harg9 arg10 harg10 arg11 harg11 arg12 harg12 hc0 x0 x1 x2 x3 x4 x5 xo8).2.2.1 S1x128.size (by sl_kernel_rfl) y

/-- What case B leaves in output 8's staging buffer: its pieces read back over junk. -/
def out1_B_8 (c : Dev nD) (i : grid1.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond1_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) : Vec F S1x128 .f32 :=
  VO1_8.read (Elt F) (VO1_8.writes (Elt F) VO1_8.junk (kernelRun1_B c i arg2 harg2 arg3 harg3 arg4 harg4 arg5 harg5 arg6 harg6 arg7 harg7 arg9 harg9 arg10 harg10 arg11 harg11 arg12 harg12 hc0 x0 x1 x2 x3 x4 x5 xo8).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x512x2048 .f32 × Vec F S1x1x512 .f32 × Vec F S1x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 64 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- `outsAt1` at a point of case A: that case's contents. -/
theorem outsAt1_A (c : Dev nD) (t : Fin cfg1.N) (h0 : t.val % 64 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 64 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- At a point of case B output 8's current staging buffer holds what the body left at the point before: the point is
    not the first, the buffer was not written back between (`flush1_8`), the window is live and uncut (Lib/Pipeline/Frame.lean
    `Dat.before_out_kept`). -/
theorem before1_8_B (c : Dev nD) (t : Fin cfg1.N) (h0 : ¬t.val % 64 = 0) (d) :
    (dat1 V c).before 8 t d = (outsAt1 V c (t.val - 1) (Nat.lt_of_le_of_lt (Nat.sub_le _ _) t.isLt)).2.2 := by
  have hN : t.val < 64 := lt_of_lt_of_eq t.isLt (show cfg1.N = 64 from N_1)
  rw [Dat.before_out_kept _ 8 rfl t (by omega) (Bool.eq_false_iff.mpr fun h => by have := (flush1_8 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl, PhiA1_eq]
  have hN : t.val < 64 := lt_of_lt_of_eq t.isLt (show cfg1.N = 64 from N_1)
  by_cases h0 : t.val % 64 = 0
  · rw [outsAt1_A V c t h0]
    unfold out1_A_6 out1_A_7 out1_A_8; (try dsimp only)
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, ⟨%e6, H6⟩, ⟨%e7, H7⟩, ⟨%e8, H8⟩, ⟨%fT0, HS0⟩⟩
    isplitl [HS0 HR1 Hg]
    · isplitl [HS0 HR1]
      · isplitl [HS0]
        · iexists _; unfold owns; iexists _; isplitr
          swap; · iexact HS0
          ipureintro; rfl
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _ _)
    unfold owns; iexists _; isplitr
    swap; · iexact H8
    ipureintro; exact View.read_writes_of_cover _ _ _ _ _ (cover1_A_8 c _ _ _ _ _ _ _ _ _ _ _ _ _ _ _ _ _ _ _ _ _ _ _ _ _ _ _ _)
  · rw [outsAt1_B V c t h0]
    simp only [before1_8_B V c t h0]
    unfold out1_B_6 out1_B_7 out1_B_8; (try dsimp only)
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    iintro ⟨H0, H1, H2, H3, H4, H5, ⟨%e6, H6⟩, ⟨%e7, H7⟩, ⟨%e8, H8⟩, ⟨%fT0, HS0⟩⟩
    isplitl [HS0 HR1 Hg]
    · isplitl [HS0 HR1]
      · isplitl [HS0]
        · iexists _; unfold owns; iexists _; isplitr
          swap; · iexact HS0
          ipureintro; rfl
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _ _)
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.Region2.lean ====
/- custom call 2's REGION at the entry contents `V` of `proofs.«01_k».proof.KernelIdeal`'s
   frame certificate, which is laid out as several modules: its last, ../Frame.lean, says what each holds.
   Kept by hand in this directory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_branch1` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond2_0 : ∀ t : Fin cfg2.N, cond2_0 (grid2.coords t) ↔ t.val % 64 = 0 :=
  (fun t => by
    have ht : t.val < 64 := Nat.lt_of_lt_of_eq t.isLt N_2
    have e0 : (grid2.coords t 0).val = t.val / 8 % 8 := Pipeline.Grid.coords_val t 0 (by decide) rfl
    have e1 : (grid2.coords t 1).val = t.val / 1 % 8 := Pipeline.Grid.coords_val t 1 (by decide) rfl
    simp only [cond2_0, e0, e1]
    word_cmp
   : ∀ t : Fin grid2.N, cond2_0 (grid2.coords t) ↔ t.val % 64 = 0)

/-! ## The kernel body on any staging memrefs: a subtype the run finds -/

/-- One staging buffer of output window 6, through which its contents are stated (`View.read_writes_of_cover`: the
    choice does not matter). -/
abbrev VO2_6 : View sig .tc .vmem S1x512x2048 .f32 := (Memref.whole cc2_stg6_0 : Memref sig .tc .vmem S1x512x2048 .f32).view
/-- One staging buffer of output window 7, through which its contents are stated (`View.read_writes_of_cover`: the
    choice does not matter). -/
abbrev VO2_7 : View sig .tc .vmem S1x1x512 .f32 := (Memref.whole cc2_stg7_0 : Memref sig .tc .vmem S1x1x512 .f32).view
/-- One staging buffer of output window 8, through which its contents are stated (`View.read_writes_of_cover`: the
    choice does not matter). -/
abbrev VO2_8 : View sig .tc .vmem S1x128 .f32 := (Memref.whole cc2_stg8_0 : Memref sig .tc .vmem S1x128 .f32).view
/-- Each window's current staging memref at point `t`, spelled as the pipeline passes it (`bodyAt2`), and its wholeness. -/
abbrev ms2_0 (t : Fin cfg2.N) : Memref sig .tc .vmem S512x2048 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x5632 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x5632 .i8 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5632x2048 .fp8e4m3 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2048 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512x2048 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The scratch operands: whole scoped buffers of the kernel's own, passed beside the windows. -/
abbrev scM2_0 : Memref sig .tc .vmem S512x5632 .bf16 := Memref.whole cc2_scratch0

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) :
    Σ' (L6 : List (View.Piece (Elt F) S1x512x2048 .f32)), Σ' (L7 : List (View.Piece (Elt F) S1x1x512 .f32)), Σ' (L8 : List (View.Piece (Elt F) S1x128 .f32)), { LT0 : List (View.Piece (Elt F) S512x5632 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LT0)) -∗ K ⟨⟩))
          ⊢ wp frame (wpE (defs₀ (F := F)) Variants.none c none) E (cc2_branch1 i arg2 harg2 arg3 harg3 arg4 harg4 arg5 harg5 arg6 harg6 arg7 harg7 (Memref.whole main_v5_0) (Memref.isWhole_whole _) arg9 harg9 arg10 harg10 arg11 harg11 arg12 harg12) K } := by
  refine ⟨?_, ?_, ?_, ?_, fun E K => ?run⟩
  case run =>
    simp only [cc2_branch1_eq_skeleton]; unfold cc2_branch1_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

/-- Case A's pieces for output 6 tile its block (4 stores of `S1x512x512`, checked by the kernel's evaluation: Lib/Ring.lean `Piece.tiledL`, linear in the pieces, through a loop's `@[irreducible]` trip theorem too), so they cover it. -/
theorem cover2_A_6 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (y : S1x512x2048.Idx) :
    ∃ pc ∈ (kernelRun2_A c i arg2 harg2 arg3 harg3 arg4 harg4 arg5 harg5 arg6 harg6 arg7 harg7 arg9 harg9 arg10 harg10 arg11 harg11 arg12 harg12 hc0 x0 x1 x2 x3 x4 x5).1, y ∈ pc.1.set :=
  View.cover_of_tiledL (kernelRun2_A c i arg2 harg2 arg3 harg3 arg4 harg4 arg5 harg5 arg6 harg6 arg7 harg7 arg9 harg9 arg10 harg10 arg11 harg11 arg12 harg12 hc0 x0 x1 x2 x3 x4 x5).1 S1x512x512.size (by sl_kernel_rfl) y

/-- What case A leaves in output 6's staging buffer: its pieces read back over junk. -/
def out2_A_6 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) : Vec F S1x512x2048 .f32 :=
  VO2_6.read (Elt F) (VO2_6.writes (Elt F) VO2_6.junk (kernelRun2_A c i arg2 harg2 arg3 harg3 arg4 harg4 arg5 harg5 arg6 harg6 arg7 harg7 arg9 harg9 arg10 harg10 arg11 harg11 arg12 harg12 hc0 x0 x1 x2 x3 x4 x5).1)

/-- Case A's pieces for output 7 tile its block (1 store of `S1x1x512`, checked by the kernel's evaluation: Lib/Ring.lean `Piece.tiledL`, linear in the pieces, through a loop's `@[irreducible]` trip theorem too), so they cover it. -/
theorem cover2_A_7 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (y : S1x1x512.Idx) :
    ∃ pc ∈ (kernelRun2_A c i arg2 harg2 arg3 harg3 arg4 harg4 arg5 harg5 arg6 harg6 arg7 harg7 arg9 harg9 arg10 harg10 arg11 harg11 arg12 harg12 hc0 x0 x1 x2 x3 x4 x5).2.1, y ∈ pc.1.set :=
  View.cover_of_tiledL (kernelRun2_A c i arg2 harg2 arg3 harg3 arg4 harg4 arg5 harg5 arg6 harg6 arg7 harg7 arg9 harg9 arg10 harg10 arg11 harg11 arg12 harg12 hc0 x0 x1 x2 x3 x4 x5).2.1 S1x1x512.size (by sl_kernel_rfl) y

/-- What case A leaves in output 7's staging buffer: its pieces read back over junk. -/
def out2_A_7 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) : Vec F S1x1x512 .f32 :=
  VO2_7.read (Elt F) (VO2_7.writes (Elt F) VO2_7.junk (kernelRun2_A c i arg2 harg2 arg3 harg3 arg4 harg4 arg5 harg5 arg6 harg6 arg7 harg7 arg9 harg9 arg10 harg10 arg11 harg11 arg12 harg12 hc0 x0 x1 x2 x3 x4 x5).2.1)

/-- Case A's pieces for output 8 tile its block (2 stores of `S1x128`, checked by the kernel's evaluation: Lib/Ring.lean `Piece.tiledL`, linear in the pieces, through a loop's `@[irreducible]` trip theorem too), so they cover it. -/
theorem cover2_A_8 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (y : S1x128.Idx) :
    ∃ pc ∈ (kernelRun2_A c i arg2 harg2 arg3 harg3 arg4 harg4 arg5 harg5 arg6 harg6 arg7 harg7 arg9 harg9 arg10 harg10 arg11 harg11 arg12 harg12 hc0 x0 x1 x2 x3 x4 x5).2.2.1, y ∈ pc.1.set :=
  View.cover_of_tiledL (kernelRun2_A c i arg2 harg2 arg3 harg3 arg4 harg4 arg5 harg5 arg6 harg6 arg7 harg7 arg9 harg9 arg10 harg10 arg11 harg11 arg12 harg12 hc0 x0 x1 x2 x3 x4 x5).2.2.1 S1x128.size (by sl_kernel_rfl) y

/-- What case A leaves in output 8's staging buffer: its pieces read back over junk. -/
def out2_A_8 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) : Vec F S1x128 .f32 :=
  VO2_8.read (Elt F) (VO2_8.writes (Elt F) VO2_8.junk (kernelRun2_A c i arg2 harg2 arg3 harg3 arg4 harg4 arg5 harg5 arg6 harg6 arg7 harg7 arg9 harg9 arg10 harg10 arg11 harg11 arg12 harg12 hc0 x0 x1 x2 x3 x4 x5).2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 63: 63 of 64), WITH the
    proof that on whole staging memrefs — the inputs' at their contents, the outputs it reads before covering (8) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) :
    Σ' (L6 : List (View.Piece (Elt F) S1x512x2048 .f32)), Σ' (L7 : List (View.Piece (Elt F) S1x1x512 .f32)), Σ' (L8 : List (View.Piece (Elt F) S1x128 .f32)), { LT0 : List (View.Piece (Elt F) S512x5632 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ owns (c : Thread nD τ) arg11 fullShare xo8 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LT0)) -∗ K ⟨⟩))
          ⊢ wp frame (wpE (defs₀ (F := F)) Variants.none c none) E (cc2_branch1 i arg2 harg2 arg3 harg3 arg4 harg4 arg5 harg5 arg6 harg6 arg7 harg7 (Memref.whole main_v5_0) (Memref.isWhole_whole _) arg9 harg9 arg10 harg10 arg11 harg11 arg12 harg12) K } := by
  refine ⟨?_, ?_, ?_, ?_, fun E K => ?run⟩
  case run =>
    simp only [cc2_branch1_eq_skeleton]; unfold cc2_branch1_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

/-- Case B's pieces for output 6 tile its block (4 stores of `S1x512x512`, checked by the kernel's evaluation: Lib/Ring.lean `Piece.tiledL`, linear in the pieces, through a loop's `@[irreducible]` trip theorem too), so they cover it. -/
theorem cover2_B_6 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) (y : S1x512x2048.Idx) :
    ∃ pc ∈ (kernelRun2_B c i arg2 harg2 arg3 harg3 arg4 harg4 arg5 harg5 arg6 harg6 arg7 harg7 arg9 harg9 arg10 harg10 arg11 harg11 arg12 harg12 hc0 x0 x1 x2 x3 x4 x5 xo8).1, y ∈ pc.1.set :=
  View.cover_of_tiledL (kernelRun2_B c i arg2 harg2 arg3 harg3 arg4 harg4 arg5 harg5 arg6 harg6 arg7 harg7 arg9 harg9 arg10 harg10 arg11 harg11 arg12 harg12 hc0 x0 x1 x2 x3 x4 x5 xo8).1 S1x512x512.size (by sl_kernel_rfl) y

/-- What case B leaves in output 6's staging buffer: its pieces read back over junk. -/
def out2_B_6 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) : Vec F S1x512x2048 .f32 :=
  VO2_6.read (Elt F) (VO2_6.writes (Elt F) VO2_6.junk (kernelRun2_B c i arg2 harg2 arg3 harg3 arg4 harg4 arg5 harg5 arg6 harg6 arg7 harg7 arg9 harg9 arg10 harg10 arg11 harg11 arg12 harg12 hc0 x0 x1 x2 x3 x4 x5 xo8).1)

/-- Case B's pieces for output 7 tile its block (1 store of `S1x1x512`, checked by the kernel's evaluation: Lib/Ring.lean `Piece.tiledL`, linear in the pieces, through a loop's `@[irreducible]` trip theorem too), so they cover it. -/
theorem cover2_B_7 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) (y : S1x1x512.Idx) :
    ∃ pc ∈ (kernelRun2_B c i arg2 harg2 arg3 harg3 arg4 harg4 arg5 harg5 arg6 harg6 arg7 harg7 arg9 harg9 arg10 harg10 arg11 harg11 arg12 harg12 hc0 x0 x1 x2 x3 x4 x5 xo8).2.1, y ∈ pc.1.set :=
  View.cover_of_tiledL (kernelRun2_B c i arg2 harg2 arg3 harg3 arg4 harg4 arg5 harg5 arg6 harg6 arg7 harg7 arg9 harg9 arg10 harg10 arg11 harg11 arg12 harg12 hc0 x0 x1 x2 x3 x4 x5 xo8).2.1 S1x1x512.size (by sl_kernel_rfl) y

/-- What case B leaves in output 7's staging buffer: its pieces read back over junk. -/
def out2_B_7 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) : Vec F S1x1x512 .f32 :=
  VO2_7.read (Elt F) (VO2_7.writes (Elt F) VO2_7.junk (kernelRun2_B c i arg2 harg2 arg3 harg3 arg4 harg4 arg5 harg5 arg6 harg6 arg7 harg7 arg9 harg9 arg10 harg10 arg11 harg11 arg12 harg12 hc0 x0 x1 x2 x3 x4 x5 xo8).2.1)

/-- Case B's pieces for output 8 tile its block (1 store of `S1x128`, checked by the kernel's evaluation: Lib/Ring.lean `Piece.tiledL`, linear in the pieces, through a loop's `@[irreducible]` trip theorem too), so they cover it. -/
theorem cover2_B_8 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) (y : S1x128.Idx) :
    ∃ pc ∈ (kernelRun2_B c i arg2 harg2 arg3 harg3 arg4 harg4 arg5 harg5 arg6 harg6 arg7 harg7 arg9 harg9 arg10 harg10 arg11 harg11 arg12 harg12 hc0 x0 x1 x2 x3 x4 x5 xo8).2.2.1, y ∈ pc.1.set :=
  View.cover_of_tiledL (kernelRun2_B c i arg2 harg2 arg3 harg3 arg4 harg4 arg5 harg5 arg6 harg6 arg7 harg7 arg9 harg9 arg10 harg10 arg11 harg11 arg12 harg12 hc0 x0 x1 x2 x3 x4 x5 xo8).2.2.1 S1x128.size (by sl_kernel_rfl) y

/-- What case B leaves in output 8's staging buffer: its pieces read back over junk. -/
def out2_B_8 (c : Dev nD) (i : grid2.Coords) (arg2 : Memref sig .tc .vmem S512x2048 .fp8e4m3) (harg2 : arg2.IsWhole) (arg3 : Memref sig .tc .vmem S512x128 .f32) (harg3 : arg3.IsWhole) (arg4 : Memref sig .tc .vmem S512x5632 .f32) (harg4 : arg4.IsWhole) (arg5 : Memref sig .tc .vmem S2048x5632 .i8) (harg5 : arg5.IsWhole) (arg6 : Memref sig .tc .vmem S5632x2048 .fp8e4m3) (harg6 : arg6.IsWhole) (arg7 : Memref sig .tc .vmem S1x2048 .f32) (harg7 : arg7.IsWhole) (arg9 : Memref sig .tc .vmem S1x512x2048 .f32) (harg9 : arg9.IsWhole) (arg10 : Memref sig .tc .vmem S1x1x512 .f32) (harg10 : arg10.IsWhole) (arg11 : Memref sig .tc .vmem S1x128 .f32) (harg11 : arg11.IsWhole) (arg12 : Memref sig .tc .vmem S512x5632 .bf16) (harg12 : arg12.IsWhole) (hc0 : ¬cond2_0 i)
    (x0 : Vec F S512x2048 .fp8e4m3) (x1 : Vec F S512x128 .f32) (x2 : Vec F S512x5632 .f32) (x3 : Vec F S2048x5632 .i8) (x4 : Vec F S5632x2048 .fp8e4m3) (x5 : Vec F S1x2048 .f32) (xo8 : Vec F S1x128 .f32) : Vec F S1x128 .f32 :=
  VO2_8.read (Elt F) (VO2_8.writes (Elt F) VO2_8.junk (kernelRun2_B c i arg2 harg2 arg3 harg3 arg4 harg4 arg5 harg5 arg6 harg6 arg7 harg7 arg9 harg9 arg10 harg10 arg11 harg11 arg12 harg12 hc0 x0 x1 x2 x3 x4 x5 xo8).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1x512x2048 .f32 × Vec F S1x1x512 .f32 × Vec F S1x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 64 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2)

/-- `outsAt2` at a point of case A: that case's contents. -/
theorem outsAt2_A (c : Dev nD) (t : Fin cfg2.N) (h0 : t.val % 64 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (iblk2 V c 0 t) (iblk2 V c 1 t) (iblk2 V c 2 t) (iblk2 V c 3 t) (iblk2 V c 4 t) (iblk2 V c 5 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 64 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
/-- At a point of case B output 8's current staging buffer holds what the body left at the point before: the point is
    not the first, the buffer was not written back between (`flush2_8`), the window is live and uncut (Lib/Pipeline/Frame.lean
    `Dat.before_out_kept`). -/
theorem before2_8_B (c : Dev nD) (t : Fin cfg2.N) (h0 : ¬t.val % 64 = 0) (d) :
    (dat2 V c).before 8 t d = (outsAt2 V c (t.val - 1) (Nat.lt_of_le_of_lt (Nat.sub_le _ _) t.isLt)).2.2 := by
  have hN : t.val < 64 := lt_of_lt_of_eq t.isLt (show cfg2.N = 64 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 1600000 in
/-- The body at any point: the inputs' memrefs hold their blocks (`before2_W`); the closed forms say which case the point is in (`by_cases`), an output the case reads before covering holds what the point before left (`before2_W_κ`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  rw [show (dat2 V c).Φ t.castSucc = Pipeline.ΦA spec2 c from rfl, PhiA2_eq]
  have hN : t.val < 64 := lt_of_lt_of_eq t.isLt (show cfg2.N = 64 from N_2)
  by_cases h0 : t.val % 64 = 0
  · rw [outsAt2_A V c t h0]
    unfold out2_A_6 out2_A_7 out2_A_8; (try dsimp only)
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, ⟨%e6, H6⟩, ⟨%e7, H7⟩, ⟨%e8, H8⟩, ⟨%fT0, HS0⟩⟩
    isplitl [HS0 HR1 Hg]
    · isplitl [HS0 HR1]
      · isplitl [HS0]
        · iexists _; unfold owns; iexists _; isplitr
          swap; · iexact HS0
          ipureintro; rfl
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _ _ _)
  · rw [outsAt2_B V c t h0]
    simp only [before2_8_B V c t h0]
    unfold out2_B_6 out2_B_7 out2_B_8; (try dsimp only)
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    iintro ⟨H0, H1, H2, H3, H4, H5, ⟨%e6, H6⟩, ⟨%e7, H7⟩, ⟨%e8, H8⟩, ⟨%fT0, HS0⟩⟩
    isplitl [HS0 HR1 Hg]
    · isplitl [HS0 HR1]
      · isplitl [HS0]
        · iexists _; unfold owns; iexists _; isplitr
          swap; · iexact HS0
          ipureintro; rfl
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.Region3.lean ====
/- custom call 3's REGION at the entry contents `V` of `proofs.«01_k».proof.KernelIdeal`'s
   frame certificate, which is laid out as several modules: its last, ../Frame.lean, says what each holds.
   Kept by hand in this directory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_down` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := k3_cond1 i = 1#1
/-- It holds at the points ≡ 0 (mod 8) — by arithmetic of the point. -/
theorem hcond3_0 : ∀ t : Fin cfg3.N, cond3_0 (grid3.coords t) ↔ t.val % 8 = 0 :=
  (fun t => by
    have ht : t.val < 64 := Nat.lt_of_lt_of_eq t.isLt N_3
    have e0 : (grid3.coords t 0).val = t.val / 8 % 8 := Pipeline.Grid.coords_val t 0 (by decide) rfl
    have e1 : (grid3.coords t 1).val = t.val / 1 % 8 := Pipeline.Grid.coords_val t 1 (by decide) rfl
    simp only [cond3_0, k3_cond1, e0, e1]
    word_cmp
   : ∀ t : Fin grid3.N, cond3_0 (grid3.coords t) ↔ t.val % 8 = 0)

/-- The condition of the body's `scf.if` 1 (`k3_h2`), from the grid coordinates (the skeleton's scalar
    chain substituted). -/
abbrev cond3_1 (i : grid3.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond3_1 : ∀ t : Fin cfg3.N, cond3_1 (grid3.coords t) ↔ t.val % 64 = 0 :=
  (fun t => by
    have ht : t.val < 64 := Nat.lt_of_lt_of_eq t.isLt N_3
    have e0 : (grid3.coords t 0).val = t.val / 8 % 8 := Pipeline.Grid.coords_val t 0 (by decide) rfl
    have e1 : (grid3.coords t 1).val = t.val / 1 % 8 := Pipeline.Grid.coords_val t 1 (by decide) rfl
    simp only [cond3_1, e0, e1]
    word_cmp
   : ∀ t : Fin grid3.N, cond3_1 (grid3.coords t) ↔ t.val % 64 = 0)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an output stored at every point, under no condition). -/
theorem liveAt3_5 : ∀ t : Fin cfg3.N, cfg3.idle 5 (grid3.coords t) = false := fun _ => rfl
/-- Window 6 is never idle (an output stored at every point, under no condition). -/
theorem liveAt3_6 : ∀ t : Fin cfg3.N, cfg3.idle 6 (grid3.coords t) = false := fun _ => rfl
/-- Window 7 is never idle (an output stored at every point, under no condition). -/
theorem liveAt3_7 : ∀ t : Fin cfg3.N, cfg3.idle 7 (grid3.coords t) = false := fun _ => rfl
/-- At the points of case A the printed configuration (`Cfg.idle`) calls output 8 live: the case stores into it. -/
theorem liveAt3_8_A : ∀ t : Fin cfg3.N, cond3_0 (grid3.coords t) → cond3_1 (grid3.coords t) → cfg3.idle 8 (grid3.coords t) = false := by decide +kernel
/-- At the points of case B the printed configuration (`Cfg.idle`) calls output 8 idle: the case stores nothing into it. -/
theorem idleAt3_8_B : ∀ t : Fin cfg3.N, ¬cond3_0 (grid3.coords t) → cfg3.idle 8 (grid3.coords t) = true := by decide +kernel
/-- At the points of case C the printed configuration (`Cfg.idle`) calls output 8 live: the case stores into it. -/
theorem liveAt3_8_C : ∀ t : Fin cfg3.N, cond3_0 (grid3.coords t) → ¬cond3_1 (grid3.coords t) → cfg3.idle 8 (grid3.coords t) = false := by decide +kernel

/-! ## The kernel body on any staging memrefs: a subtype the run finds -/

/-- One staging buffer of output window 5, through which its contents are stated (`View.read_writes_of_cover`: the
    choice does not matter). -/
abbrev VO3_5 : View sig .tc .vmem S1x512x2048 .f32 := (Memref.whole cc3_stg5_0 : Memref sig .tc .vmem S1x512x2048 .f32).view
/-- One staging buffer of output window 6, through which its contents are stated (`View.read_writes_of_cover`: the
    choice does not matter). -/
abbrev VO3_6 : View sig .tc .vmem S1x1x512 .f32 := (Memref.whole cc3_stg6_0 : Memref sig .tc .vmem S1x1x512 .f32).view
/-- One staging buffer of output window 7, through which its contents are stated (`View.read_writes_of_cover`: the
    choice does not matter). -/
abbrev VO3_7 : View sig .tc .vmem S1x128 .f32 := (Memref.whole cc3_stg7_0 : Memref sig .tc .vmem S1x128 .f32).view
/-- One staging buffer of output window 8, through which its contents are stated (`View.read_writes_of_cover`: the
    choice does not matter). -/
abbrev VO3_8 : View sig .tc .vmem S512x2048 .bf16 := (Memref.whole cc3_stg8_0 : Memref sig .tc .vmem S512x2048 .bf16).view
/-- Each window's current staging memref at point `t`, spelled as the pipeline passes it (`bodyAt3`), and its wholeness. -/
abbrev ms3_0 (t : Fin cfg3.N) : Memref sig .tc .vmem S512x5632 .fp8e4m3 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5632x2048 .i8 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5632x2048 .fp8e4m3 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x2048 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x512x2048 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1x512 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S512x2048 .bf16 := win3_8.stage (cfg3.slots t 8)
abbrev hs3_8 (t : Fin cfg3.N) : (ms3_8 t).IsWhole := hstage3_8 ((cfg3.slots t 8).cast nbuf3_8)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) :
    Σ' (L5 : List (View.Piece (Elt F) S1x512x2048 .f32)), Σ' (L6 : List (View.Piece (Elt F) S1x1x512 .f32)), Σ' (L7 : List (View.Piece (Elt F) S1x128 .f32)), { L8 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc3_down i arg2 harg2 arg3 harg3 arg4 harg4 arg5 harg5 arg6 harg6 (Memref.whole main_v6_0) (Memref.isWhole_whole _) arg8 harg8 arg9 harg9 arg10 harg10 arg11 harg11) K } := by
  refine ⟨?_, ?_, ?_, ?_, fun E K => ?run⟩
  case run =>
    simp only [cc3_down_eq_skeleton]; unfold cc3_down_skel
    simp only [k3_part2_eq_skeleton, k3_part1_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

/-- Case A's pieces for output 5 tile its block (4 stores of `S1x512x512`, checked by the kernel's evaluation: Lib/Ring.lean `Piece.tiledL`, linear in the pieces, through a loop's `@[irreducible]` trip theorem too), so they cover it. -/
theorem cover3_A_5 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) (y : S1x512x2048.Idx) :
    ∃ pc ∈ (kernelRun3_A c i arg2 harg2 arg3 harg3 arg4 harg4 arg5 harg5 arg6 harg6 arg8 harg8 arg9 harg9 arg10 harg10 arg11 harg11 hc0 hc1 x0 x1 x2 x3 x4).1, y ∈ pc.1.set :=
  View.cover_of_tiledL (kernelRun3_A c i arg2 harg2 arg3 harg3 arg4 harg4 arg5 harg5 arg6 harg6 arg8 harg8 arg9 harg9 arg10 harg10 arg11 harg11 hc0 hc1 x0 x1 x2 x3 x4).1 S1x512x512.size (by sl_kernel_rfl) y

/-- What case A leaves in output 5's staging buffer: its pieces read back over junk. -/
def out3_A_5 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) : Vec F S1x512x2048 .f32 :=
  VO3_5.read (Elt F) (VO3_5.writes (Elt F) VO3_5.junk (kernelRun3_A c i arg2 harg2 arg3 harg3 arg4 harg4 arg5 harg5 arg6 harg6 arg8 harg8 arg9 harg9 arg10 harg10 arg11 harg11 hc0 hc1 x0 x1 x2 x3 x4).1)

/-- Case A's pieces for output 6 tile its block (1 store of `S1x1x512`, checked by the kernel's evaluation: Lib/Ring.lean `Piece.tiledL`, linear in the pieces, through a loop's `@[irreducible]` trip theorem too), so they cover it. -/
theorem cover3_A_6 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) (y : S1x1x512.Idx) :
    ∃ pc ∈ (kernelRun3_A c i arg2 harg2 arg3 harg3 arg4 harg4 arg5 harg5 arg6 harg6 arg8 harg8 arg9 harg9 arg10 harg10 arg11 harg11 hc0 hc1 x0 x1 x2 x3 x4).2.1, y ∈ pc.1.set :=
  View.cover_of_tiledL (kernelRun3_A c i arg2 harg2 arg3 harg3 arg4 harg4 arg5 harg5 arg6 harg6 arg8 harg8 arg9 harg9 arg10 harg10 arg11 harg11 hc0 hc1 x0 x1 x2 x3 x4).2.1 S1x1x512.size (by sl_kernel_rfl) y

/-- What case A leaves in output 6's staging buffer: its pieces read back over junk. -/
def out3_A_6 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) : Vec F S1x1x512 .f32 :=
  VO3_6.read (Elt F) (VO3_6.writes (Elt F) VO3_6.junk (kernelRun3_A c i arg2 harg2 arg3 harg3 arg4 harg4 arg5 harg5 arg6 harg6 arg8 harg8 arg9 harg9 arg10 harg10 arg11 harg11 hc0 hc1 x0 x1 x2 x3 x4).2.1)

/-- Case A's pieces for output 7 tile its block (2 stores of `S1x128`, checked by the kernel's evaluation: Lib/Ring.lean `Piece.tiledL`, linear in the pieces, through a loop's `@[irreducible]` trip theorem too), so they cover it. -/
theorem cover3_A_7 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) (y : S1x128.Idx) :
    ∃ pc ∈ (kernelRun3_A c i arg2 harg2 arg3 harg3 arg4 harg4 arg5 harg5 arg6 harg6 arg8 harg8 arg9 harg9 arg10 harg10 arg11 harg11 hc0 hc1 x0 x1 x2 x3 x4).2.2.1, y ∈ pc.1.set :=
  View.cover_of_tiledL (kernelRun3_A c i arg2 harg2 arg3 harg3 arg4 harg4 arg5 harg5 arg6 harg6 arg8 harg8 arg9 harg9 arg10 harg10 arg11 harg11 hc0 hc1 x0 x1 x2 x3 x4).2.2.1 S1x128.size (by sl_kernel_rfl) y

/-- What case A leaves in output 7's staging buffer: its pieces read back over junk. -/
def out3_A_7 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) : Vec F S1x128 .f32 :=
  VO3_7.read (Elt F) (VO3_7.writes (Elt F) VO3_7.junk (kernelRun3_A c i arg2 harg2 arg3 harg3 arg4 harg4 arg5 harg5 arg6 harg6 arg8 harg8 arg9 harg9 arg10 harg10 arg11 harg11 hc0 hc1 x0 x1 x2 x3 x4).2.2.1)

/-- Case A's pieces for output 8 tile its block (4 stores of `S512x512`, checked by the kernel's evaluation: Lib/Ring.lean `Piece.tiledL`, linear in the pieces, through a loop's `@[irreducible]` trip theorem too), so they cover it. -/
theorem cover3_A_8 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) (y : S512x2048.Idx) :
    ∃ pc ∈ (kernelRun3_A c i arg2 harg2 arg3 harg3 arg4 harg4 arg5 harg5 arg6 harg6 arg8 harg8 arg9 harg9 arg10 harg10 arg11 harg11 hc0 hc1 x0 x1 x2 x3 x4).2.2.2.1, y ∈ pc.1.set :=
  View.cover_of_tiledL (kernelRun3_A c i arg2 harg2 arg3 harg3 arg4 harg4 arg5 harg5 arg6 harg6 arg8 harg8 arg9 harg9 arg10 harg10 arg11 harg11 hc0 hc1 x0 x1 x2 x3 x4).2.2.2.1 S512x512.size (by sl_kernel_rfl) y

/-- What case A leaves in output 8's staging buffer: its pieces read back over junk. -/
def out3_A_8 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : cond3_1 i)
    (x0 : Vec F S512x5632 .fp8e4m3) (x1 : Vec F S512x128 .f32) (x2 : Vec F S5632x2048 .i8) (x3 : Vec F S5632x2048 .fp8e4m3) (x4 : Vec F S1x2048 .f32) : Vec F S512x2048 .bf16 :=
  VO3_8.read (Elt F) (VO3_8.writes (Elt F) VO3_8.junk (kernelRun3_A c i arg2 harg2 arg3 harg3 arg4 harg4 arg5 harg5 arg6 harg6 arg8 harg8 arg9 harg9 arg10 harg10 arg11 harg11 hc0 hc1 x0 x1 x2 x3 x4).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 63: 56 of 64), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) :
    Σ' (L5 : List (View.Piece (Elt F) S1x512x2048 .f32)), Σ' (L6 : List (View.Piece (Elt F) S1x1x512 .f32)), { L7 : List (View.Piece (Elt F) S1x128 .f32) //
      ∀ (E : Set ℕ) (K : PUnit → sProp 𝕄) (x8 : Vec F S512x2048 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ owns (c : Thread nD τ) arg10 fullShare xo7 ∗ owns (c : Thread nD τ) arg11 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare x8) -∗ K ⟨⟩))
          ⊢ wp frame (wpE (defs₀ (F := F)) Variants.none c none) E (cc3_down i arg2 harg2 arg3 harg3 arg4 harg4 arg5 harg5 arg6 harg6 (Memref.whole main_v6_0) (Memref.isWhole_whole _) arg8 harg8 arg9 harg9 arg10 harg10 arg11 harg11) K } := by
  refine ⟨?_, ?_, ?_, fun E K x8 => ?run⟩
  case run =>
    simp only [cc3_down_eq_skeleton]; unfold cc3_down_skel
    simp only [k3_part2_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact hf8
    iexact H8

/-- Case B's pieces for output 5 tile its block (4 stores of `S1x512x512`, checked by the kernel's evaluation: Lib/Ring.lean `Piece.tiledL`, linear in the pieces, through a loop's `@[irreducible]` trip theorem too), so they cover it. -/
theorem cover3_B_5 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S1x512x2048.Idx) :
    ∃ pc ∈ (kernelRun3_B c i arg2 harg2 arg3 harg3 arg4 harg4 arg5 harg5 arg6 harg6 arg8 harg8 arg9 harg9 arg10 harg10 arg11 harg11 hc0 hc1 x0 x1 x2 x3 x4 xo7).1, y ∈ pc.1.set :=
  View.cover_of_tiledL (kernelRun3_B c i arg2 harg2 arg3 harg3 arg4 harg4 arg5 harg5 arg6 harg6 arg8 harg8 arg9 harg9 arg10 harg10 arg11 harg11 hc0 hc1 x0 x1 x2 x3 x4 xo7).1 S1x512x512.size (by sl_kernel_rfl) y

/-- What case B leaves in output 5's staging buffer: its pieces read back over junk. -/
def out3_B_5 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S1x512x2048 .f32 :=
  VO3_5.read (Elt F) (VO3_5.writes (Elt F) VO3_5.junk (kernelRun3_B c i arg2 harg2 arg3 harg3 arg4 harg4 arg5 harg5 arg6 harg6 arg8 harg8 arg9 harg9 arg10 harg10 arg11 harg11 hc0 hc1 x0 x1 x2 x3 x4 xo7).1)

/-- Case B's pieces for output 6 tile its block (1 store of `S1x1x512`, checked by the kernel's evaluation: Lib/Ring.lean `Piece.tiledL`, linear in the pieces, through a loop's `@[irreducible]` trip theorem too), so they cover it. -/
theorem cover3_B_6 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S1x1x512.Idx) :
    ∃ pc ∈ (kernelRun3_B c i arg2 harg2 arg3 harg3 arg4 harg4 arg5 harg5 arg6 harg6 arg8 harg8 arg9 harg9 arg10 harg10 arg11 harg11 hc0 hc1 x0 x1 x2 x3 x4 xo7).2.1, y ∈ pc.1.set :=
  View.cover_of_tiledL (kernelRun3_B c i arg2 harg2 arg3 harg3 arg4 harg4 arg5 harg5 arg6 harg6 arg8 harg8 arg9 harg9 arg10 harg10 arg11 harg11 hc0 hc1 x0 x1 x2 x3 x4 xo7).2.1 S1x1x512.size (by sl_kernel_rfl) y

/-- What case B leaves in output 6's staging buffer: its pieces read back over junk. -/
def out3_B_6 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S1x1x512 .f32 :=
  VO3_6.read (Elt F) (VO3_6.writes (Elt F) VO3_6.junk (kernelRun3_B c i arg2 harg2 arg3 harg3 arg4 harg4 arg5 harg5 arg6 harg6 arg8 harg8 arg9 harg9 arg10 harg10 arg11 harg11 hc0 hc1 x0 x1 x2 x3 x4 xo7).2.1)

/-- Case B's pieces for output 7 tile its block (1 store of `S1x128`, checked by the kernel's evaluation: Lib/Ring.lean `Piece.tiledL`, linear in the pieces, through a loop's `@[irreducible]` trip theorem too), so they cover it. -/
theorem cover3_B_7 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S1x128.Idx) :
    ∃ pc ∈ (kernelRun3_B c i arg2 harg2 arg3 harg3 arg4 harg4 arg5 harg5 arg6 harg6 arg8 harg8 arg9 harg9 arg10 harg10 arg11 harg11 hc0 hc1 x0 x1 x2 x3 x4 xo7).2.2.1, y ∈ pc.1.set :=
  View.cover_of_tiledL (kernelRun3_B c i arg2 harg2 arg3 harg3 arg4 harg4 arg5 harg5 arg6 harg6 arg8 harg8 arg9 harg9 arg10 harg10 arg11 harg11 hc0 hc1 x0 x1 x2 x3 x4 xo7).2.2.1 S1x128.size (by sl_kernel_rfl) y

/-- What case B leaves in output 7's staging buffer: its pieces read back over junk. -/
def out3_B_7 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : ¬cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S1x128 .f32 :=
  VO3_7.read (Elt F) (VO3_7.writes (Elt F) VO3_7.junk (kernelRun3_B c i arg2 harg2 arg3 harg3 arg4 harg4 arg5 harg5 arg6 harg6 arg8 harg8 arg9 harg9 arg10 harg10 arg11 harg11 hc0 hc1 x0 x1 x2 x3 x4 xo7).2.2.1)

-- (the run's proof term is large: the definition's epilogue — `abstractNestedProofs` — walks it past the default budget)
set_option maxHeartbeats 1000000 in
/-- What the body's stores leave in each output's staging memref, as pieces (last first) IN CASE C (`scf.if` 0 taken, `scf.if` 1 not taken: points 8, 16, … 56: 7 of 64), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) :
    Σ' (L5 : List (View.Piece (Elt F) S1x512x2048 .f32)), Σ' (L6 : List (View.Piece (Elt F) S1x1x512 .f32)), Σ' (L7 : List (View.Piece (Elt F) S1x128 .f32)), { L8 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ owns (c : Thread nD τ) arg10 fullShare xo7 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc3_down i arg2 harg2 arg3 harg3 arg4 harg4 arg5 harg5 arg6 harg6 (Memref.whole main_v6_0) (Memref.isWhole_whole _) arg8 harg8 arg9 harg9 arg10 harg10 arg11 harg11) K } := by
  refine ⟨?_, ?_, ?_, ?_, fun E K => ?run⟩
  case run =>
    simp only [cc3_down_eq_skeleton]; unfold cc3_down_skel
    simp only [k3_part2_eq_skeleton, k3_part1_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

/-- Case C's pieces for output 5 tile its block (4 stores of `S1x512x512`, checked by the kernel's evaluation: Lib/Ring.lean `Piece.tiledL`, linear in the pieces, through a loop's `@[irreducible]` trip theorem too), so they cover it. -/
theorem cover3_C_5 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S1x512x2048.Idx) :
    ∃ pc ∈ (kernelRun3_C c i arg2 harg2 arg3 harg3 arg4 harg4 arg5 harg5 arg6 harg6 arg8 harg8 arg9 harg9 arg10 harg10 arg11 harg11 hc0 hc1 x0 x1 x2 x3 x4 xo7).1, y ∈ pc.1.set :=
  View.cover_of_tiledL (kernelRun3_C c i arg2 harg2 arg3 harg3 arg4 harg4 arg5 harg5 arg6 harg6 arg8 harg8 arg9 harg9 arg10 harg10 arg11 harg11 hc0 hc1 x0 x1 x2 x3 x4 xo7).1 S1x512x512.size (by sl_kernel_rfl) y

/-- What case C leaves in output 5's staging buffer: its pieces read back over junk. -/
def out3_C_5 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S1x512x2048 .f32 :=
  VO3_5.read (Elt F) (VO3_5.writes (Elt F) VO3_5.junk (kernelRun3_C c i arg2 harg2 arg3 harg3 arg4 harg4 arg5 harg5 arg6 harg6 arg8 harg8 arg9 harg9 arg10 harg10 arg11 harg11 hc0 hc1 x0 x1 x2 x3 x4 xo7).1)

/-- Case C's pieces for output 6 tile its block (1 store of `S1x1x512`, checked by the kernel's evaluation: Lib/Ring.lean `Piece.tiledL`, linear in the pieces, through a loop's `@[irreducible]` trip theorem too), so they cover it. -/
theorem cover3_C_6 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S1x1x512.Idx) :
    ∃ pc ∈ (kernelRun3_C c i arg2 harg2 arg3 harg3 arg4 harg4 arg5 harg5 arg6 harg6 arg8 harg8 arg9 harg9 arg10 harg10 arg11 harg11 hc0 hc1 x0 x1 x2 x3 x4 xo7).2.1, y ∈ pc.1.set :=
  View.cover_of_tiledL (kernelRun3_C c i arg2 harg2 arg3 harg3 arg4 harg4 arg5 harg5 arg6 harg6 arg8 harg8 arg9 harg9 arg10 harg10 arg11 harg11 hc0 hc1 x0 x1 x2 x3 x4 xo7).2.1 S1x1x512.size (by sl_kernel_rfl) y

/-- What case C leaves in output 6's staging buffer: its pieces read back over junk. -/
def out3_C_6 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S1x1x512 .f32 :=
  VO3_6.read (Elt F) (VO3_6.writes (Elt F) VO3_6.junk (kernelRun3_C c i arg2 harg2 arg3 harg3 arg4 harg4 arg5 harg5 arg6 harg6 arg8 harg8 arg9 harg9 arg10 harg10 arg11 harg11 hc0 hc1 x0 x1 x2 x3 x4 xo7).2.1)

/-- Case C's pieces for output 7 tile its block (1 store of `S1x128`, checked by the kernel's evaluation: Lib/Ring.lean `Piece.tiledL`, linear in the pieces, through a loop's `@[irreducible]` trip theorem too), so they cover it. -/
theorem cover3_C_7 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S1x128.Idx) :
    ∃ pc ∈ (kernelRun3_C c i arg2 harg2 arg3 harg3 arg4 harg4 arg5 harg5 arg6 harg6 arg8 harg8 arg9 harg9 arg10 harg10 arg11 harg11 hc0 hc1 x0 x1 x2 x3 x4 xo7).2.2.1, y ∈ pc.1.set :=
  View.cover_of_tiledL (kernelRun3_C c i arg2 harg2 arg3 harg3 arg4 harg4 arg5 harg5 arg6 harg6 arg8 harg8 arg9 harg9 arg10 harg10 arg11 harg11 hc0 hc1 x0 x1 x2 x3 x4 xo7).2.2.1 S1x128.size (by sl_kernel_rfl) y

/-- What case C leaves in output 7's staging buffer: its pieces read back over junk. -/
def out3_C_7 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S1x128 .f32 :=
  VO3_7.read (Elt F) (VO3_7.writes (Elt F) VO3_7.junk (kernelRun3_C c i arg2 harg2 arg3 harg3 arg4 harg4 arg5 harg5 arg6 harg6 arg8 harg8 arg9 harg9 arg10 harg10 arg11 harg11 hc0 hc1 x0 x1 x2 x3 x4 xo7).2.2.1)

/-- Case C's pieces for output 8 tile its block (4 stores of `S512x512`, checked by the kernel's evaluation: Lib/Ring.lean `Piece.tiledL`, linear in the pieces, through a loop's `@[irreducible]` trip theorem too), so they cover it. -/
theorem cover3_C_8 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) (y : S512x2048.Idx) :
    ∃ pc ∈ (kernelRun3_C c i arg2 harg2 arg3 harg3 arg4 harg4 arg5 harg5 arg6 harg6 arg8 harg8 arg9 harg9 arg10 harg10 arg11 harg11 hc0 hc1 x0 x1 x2 x3 x4 xo7).2.2.2.1, y ∈ pc.1.set :=
  View.cover_of_tiledL (kernelRun3_C c i arg2 harg2 arg3 harg3 arg4 harg4 arg5 harg5 arg6 harg6 arg8 harg8 arg9 harg9 arg10 harg10 arg11 harg11 hc0 hc1 x0 x1 x2 x3 x4 xo7).2.2.2.1 S512x512.size (by sl_kernel_rfl) y

/-- What case C leaves in output 8's staging buffer: its pieces read back over junk. -/
def out3_C_8 (c : Dev nD) (i : grid3.Coords) (arg2 : Memref sig .tc .vmem S512x5632 .fp8e4m3) (harg2 : arg2.IsWhole) (arg3 : Memref sig .tc .vmem S512x128 .f32) (harg3 : arg3.IsWhole) (arg4 : Memref sig .tc .vmem S5632x2048 .i8) (harg4 : arg4.IsWhole) (arg5 : Memref sig .tc .vmem S5632x2048 .fp8e4m3) (harg5 : arg5.IsWhole) (arg6 : Memref sig .tc .vmem S1x2048 .f32) (harg6 : arg6.IsWhole) (arg8 : Memref sig .tc .vmem S1x512x2048 .f32) (harg8 : arg8.IsWhole) (arg9 : Memref sig .tc .vmem S1x1x512 .f32) (harg9 : arg9.IsWhole) (arg10 : Memref sig .tc .vmem S1x128 .f32) (harg10 : arg10.IsWhole) (arg11 : Memref sig .tc .vmem S512x2048 .bf16) (harg11 : arg11.IsWhole) (hc0 : cond3_0 i) (hc1 : ¬cond3_1 i)
    (x0 : Vec F S512x5632 .fp8e4m3) (x1 : Vec F S512x128 .f32) (x2 : Vec F S5632x2048 .i8) (x3 : Vec F S5632x2048 .fp8e4m3) (x4 : Vec F S1x2048 .f32) (xo7 : Vec F S1x128 .f32) : Vec F S512x2048 .bf16 :=
  VO3_8.read (Elt F) (VO3_8.writes (Elt F) VO3_8.junk (kernelRun3_C c i arg2 harg2 arg3 harg3 arg4 harg4 arg5 harg5 arg6 harg6 arg8 harg8 arg9 harg9 arg10 harg10 arg11 harg11 hc0 hc1 x0 x1 x2 x3 x4 xo7).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1x512x2048 .f32 × Vec F S1x1x512 .f32 × Vec F S1x128 .f32 × Vec F S512x2048 .bf16
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) ((hcond3_0 ⟨0, hn⟩).mpr (Nat.zero_mod _)) ((hcond3_1 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) ((hcond3_0 ⟨0, hn⟩).mpr (Nat.zero_mod _)) ((hcond3_1 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) ((hcond3_0 ⟨0, hn⟩).mpr (Nat.zero_mod _)) ((hcond3_1 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩), out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) ((hcond3_0 ⟨0, hn⟩).mpr (Nat.zero_mod _)) ((hcond3_1 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 8 = 0 then
      if h2 : (n + 1) % 64 = 0 then
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) ((hcond3_1 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) ((hcond3_1 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) ((hcond3_1 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) ((hcond3_1 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
      else
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1)
    else
      if h2 : (n + 1) % 64 = 0 then
        False.elim (by have hN : n + 1 < 64 := lt_of_lt_of_eq hn (show cfg3.N = 64 from N_3); omega)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (fun h => h0 ((hcond3_0 ⟨n + 1, hn⟩).mp h)) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (fun h => h0 ((hcond3_0 ⟨n + 1, hn⟩).mp h)) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (fun h => h0 ((hcond3_0 ⟨n + 1, hn⟩).mp h)) (fun h => h2 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.1, (outsAt3 c n (Nat.lt_of_succ_lt hn)).2.2.2)

/-- `outsAt3` at a point of case A: that case's contents. -/
theorem outsAt3_A (c : Dev nD) (t : Fin cfg3.N) (h0 : t.val % 8 = 0) (h2 : t.val % 64 = 0) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) ((hcond3_1 t).mpr h2) (iblk3 V c 0 t) (iblk3 V c 1 t) (iblk3 V c 2 t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) ((hcond3_1 t).mpr h2) (iblk3 V c 0 t) (iblk3 V c 1 t) (iblk3 V c 2 t) (iblk3 V c 3 t) (iblk3 V c 4 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) ((hcond3_1 t).mpr h2) (iblk3 V c 0 t) (iblk3 V c 1 t) (iblk3 V c 2 t) (iblk3 V c 3 t) (iblk3 V c 4 t), out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) ((hcond3_1 t).mpr h2) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_pos h2).trans rfl)

/-- `outsAt3` at a point of case B: that case's contents, over what the point before left. -/
theorem outsAt3_B (c : Dev nD) (t : Fin cfg3.N) (h0 : ¬t.val % 8 = 0) (h2 : ¬t.val % 64 = 0) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1, (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h2).trans rfl)

/-- `outsAt3` at a point of case C: that case's contents, over what the point before left. -/
theorem outsAt3_C (c : Dev nD) (t : Fin cfg3.N) (h0 : t.val % 8 = 0) (h2 : ¬t.val % 64 = 0) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (fun h => h2 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.1) := by
  obtain ⟨n, hn⟩ := t
  cases n with
  | zero => exact (by exfalso; (try dsimp only at h2); exact absurd (Nat.zero_mod _) h2)
  | succ n => exact (dif_pos h0).trans ((dif_neg h2).trans rfl)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2.1
    | ⟨8, _⟩ => (outsAt3 V c t.val t.isLt).2.2.2
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2.1 := by dsimp only [dat3]
theorem after3_8 (c : Dev nD) (t : Fin cfg3.N) : (dat3 V c).after 8 t = (outsAt3 V c t.val t.isLt).2.2.2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
/-- At a point of case B output 7's current staging buffer holds what the body left at the point before: the point is
    not the first, the buffer was not written back between (`flush3_7`), the window is live and uncut (Lib/Pipeline/Frame.lean
    `Dat.before_out_kept`). -/
theorem before3_7_B (c : Dev nD) (t : Fin cfg3.N) (h0 : ¬t.val % 8 = 0) (h2 : ¬t.val % 64 = 0) (d) :
    (dat3 V c).before 7 t d = (outsAt3 V c (t.val - 1) (Nat.lt_of_le_of_lt (Nat.sub_le _ _) t.isLt)).2.2.1 := by
  have hN : t.val < 64 := lt_of_lt_of_eq t.isLt (show cfg3.N = 64 from N_3)
  rw [Dat.before_out_kept _ 7 rfl t (by omega) (Bool.eq_false_iff.mpr fun h => by have := (flush3_7 _).mp h; dsimp only at this; omega)
    (fun _ => rfl) (fun _ _ => rfl)]
  dsimp only [dat3]
/-- At a point of case C output 7's current staging buffer holds what the body left at the point before: the point is
    not the first, the buffer was not written back between (`flush3_7`), the window is live and uncut (Lib/Pipeline/Frame.lean
    `Dat.before_out_kept`). -/
theorem before3_7_C (c : Dev nD) (t : Fin cfg3.N) (h0 : t.val % 8 = 0) (h2 : ¬t.val % 64 = 0) (d) :
    (dat3 V c).before 7 t d = (outsAt3 V c (t.val - 1) (Nat.lt_of_le_of_lt (Nat.sub_le _ _) t.isLt)).2.2.1 := by
  have hN : t.val < 64 := lt_of_lt_of_eq t.isLt (show cfg3.N = 64 from N_3)
  rw [Dat.before_out_kept _ 7 rfl t (by omega) (Bool.eq_false_iff.mpr fun h => by have := (flush3_7 _).mp h; dsimp only at this; omega)
    (fun _ => rfl) (fun _ _ => rfl)]
  dsimp only [dat3]

/-- At a point of case B output 8's current staging buffer holds what the point before is said to leave: the buffer was
    not written back between (`flush3_8`), and the point before either stored it (case A or C) or found it so (case B, where
    the window is idle) — by induction on the point. -/
theorem before3_8_B (c : Dev nD) (d) : ∀ (n : ℕ) (hn : n < cfg3.N) (h0 : ¬n % 8 = 0),
    (dat3 V c).before 8 ⟨n, hn⟩ d = (outsAt3 V c (n - 1) (Nat.lt_of_le_of_lt (Nat.sub_le _ _) hn)).2.2.2
  | 0, _, h0 => absurd (Nat.zero_mod _) h0
  | n + 1, hn, h0 => by
    have hN : n + 1 < 64 := lt_of_lt_of_eq hn (show cfg3.N = 64 from N_3)
    rw [Dat.before_of_pos _ 8 ⟨n + 1, hn⟩ (by simp) rfl,
      if_neg fun h => by have := (flush3_8 _).mp h; dsimp only at this; omega]
    by_cases h : n % 8 = 0
    · have hl : cfg3.idle 8 (grid3.coords ⟨n, Nat.lt_of_succ_lt hn⟩) = false := by
        by_cases h2 : n % 64 = 0
        · exact liveAt3_8_A _ ((hcond3_0 _).mpr h) ((hcond3_1 _).mpr h2)
        · exact liveAt3_8_C _ ((hcond3_0 _).mpr h) fun h' => h2 ((hcond3_1 _).mp h')
      unfold Dat.left
      rw [show cfg3.idle 8 (cfg3.grid.coords ⟨n + 1 - 1, _⟩) = false from hl]
      rfl
    · have hi := idleAt3_8_B ⟨n, Nat.lt_of_succ_lt hn⟩ fun h' => h ((hcond3_0 _).mp h')
      unfold Dat.left
      rw [show cfg3.idle 8 (cfg3.grid.coords ⟨n + 1 - 1, _⟩) = true from hi]
      have e := before3_8_B c d n (Nat.lt_of_succ_lt hn) h
      have e' := outsAt3_B V c ⟨n, Nat.lt_of_succ_lt hn⟩ h (by dsimp only; omega)
      exact e.trans (congrArg (fun x => x.2.2.2) e').symm

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 2400000 in
/-- The body at any point: the inputs' memrefs hold their blocks (`before3_W`); the closed forms say which case the point is in (`by_cases`), an output the case reads before covering holds what the point before left (`before3_W_κ`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl]
  have hN : t.val < 64 := lt_of_lt_of_eq t.isLt (show cfg3.N = 64 from N_3)
  by_cases h0 : t.val % 8 = 0
  · by_cases h2 : t.val % 64 = 0
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [show (dat3 V c).leavesExact 4 t = owns (c : Thread nD τ) (ms3_4 t) fullShare ((dat3 V c).after 4 t) from by
            unfold Dat.leavesExact; rw [liveAt3_4 t], after3_4]
      rw [show (dat3 V c).leavesExact 5 t = owns (c : Thread nD τ) (ms3_5 t) fullShare ((dat3 V c).after 5 t) from by
            unfold Dat.leavesExact; rw [liveAt3_5 t], after3_5]
      rw [show (dat3 V c).leavesExact 6 t = owns (c : Thread nD τ) (ms3_6 t) fullShare ((dat3 V c).after 6 t) from by
            unfold Dat.leavesExact; rw [liveAt3_6 t], after3_6]
      rw [show (dat3 V c).leavesExact 7 t = owns (c : Thread nD τ) (ms3_7 t) fullShare ((dat3 V c).after 7 t) from by
            unfold Dat.leavesExact; rw [liveAt3_7 t], after3_7]
      rw [show (dat3 V c).leavesExact 8 t = owns (c : Thread nD τ) (ms3_8 t) fullShare ((dat3 V c).after 8 t) from by
            unfold Dat.leavesExact; rw [liveAt3_8_A t ((hcond3_0 t).mpr h0) ((hcond3_1 t).mpr h2)], after3_8]
      rw [outsAt3_A V c t h0 h2]
      unfold out3_A_5 out3_A_6 out3_A_7 out3_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_A c (grid3.coords t) _ _ _ _ _ _ _ _ _ _ _ _ _ _ _ _ _ _ ((hcond3_0 t).mpr h0) ((hcond3_1 t).mpr h2) (iblk3 V c 0 t) (iblk3 V c 1 t) (iblk3 V c 2 t) (iblk3 V c 3 t) (iblk3 V c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      iintro ⟨H0, H1, H2, H3, H4, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover3_A_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover3_A_7 c _ _ _ _ _ _ _ _ _ _ _ _ _ _ _ _ _ _ _ _ _ _ _ _ _ _)
      unfold owns; iexists _; isplitr
      swap; · iexact H8
      ipureintro; exact View.read_writes_of_cover _ _ _ _ _ (cover3_A_8 c _ _ _ _ _ _ _ _ _ _ _ _ _ _ _ _ _ _ _ _ _ _ _ _ _ _)
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [show (dat3 V c).leavesExact 4 t = owns (c : Thread nD τ) (ms3_4 t) fullShare ((dat3 V c).after 4 t) from by
            unfold Dat.leavesExact; rw [liveAt3_4 t], after3_4]
      rw [show (dat3 V c).leavesExact 5 t = owns (c : Thread nD τ) (ms3_5 t) fullShare ((dat3 V c).after 5 t) from by
            unfold Dat.leavesExact; rw [liveAt3_5 t], after3_5]
      rw [show (dat3 V c).leavesExact 6 t = owns (c : Thread nD τ) (ms3_6 t) fullShare ((dat3 V c).after 6 t) from by
            unfold Dat.leavesExact; rw [liveAt3_6 t], after3_6]
      rw [show (dat3 V c).leavesExact 7 t = owns (c : Thread nD τ) (ms3_7 t) fullShare ((dat3 V c).after 7 t) from by
            unfold Dat.leavesExact; rw [liveAt3_7 t], after3_7]
      rw [show (dat3 V c).leavesExact 8 t = owns (c : Thread nD τ) (ms3_8 t) fullShare ((dat3 V c).after 8 t) from by
            unfold Dat.leavesExact; rw [liveAt3_8_C t ((hcond3_0 t).mpr h0) (fun h => h2 ((hcond3_1 t).mp h))], after3_8]
      rw [outsAt3_C V c t h0 h2]
      simp only [before3_7_C V c t h0 h2]
      unfold out3_C_5 out3_C_6 out3_C_7 out3_C_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_C c (grid3.coords t) _ _ _ _ _ _ _ _ _ _ _ _ _ _ _ _ _ _ ((hcond3_0 t).mpr h0) (fun h => h2 ((hcond3_1 t).mp h)) (iblk3 V c 0 t) (iblk3 V c 1 t) (iblk3 V c 2 t) (iblk3 V c 3 t) (iblk3 V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexists _; iexact H8
      iintro ⟨H0, H1, H2, H3, H4, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover3_C_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover3_C_7 c _ _ _ _ _ _ _ _ _ _ _ _ _ _ _ _ _ _ _ _ _ _ _ _ _ _ _)
      unfold owns; iexists _; isplitr
      swap; · iexact H8
      ipureintro; exact View.read_writes_of_cover _ _ _ _ _ (cover3_C_8 c _ _ _ _ _ _ _ _ _ _ _ _ _ _ _ _ _ _ _ _ _ _ _ _ _ _ _)
  · by_cases h2 : t.val % 64 = 0
    · exfalso; omega
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [show (dat3 V c).leavesExact 4 t = owns (c : Thread nD τ) (ms3_4 t) fullShare ((dat3 V c).after 4 t) from by
            unfold Dat.leavesExact; rw [liveAt3_4 t], after3_4]
      rw [show (dat3 V c).leavesExact 5 t = owns (c : Thread nD τ) (ms3_5 t) fullShare ((dat3 V c).after 5 t) from by
            unfold Dat.leavesExact; rw [liveAt3_5 t], after3_5]
      rw [show (dat3 V c).leavesExact 6 t = owns (c : Thread nD τ) (ms3_6 t) fullShare ((dat3 V c).after 6 t) from by
            unfold Dat.leavesExact; rw [liveAt3_6 t], after3_6]
      rw [show (dat3 V c).leavesExact 7 t = owns (c : Thread nD τ) (ms3_7 t) fullShare ((dat3 V c).after 7 t) from by
            unfold Dat.leavesExact; rw [liveAt3_7 t], after3_7]
      have e8 : ∀ d, (dat3 V c).before 8 t d = (outsAt3 V c (t.val - 1) (Nat.lt_of_le_of_lt (Nat.sub_le _ _) t.isLt)).2.2.2 :=
        fun d => before3_8_B V c d t.val t.isLt h0
      have l8 : owns (c : Thread nD τ) (ms3_8 t) fullShare (outsAt3 V c (t.val - 1) (Nat.lt_of_le_of_lt (Nat.sub_le _ _) t.isLt)).2.2.2
          ⊢ ((dat3 V c).leavesExact 8 t : sProp 𝕄) := by
        have hi := idleAt3_8_B t fun h => h0 ((hcond3_0 t).mp h)
        cases hf : (cfg3.win 8).flush t with
        | false =>
          rw [Dat.leavesExact_idle _ 8 t hi hf]
          simp only [e8]
          iintro H; iexists default; iexact H
        | true =>
          rw [show (dat3 V c).leavesExact 8 t = owns (c : Thread nD τ) (ms3_8 t) fullShare ((dat3 V c).after 8 t) from by
            unfold Dat.leavesExact; rw [hi, hf], after3_8, outsAt3_B V c t h0 h2]
      simp only [e8]
      rw [outsAt3_B V c t h0 h2]
      simp only [before3_7_B V c t h0 h2]
      unfold out3_B_5 out3_B_6 out3_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_B c (grid3.coords t) _ _ _ _ _ _ _ _ _ _ _ _ _ _ _ _ _ _ (fun h => h0 ((hcond3_0 t).mp h)) (fun h => h2 ((hcond3_1 t).mp h)) (iblk3 V c 0 t) (iblk3 V c 1 t) (iblk3 V c 2 t) (iblk3 V c 3 t) (iblk3 V c 4 t) _).2.2.2 Set.univ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      iintro ⟨H0, H1, H2, H3, H4, ⟨%e5, H5⟩, ⟨%e6, H6⟩, ⟨%e7, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_B_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover3_B_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover3_B_7 c _ _ _ _ _ _ _ _ _ _ _ _ _ _ _ _ _ _ _ _ _ _ _ _ _ _ _)
      iapply l8; iexact H8

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Frame.Hosts0.lean ====
/- `Gen.argRefs` and group 0 of the HOST STRETCHES' facts of `proofs.«01_k».proof.KernelIdeal`'s
   frame certificate, which is laid out as several modules: its last, ../Frame.lean, says what each holds.
   Kept by hand in this directory. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6_0]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v7_0]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v8, main_v9, main_v10, main_v11, main_v12, main_v13, main_cst, main_v14, main_cst_0, main_v15, main_v16, main_v17, main_v18, main_v19, main_v20, main_v21, main_v22, main_v23, main_v24, main_v25, main_v26]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Gen

end
-- ==== Proof.Frame.Fold0.lean ====
/- part 0 of the BUFFER CONTENTS at the segment boundaries of `proofs.«01_k».proof.KernelIdeal`'s
   frame certificate, which is laid out as several modules: its last, ../Frame.lean, says what each holds.
   Kept by hand in this directory. -/
module

public import proofs.«01_k».proof.Proof.Frame.Region0
public import proofs.«01_k».proof.Proof.Frame.Region1
public import proofs.«01_k».proof.Proof.Frame.Region2
public import proofs.«01_k».proof.Proof.Frame.Region3
public import proofs.«01_k».proof.Proof.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Region 1's entry: region 0's exit, with no host operation between the two calls. -/
abbrev W3 : Dev nD → Valuation τ sig (Elt F) := W2 m ρ
theorem W3_args (c : Dev nD) : ∀ a ∈ argRefs, W3 m ρ c (Proc.devRef .tc a) = m ((c : Thread nD τ).loc a) := W2_args m ρ c
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`. -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)
theorem W9_main_arg9 (c : Dev nD) : W9 m ρ c (Proc.devRef .tc main_arg9) = m ((c : Thread nD τ).loc main_arg9) :=
  W9_args m ρ c main_arg9 (by decide)
end Cert.KernelIdeal.Gen

end
-- ==== Proof.Frame.State.lean ====
/- the PROOF DATA FAMILY and the THREAD STATE of `proofs.«01_k».proof.KernelIdeal`'s
   frame certificate, which is laid out as several modules: its last, ../Frame.lean, says what each holds.
   Kept by hand in this directory. -/
module

public import proofs.«01_k».proof.Proof.Frame.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

end Cert.KernelIdeal.Gen

end
-- ==== Proof.Frame.Record0.lean ====
/- custom call 0's region AS A SEGMENT of `proofs.«01_k».proof.KernelIdeal`'s
   frame certificate, which is laid out as several modules: its last, ../Frame.lean, says what each holds.
   Kept by hand in this directory. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
/- custom call 1's region AS A SEGMENT of `proofs.«01_k».proof.KernelIdeal`'s
   frame certificate, which is laid out as several modules: its last, ../Frame.lean, says what each holds.
   Kept by hand in this directory. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
/- custom call 2's region AS A SEGMENT of `proofs.«01_k».proof.KernelIdeal`'s
   frame certificate, which is laid out as several modules: its last, ../Frame.lean, says what each holds.
   Kept by hand in this directory. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record3.lean ====
/- custom call 3's region AS A SEGMENT of `proofs.«01_k».proof.KernelIdeal`'s
   frame certificate, which is laid out as several modules: its last, ../Frame.lean, says what each holds.
   Kept by hand in this directory. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.lean ====
/- the FRAME CERTIFICATE of `proofs.«01_k».proof.KernelIdeal`, whose
   @main is 4 TensorCore regions among stretches of host operations (Lib/Pipeline/Regions.lean `θ_run_regions_kit_sems`).
   Per region, at a PARAMETER `V` — the TensorCore's buffer contents when the region is entered —: each window's block at
   a point (`Gen.iblkK`) and the kernel's half of its class — class A's (each output's buffer after
   the body `Gen.outK_W`, the body's triple by `sl_exec` `Gen.sound_kernelK`) or class R's (the triple per
   case a subtype the run finds `Gen.kernelRunK_κ`, its `scf.if`s in closed form `Gen.hcondK_J`, the outputs point by
   point `Gen.outsAtK`) —, its proof data `Gen.datK` over the invariant `ΦA` (`ΦD` for a kernel staging operands by its
   own DMA within the point) and its obligation `Gen.body_obligationK`. Then the run: the
   buffer contents at every segment boundary, a fold from the launch memory (`Gen.WJ`: a stretch's `StableHlo.after`; a
   region's arrays at what its write-backs leave, Lib/Pipeline/FrameSuffix.lean `withArrays`), each argument array read
   back through the fold (`Gen.WN_<arg>`, from `Gen.WJ_args`: every argument as launched at boundary J, by what the item before
   it leaves unchanged, `Gen.WJ_of`, where the references each stretch writes are `Gen.hostOpsJ_W` and no argument is among
   them or among a region's output arrays, `Gen.hostOpsJ_args` / `Gen.argsInK`), every pipeline's proof data at its region's
   entry contents (`Gen.pdats`), a `HostSeg.ofOps` per stretch and a `RegionSeg` per region over the thread state "every
   unscoped buffer at the boundary's contents, the generator register at some state, nothing owed" (`Gen.regK`,
   `Gen.segs`), and `Gen.frame` — the frame claim at any `F`: Proof.lean is
   `theorem Cert.Proof.claim : Cert.Claim := ⟨Gen.facts, fun m ρ _ => Gen.frame m ρ⟩`.
   LAID OUT AS SEVERAL MODULES, so that modules that do not import each other build side by side: Frame/Region<K>.lean (custom
   call K's region at `V`), Frame/Hosts<G>.lean (the stretches' `Gen.hostOpsJ_*`, several stretches to a module; Hosts0 also
   holds `Gen.argRefs`, and the others import it), Frame/Fold<P>.lean (`Gen.WJ` and what is stated of it, in consecutive parts:
   Fold0 imports every Region and Hosts module, each later part the one before it), Frame/State.lean (`Gen.pdats`, the thread
   state, over the last Fold), Frame/Record<K>.lean (`Gen.regK`, over State) and this one over every record: `Gen.segs`, `Gen.frame`.
   CLASS A or R in each of its 4 regions (region 0: R, one case, 1 scratch operand, scratch `arg12` posted (its store pieces named, `LT·`, in the run of each case that posts it) — not A: the kernel takes operands the pipeline does not stage (scratch, semaphores, tables, arrays left in HBM); region 1: R, 2 cases of its conditionals, 1 scratch operand, scratch `arg12` posted (its store pieces named, `LT·`, in the run of each case that posts it), outputs [8] live (their block's contents carried over from the point before) — not A: the kernel takes operands the pipeline does not stage (scratch, semaphores, tables, arrays left in HBM); region 2: R, 2 cases of its conditionals, 1 scratch operand, scratch `arg12` posted (its store pieces named, `LT·`, in the run of each case that posts it), outputs [8] live (their block's contents carried over from the point before) — not A: the kernel takes operands the pipeline does not stage (scratch, semaphores, tables, arrays left in HBM); region 3: R, 3 cases of its conditionals, outputs [7] live (their block's contents carried over from the point before) — not A: the kernel takes operands the pipeline does not stage (scratch, semaphores, tables, arrays left in HBM)): the certificate is whole here.
   Kept by hand in this directory. -/
module

public import proofs.«01_k».proof.Proof.Frame.Record0
public import proofs.«01_k».proof.Proof.Frame.Record1
public import proofs.«01_k».proof.Proof.Frame.Record2
public import proofs.«01_k».proof.Proof.Frame.Record3

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W9_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.KernelIdeal.Gen

end
-- ==== Proof.Bits.lean ====
/- The frame of the kernel at machine words. The kernel and its idealization are one program text, printed twice; the frame
    (Proof/Frame.lean) is proved of the second copy at every reading of the floats. Here it is read off for the first. -/
module

public import proofs.«01_k».proof.Defs
public import proofs.«01_k».proof.Proof.Frame
public import proofs.«01_k».proof.Proof.Gen.Kernel

@[expose] public section

noncomputable section

namespace Cert.Proof

open Idealize.ShloMosaic Idealize.ShloMosaic.Tactic Idealize.SL.Sem

section
open Cert.KernelIdeal

/-- What the frame says of the second copy, with its floats read as machine words. -/
def FrameAtBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem frameAtBits : FrameAtBits := fun m ρ _ => Cert.KernelIdeal.Gen.frame m ρ

end

/-- The two copies unfold to the same terms, definition by definition. -/
theorem quiescent_eq : @Cert.quiescent_Kernel Cert.Kernel.Gen.facts = FrameAtBits := by
  sl_kernel_rfl

theorem quiescent_Kernel : @Cert.quiescent_Kernel Cert.Kernel.Gen.facts := quiescent_eq ▸ frameAtBits

end Cert.Proof
-- ==== Proof.Quant.lean ====
/-
  The row quantiser's power-of-two scale. The kernel finds the scale's exponent field by counting the powers of two that do not
  exceed the row's ratio; the reference takes the least power of two above the ratio. Both are the same power of two.
-/
module

public import Idealize.ShloMosaic.Lib.Pipeline.ValueKit
public import Mathlib.Data.BitVec

@[expose] public section

noncomputable section

namespace Proof.Quant

open Idealize.ShloMosaic

/-- The power of two with exponent field `e`. -/
def pw (e : ℕ) : EReal := (((2 : ℝ) ^ ((e : ℤ) - 127) : ℝ) : EReal)

theorem pw_le {a b : ℕ} : pw a ≤ pw b ↔ a ≤ b := by
  unfold pw
  rw [EReal.coe_le_coe_iff, zpow_le_zpow_iff_right₀ (by norm_num)]
  omega

theorem pw_pos (e : ℕ) : 0 < pw e := by
  unfold pw
  exact_mod_cast zpow_pos (by norm_num : (0 : ℝ) < 2) _

theorem pw_one : pw 127 = 1 := by
  unfold pw
  norm_num

/-- The word with exponent field `e` and nothing else denotes that power. -/
theorem bits_pw (e : ℕ) (h1 : 1 ≤ e) (h2 : e ≤ 254) (b : BitVec 32) (hb : b.toNat = e * 8388608) : Ideal.ofBits .f32 b = pw e := by
  have hn : (b.extractLsb' 31 1 == 1#1) = false := by
    rw [beq_eq_false_iff_ne]
    intro h
    have := congrArg BitVec.toNat h
    simp [BitVec.extractLsb'_toNat, Nat.shiftRight_eq_div_pow, hb] at this
    omega
  have he : (b.extractLsb' 23 8).toNat = e := by
    simp only [BitVec.extractLsb'_toNat, Nat.shiftRight_eq_div_pow, hb]
    omega
  have hf : (b.extractLsb' 0 23).toNat = 0 := by
    simp only [BitVec.extractLsb'_toNat, Nat.shiftRight_eq_div_pow, hb]
    omega
  simp only [Ideal.ofBits, Ideal.ieee, pw]
  rw [hn, he, hf, if_neg (by omega), if_neg (by omega)]
  refine congrArg _ ?_
  norm_num
  rw [show (8388608 : ℝ) = 2 ^ (23 : ℤ) by norm_num, ← zpow_add₀ (by norm_num)]
  congr 1
  ring

theorem shl_toNat (e : ℕ) (h : e ≤ 255) : (IntOp.shli .vector (BitVec.ofNat 32 e) 23#32).toNat = e * 8388608 := by
  have : IntOp.shli .vector (BitVec.ofNat 32 e) 23#32 = BitVec.ofNat 32 e <<< 23 := rfl
  rw [this, BitVec.toNat_shiftLeft, BitVec.toNat_ofNat, Nat.shiftLeft_eq]
  omega

theorem shl_pw (e : ℕ) (h1 : 1 ≤ e) (h2 : e ≤ 254) : Ideal.ofBits .f32 (IntOp.shli .vector (BitVec.ofNat 32 e) 23#32) = pw e :=
  bits_pw e h1 h2 _ (shl_toNat e (by omega))

/-- How many of the powers from `2 ^ -126` to `2 ^ 125` do not exceed `r`. -/
def count (r : EReal) : ℕ := (Finset.univ.filter fun x : Fin 256 => (1 ≤ x.val ∧ x.val ≤ 252) ∧ pw x.val ≤ r).card

/-- The powers not exceeding `r` are an initial segment. -/
theorem segment (r : EReal) : ∀ m : ℕ, ∃ S ≤ m, ∀ s, 1 ≤ s → s ≤ m → (pw s ≤ r ↔ s ≤ S)
  | 0 => ⟨0, le_rfl, fun s h1 h2 => by omega⟩
  | m + 1 => by
    by_cases h : pw (m + 1) ≤ r
    · exact ⟨m + 1, le_rfl, fun s _ h2 => ⟨fun _ => h2, fun _ => (pw_le.mpr h2).trans h⟩⟩
    · obtain ⟨S, hS, H⟩ := segment r m
      refine ⟨S, by omega, fun s h1 h2 => ?_⟩
      rcases Nat.lt_or_ge m s with hs | hs
      · obtain rfl : s = m + 1 := by omega
        exact ⟨fun h' => absurd h' h, fun h' => by omega⟩
      · exact H s h1 hs

theorem count_spec (r : EReal) : count r ≤ 252 ∧ ∀ s, 1 ≤ s → s ≤ 252 → (pw s ≤ r ↔ s ≤ count r) := by
  obtain ⟨S, hS, H⟩ := segment r 252
  have e : count r = S := by
    unfold count
    have : ((Finset.univ.filter fun x : Fin 256 => (1 ≤ x.val ∧ x.val ≤ 252) ∧ pw x.val ≤ r).map Fin.valEmbedding) = Finset.Icc 1 S := by
      ext s
      simp only [Finset.mem_map, Finset.mem_filter, Finset.mem_univ, true_and, Fin.valEmbedding_apply, Finset.mem_Icc]
      constructor
      · rintro ⟨x, ⟨⟨h1, h2⟩, h3⟩, rfl⟩
        exact ⟨h1, (H _ h1 h2).mp h3⟩
      · rintro ⟨h1, h2⟩
        exact ⟨⟨s, by omega⟩, ⟨⟨h1, by dsimp only; omega⟩, (H s h1 (by omega)).mpr h2⟩, rfl⟩
    rw [← Finset.card_map Fin.valEmbedding, this]
    simp
  rw [e]
  exact ⟨hS, H⟩

/-- The row's exponent field. -/
def field (r : EReal) : ℕ := if count r = 0 then 126 else count r

theorem field_pos (r : EReal) : 1 ≤ field r := by unfold field; split <;> omega

theorem field_le (r : EReal) : field r ≤ 252 := by unfold field; have := (count_spec r).1; split <;> omega

/-- The row's scale. -/
def scale (r : EReal) : EReal := pw (field r + 1)

theorem scale_ne (r : EReal) : scale r ≠ 0 := (pw_pos _).ne'

/-- The scale's reciprocal, as the power of two that the kernel multiplies with. -/
theorem scale_inv (r : EReal) : (scale r)⁻¹ = pw (253 - field r) := by
  have := field_le r
  unfold scale pw
  rw [← EReal.coe_inv, ← zpow_neg]
  congr 2
  omega

theorem div_scale (v r : EReal) : Ideal.div v (scale r) = v * (scale r)⁻¹ := if_neg (scale_ne r)

/-! ## The kernel's count -/

/-- The kernel's word of one power's comparison. -/
def mark (r : EReal) (x : Fin 256) : BitVec 32 :=
  Scalar.select
    (IntOp.andi (IntOp.andi (IntOp.cmpi CmpIPredicate.sge (BitVec.ofNat 32 x.val) 1#32) (IntOp.cmpi CmpIPredicate.sle (BitVec.ofNat 32 x.val) 252#32))
      (BitVec.ofBool (decide (Ideal.ofBits FTy.f32
        (IntOp.shli ArithUnit.vector (IntOp.minsi (252#32) (IntOp.maxsi (1#32) (BitVec.ofNat 32 x.val))) 23#32) ≤ r))))
    1#32 0#32

theorem clip_lo : ∀ x : Fin 256, IntOp.minsi (252#32) (IntOp.maxsi (1#32) (BitVec.ofNat 32 x.val)) = BitVec.ofNat 32 (min 252 (max 1 x.val)) := by
  decide +kernel

theorem clip_hi : ∀ x : Fin 256, IntOp.minsi (253#32) (IntOp.maxsi (2#32) (BitVec.ofNat 32 x.val)) = BitVec.ofNat 32 (min 253 (max 2 x.val)) := by
  decide +kernel

theorem inside : ∀ x : Fin 256, IntOp.andi (IntOp.cmpi CmpIPredicate.sge (BitVec.ofNat 32 x.val) 1#32)
    (IntOp.cmpi CmpIPredicate.sle (BitVec.ofNat 32 x.val) 252#32) = BitVec.ofBool (decide (1 ≤ x.val ∧ x.val ≤ 252)) := by
  decide +kernel

theorem mark_eq (r : EReal) (x : Fin 256) : mark r x = if (1 ≤ x.val ∧ x.val ≤ 252) ∧ pw x.val ≤ r then 1 else 0 := by
  unfold mark
  rw [clip_lo, inside, shl_pw _ (by omega) (by omega)]
  by_cases h : 1 ≤ x.val ∧ x.val ≤ 252
  · rw [show min 252 (max 1 x.val) = x.val by omega]
    by_cases h' : pw x.val ≤ r <;> simp [h, h'] <;> rfl
  · simp only [h, decide_false, false_and, if_false]
    by_cases h' : pw (min 252 (max 1 x.val)) ≤ r <;> simp [h'] <;> rfl

theorem fold_mark (r : EReal) : Finset.fold IntOp.addi (0#32) (mark r) Finset.univ = BitVec.ofNat 32 (count r) := by
  show ∑ x, mark r x = _
  rw [Finset.sum_congr rfl fun x _ => mark_eq r x, Finset.sum_boole]
  rfl

/-- The kernel's exponent field. -/
theorem field_word (r : EReal) :
    Scalar.select (IntOp.cmpi CmpIPredicate.eq (Finset.fold IntOp.addi (0#32) (mark r) Finset.univ) 0#32) (126#32)
      (Finset.fold IntOp.addi (0#32) (mark r) Finset.univ) = BitVec.ofNat 32 (field r) := by
  rw [fold_mark]
  have : ∀ n : Fin 253, Scalar.select (IntOp.cmpi CmpIPredicate.eq (BitVec.ofNat 32 n.val) 0#32) (126#32) (BitVec.ofNat 32 n.val)
      = BitVec.ofNat 32 (if n.val = 0 then 126 else n.val) := by decide +kernel
  exact this ⟨count r, by have := (count_spec r).1; omega⟩

theorem scale_word (r : EReal) : Ideal.ofBits .f32 (IntOp.shli .vector (IntOp.addi (BitVec.ofNat 32 (field r)) 1#32) 23#32) = scale r := by
  rw [show IntOp.addi (BitVec.ofNat 32 (field r)) 1#32 = BitVec.ofNat 32 (field r + 1) from (BitVec.ofNat_add _ _).symm]
  exact shl_pw _ (by omega) (by have := field_le r; omega)

theorem inv_word (r : EReal) : Ideal.ofBits .f32 (IntOp.shli .vector (IntOp.subi (253#32) (BitVec.ofNat 32 (field r))) 23#32) = (scale r)⁻¹ := by
  have h := field_le r
  have e : ∀ n : Fin 253, IntOp.subi (253#32) (BitVec.ofNat 32 n.val) = BitVec.ofNat 32 (253 - n.val) := by decide +kernel
  rw [e ⟨field r, by omega⟩, scale_inv]
  exact shl_pw _ (by dsimp only; omega) (by dsimp only; omega)

/-! ## The reference's minimum -/

/-- The reference's candidate. -/
def cand (r : EReal) (x : Fin 256) : EReal :=
  Scalar.select (BitVec.ofBool (decide (r < Ideal.ofBits FTy.f32
      (IntOp.shli ArithUnit.vector (IntOp.minsi (253#32) (IntOp.maxsi (2#32) (BitVec.ofNat 32 x.val))) 23#32))))
    (Ideal.ofBits FTy.f32 (IntOp.shli ArithUnit.vector (IntOp.minsi (253#32) (IntOp.maxsi (2#32) (BitVec.ofNat 32 x.val))) 23#32))
    (Ideal.ofBits FTy.f32 0x7E800000#32)

theorem cand_eq (r : EReal) (x : Fin 256) : cand r x = if r < pw (min 253 (max 2 x.val)) then pw (min 253 (max 2 x.val)) else pw 253 := by
  unfold cand
  rw [clip_hi, shl_pw _ (by omega) (by omega), bits_pw 253 (by omega) (by omega) 0x7E800000#32 (by decide)]
  by_cases h : r < pw (min 253 (max 2 x.val)) <;> simp [h] <;> rfl

/-- The reference's scale is the kernel's. -/
theorem scale_ref (r : EReal) :
    Scalar.select (BitVec.ofBool (decide (r < Ideal.ofBits FTy.f32 0x00800000#32))) (Ideal.ofBits FTy.f32 0x3F800000#32)
      (Finset.fold min (Ideal.ofBits FTy.f32 0x7F800000#32) (cand r) Finset.univ) = scale r := by
  obtain ⟨hc, H⟩ := count_spec r
  rw [bits_pw 1 (by omega) (by omega) 0x00800000#32 (by decide), bits_pw 127 (by omega) (by omega) 0x3F800000#32 (by decide)]
  by_cases h0 : pw 1 ≤ r
  · have h1 : 1 ≤ count r := (H 1 le_rfl (by omega)).mp h0
    have hs : scale r = pw (count r + 1) := by unfold scale field; rw [if_neg (by omega)]
    rw [hs]
    simp only [not_lt.mpr h0, decide_false]
    show Finset.fold min _ (cand r) Finset.univ = _
    refine le_antisymm ?_ ?_
    · refine Finset.fold_min_le _ |>.mpr (Or.inr ⟨⟨count r + 1, by omega⟩, Finset.mem_univ _, ?_⟩)
      rw [cand_eq]
      show (if r < pw (min 253 (max 2 (count r + 1))) then pw (min 253 (max 2 (count r + 1))) else pw 253) ≤ _
      rw [show min 253 (max 2 (count r + 1)) = count r + 1 by omega]
      split
      · exact le_rfl
      · rename_i hn
        rcases Nat.lt_or_ge (count r) 252 with hlt | hge
        · exact absurd ((H (count r + 1) (by omega) (by omega)).mp (not_lt.mp hn)) (by omega)
        · exact pw_le.mpr (by omega)
    · refine Finset.le_fold_min _ |>.mpr ⟨?_, fun x _ => ?_⟩
      · rw [show Ideal.ofBits FTy.f32 0x7F800000#32 = (⊤ : EReal) by simp [Ideal.ofBits, Ideal.ieee]]
        exact le_top
      · rw [cand_eq]
        split
        · rename_i hr
          refine pw_le.mpr ?_
          by_contra hlt
          have := (H (min 253 (max 2 x.val)) (by omega) (by omega)).mpr (by omega)
          exact absurd hr (not_lt.mpr this)
        · exact pw_le.mpr (by omega)
  · have h1 : count r = 0 := by
      by_contra h
      exact h0 ((H 1 le_rfl (by omega)).mpr (by omega))
    have hs : scale r = pw 127 := by unfold scale field; rw [if_pos h1]
    rw [hs]
    simp only [not_le.mp h0, decide_true]
    rfl

end Proof.Quant

end
-- ==== Proof.Row.lean ====
/-
  The primal pass on one token: the row quantiser, the two linear layers, the activation and its derivative, as plain formulas over
  the extended reals.
-/
module

public import proofs.«01_k».proof.Proof.Quant

@[expose] public section

noncomputable section

namespace Proof.Row

open Idealize.ShloMosaic Proof.Quant

/-- The row's greatest magnitude over the code range's bound. -/
def ratio {n : ℕ} (v : Fin n → EReal) : EReal :=
  Finset.fold max (Ideal.ofBits FTy.f32 0xFF800000#32) (fun d => FloatOps.absf (F := Ideal) (φ := .f32) (v d)) Finset.univ
    * Ideal.ofBits FTy.f32 0x3B124925#32

/-- The row's scale. -/
def rowScale {n : ℕ} (v : Fin n → EReal) : EReal := scale (ratio v)

/-- The row's codes. -/
def code {n : ℕ} (v : Fin n → EReal) (d : Fin n) : EReal :=
  min (Ideal.ofBits FTy.f32 0x43E00000#32) (max (Ideal.ofBits FTy.f32 0xC3E00000#32) (v d * (rowScale v)⁻¹))

/-- A linear layer of the quantised row: weights `w`, column scales `z`. -/
def lin (a : Fin 2048 → EReal) (w : Fin 2048 → Fin 5632 → EReal) (z : Fin 5632 → EReal) (f : Fin 5632) : EReal :=
  (∑ d, code a d * w d f) * rowScale a * z f

section Hidden

variable (a : Fin 2048 → EReal) (wg : Fin 2048 → Fin 5632 → EReal) (zg : Fin 5632 → EReal) (wu : Fin 2048 → Fin 5632 → EReal)
  (zu : Fin 5632 → EReal)

/-- The gate's activation. -/
def silu (f : Fin 5632) : EReal := lin a wg zg f * Ideal.logistic (lin a wg zg f)

/-- The activation's derivative times the up layer. -/
def dsilu (f : Fin 5632) : EReal :=
  Ideal.logistic (lin a wg zg f) * (1 + lin a wg zg f * (1 - Ideal.logistic (lin a wg zg f))) * lin a wu zu f

/-- The hidden row. -/
def hid (f : Fin 5632) : EReal := silu a wg zg f * lin a wu zu f

end Hidden

theorem bits_bot : Ideal.ofBits FTy.f32 0xFF800000#32 = (⊥ : EReal) := by simp [Ideal.ofBits, Ideal.ieee]

theorem abs_nonneg (x : EReal) : 0 ≤ FloatOps.absf (F := Ideal) (φ := .f32) x := by
  show 0 ≤ max x (-x)
  rcases le_total 0 x with h | h
  · exact h.trans (le_max_left _ _)
  · exact (EReal.neg_nonneg.mpr h).trans (le_max_right _ _)

/-- A value whose upper bounds are the row's common bounds of magnitude is the row's greatest magnitude. -/
theorem fold_abs {n : ℕ} (v : Fin n → EReal) (m : EReal) (h : ∀ c, m ≤ c ↔ ∀ d, FloatOps.absf (F := Ideal) (φ := .f32) (v d) ≤ c) :
    m = Finset.fold max (Ideal.ofBits FTy.f32 0xFF800000#32) (fun d => FloatOps.absf (F := Ideal) (φ := .f32) (v d)) Finset.univ := by
  refine eq_of_forall_ge_iff fun c => (h c).trans ?_
  rw [Finset.fold_max_le, bits_bot]
  simp

end Proof.Row

end
-- ==== Proof.Signs.lean ====
/-
  The packed random signs. A byte holds one sign bit for each of eight probes. The kernel reads four bytes of a column as
  one 32-bit word, moves the wanted bit to the top of every byte, keeps only that bit, and sets the bits of the 8-bit
  float one below it: the byte is then the float +1 or -1. Here: that float, read at an index, is `sgn` of the byte.
-/
module

public import Idealize.ShloMosaic.Lib.Pointwise
public import Idealize.ShloMosaic.Lib.BitcastFour

@[expose] public section

noncomputable section

namespace Proof.Signs

open Idealize.ShloMosaic

/-- The sign that bit `k` of a packed byte stands for: a clear bit is `1`, a set bit is `-1`. -/
def sgn (k : ℕ) (b : BitVec 8) : EReal := if b.getLsbD k then -1 else 1

/-- The 8-bit float of pattern `0x38` is one. -/
theorem e4m3fn_one : Ideal.e4m3fn 0x38#8 = 1 := by
  unfold Ideal.e4m3fn
  norm_num [show (BitVec.extractLsb' 7 1 0x38#8 == 1#1) = false by decide,
    show (BitVec.extractLsb' 3 4 0x38#8).toNat = 7 by decide, show (BitVec.extractLsb' 0 3 0x38#8).toNat = 0 by decide]

/-- The 8-bit float of pattern `0xB8` is minus one. -/
theorem e4m3fn_neg_one : Ideal.e4m3fn 0xB8#8 = -1 := by
  unfold Ideal.e4m3fn
  norm_num [show (BitVec.extractLsb' 7 1 0xB8#8 == 1#1) = true by decide,
    show (BitVec.extractLsb' 3 4 0xB8#8).toNat = 7 by decide, show (BitVec.extractLsb' 0 3 0xB8#8).toNat = 0 by decide]

/-- The masks' bits, byte by byte. -/
theorem masks (q : ℕ) (hq : q < 32) :
    (0x80808080#32 : BitVec 32).getLsbD q = decide (q % 8 = 7)
      ∧ (0x38383838#32 : BitVec 32).getLsbD q = (0x38#8).getLsbD (q % 8) := by
  interval_cases q <;> decide

/-- A shift by less than the width, read at a bit. -/
theorem shl_bit (x s : BitVec 32) (q : ℕ) (hs : s.toNat < 32) :
    (IntOp.shli .vector x s).getLsbD q = (decide (q < 32) && !decide (q < s.toNat) && x.getLsbD (q - s.toNat)) := by
  have e : IntOp.shli .vector x s = x <<< s.toNat := by
    unfold IntOp.shli
    rw [if_pos hs]
    rfl
  rw [e, BitVec.getLsbD_shiftLeft]

/-- From a byte to its word and back is the same place. -/
theorem src_src {R r n : ℕ} (h : (⟨2, ![R, n]⟩ : Shape).Bitcasts 8 ⟨2, ![r, n]⟩ 32)
    (h' : (⟨2, ![r, n]⟩ : Shape).Bitcasts 32 ⟨2, ![R, n]⟩ 8) (j : (⟨2, ![R, n]⟩ : Shape).Idx) (p p' : ℕ) (hp) (hp')
    (e : p' = (⟨2, ![R, n]⟩ : Shape).row j) : h.srcIdx (h'.srcIdx j p hp) p' hp' = j := by
  funext c
  match c with
  | ⟨0, _⟩ => exact Fin.ext ((h.srcIdx_row _ _ _ ⟨0, Nat.zero_lt_two⟩ rfl).trans e)
  | ⟨1, _⟩ =>
    exact Fin.ext ((h.srcIdx_other _ _ _ ⟨1, Nat.one_lt_two⟩ (by show ¬ 1 + 2 = 2; omega)).trans
      (h'.srcIdx_other _ _ _ ⟨1, Nat.one_lt_two⟩ (by show ¬ 1 + 2 = 2; omega)))

/-- The byte the kernel makes: `0xB8` where bit `k` of the packed byte is set, `0x38` where it is clear. -/
theorem signByte {R r n : ℕ} (v : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (s : BitVec 32) (k : ℕ) (hs : s.toNat + k = 7) (j : (⟨2, ![R, n]⟩ : Shape).Idx) :
    bitcast ⟨2, ![R, n]⟩ 8 (ori (andi (shli (bitcast ⟨2, ![r, n]⟩ 32 v h) (broadcast _ s)) (broadcast _ 0x80808080#32))
      (broadcast _ 0x38383838#32)) h' j = if (v j).getLsbD k then 0xB8#8 else 0x38#8 := by
  apply BitVec.eq_of_getLsbD_eq
  intro i hi
  rw [bitcast_getLsbD _ h' j i hi (by decide)]
  set q := ((⟨2, ![R, n]⟩ : Shape).row j * 8 + i) % 32 with hq
  have hq32 : q < 32 := Nat.mod_lt _ (by decide)
  have hq8 : q % 8 = i := by omega
  show ((IntOp.shli .vector (bitcast ⟨2, ![r, n]⟩ 32 v h _) s &&& 0x80808080#32) ||| 0x38383838#32).getLsbD q = _
  rw [BitVec.getLsbD_or, BitVec.getLsbD_and, (masks q hq32).1, (masks q hq32).2, hq8]
  by_cases h7 : i = 7
  · subst h7
    rw [shl_bit _ s q (by omega), bitcast_getLsbD v h _ (q - s.toNat) (by omega) (by decide)]
    have hrow : ∀ (p : ℕ) (hp), (⟨2, ![r, n]⟩ : Shape).row (h'.srcIdx j p hp) = p := by
      intro p hp
      exact h'.srcIdx_row _ _ _ ⟨0, Nat.zero_lt_two⟩ rfl
    have hk : ((⟨2, ![r, n]⟩ : Shape).row (h'.srcIdx j (((⟨2, ![R, n]⟩ : Shape).row j * 8 + 7) / 32)
        (fun a ha => (Nat.div_lt_iff_lt_mul (by decide)).2 (h'.pos_lt j 7 hi a ha))) * 32 + (q - s.toNat)) % 8 = k := by
      rw [hrow]; omega
    have hp : ((⟨2, ![r, n]⟩ : Shape).row (h'.srcIdx j (((⟨2, ![R, n]⟩ : Shape).row j * 8 + 7) / 32)
        (fun a ha => (Nat.div_lt_iff_lt_mul (by decide)).2 (h'.pos_lt j 7 hi a ha))) * 32 + (q - s.toNat)) / 8
        = (⟨2, ![R, n]⟩ : Shape).row j := by
      rw [hrow]; omega
    rw [hk]
    rw [src_src h h' j _ _ _ _ hp]
    have : q - s.toNat + s.toNat = q := by omega
    by_cases hb : (v j).getLsbD k
    · simp [hb, hq32, show ¬ q < s.toNat by omega]
    · simp [hb]
  · have h7' : decide (i = 7) = false := by simp [h7]
    rw [h7', Bool.and_false, Bool.false_or]
    have h8 : i < 8 := hi
    by_cases hb : (v j).getLsbD k
    · rw [if_pos hb]; interval_cases i <;> first | rfl | omega
    · rw [if_neg hb]

/-- The sign matrix the kernel multiplies by, read at an index over the extended reals. -/
theorem signs_apply {R r n : ℕ} (v : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (s : BitVec 32) (k : ℕ) (hs : s.toNat + k = 7) (j : (⟨2, ![R, n]⟩ : Shape).Idx) :
    (bitcastToFloat (F := Ideal) .fp8e4m3 (bitcast ⟨2, ![R, n]⟩ 8 (ori (andi (shli (bitcast ⟨2, ![r, n]⟩ 32 v h) (broadcast _ s))
      (broadcast _ 0x80808080#32)) (broadcast _ 0x38383838#32)) h') : FVec Ideal _ .fp8e4m3) j = sgn k (v j) := by
  show Ideal.ofBits .fp8e4m3 _ = _
  rw [signByte v h h' s k hs j]
  unfold sgn
  by_cases hb : (v j).getLsbD k
  · rw [if_pos hb, if_pos hb]; exact e4m3fn_neg_one
  · rw [if_neg hb, if_neg hb]; exact e4m3fn_one

end Proof.Signs

end
-- ==== Proof.Full.lean ====
/-
  The problem's mathematics on whole arrays, as plain sums over the extended reals, each array a function of its coordinates:
  the values that the kernel's grid and the reference both compute.
-/
module

public import proofs.«01_k».proof.Proof.Signs
public import Idealize.ShloMosaic.Lib.Pipeline.ValueKit

@[expose] public section

noncomputable section

namespace Proof.Full

open Idealize.ShloMosaic Proof.Signs

/-! ## The three tangent branches -/

section Hidden

variable (xq : Fin 4096 → Fin 2048 → EReal) (sx : Fin 4096 → EReal) (coef : Fin 4096 → Fin 5632 → EReal)
  (v : Fin 2048 → Fin 5632 → BitVec 8) (wd : Fin 5632 → Fin 2048 → EReal) (ds : Fin 2048 → EReal)

/-- The hidden tangent of probe `k` at token `n`, unit `f`. -/
def tN (k : ℕ) (n : Fin 4096) (f : Fin 5632) : EReal := coef n f * ((∑ d : Fin 2048, xq n d * sgn k (v d f)) * sx n)

/-- The directional derivative of probe `k` at token `n`, output `d`, in one of the two hidden branches. -/
def dyN (k : ℕ) (n : Fin 4096) (d : Fin 2048) : EReal := (∑ f : Fin 5632, tN xq sx coef v k n f * wd f d) * ds d

end Hidden

section Outer

variable (hq : Fin 4096 → Fin 5632 → EReal) (sh : Fin 4096 → EReal) (v : Fin 5632 → Fin 2048 → BitVec 8)
  (wd : Fin 5632 → Fin 2048 → EReal) (ds : Fin 2048 → EReal)

/-- The directional derivative of probe `k` at token `n`, output `d`, in the down branch. -/
def dirN (k : ℕ) (n : Fin 4096) (d : Fin 2048) : EReal := (∑ f : Fin 5632, hq n f * sgn k (v f d)) * sh n

/-- The layer's output. -/
def yN (n : Fin 4096) (d : Fin 2048) : EReal := (∑ f : Fin 5632, hq n f * wd f d) * sh n * ds d

end Outer

/-- The squared norm of a directional derivative at a token. -/
def sqN (dy : ℕ → Fin 4096 → Fin 2048 → EReal) (k : ℕ) (n : Fin 4096) : EReal := ∑ d : Fin 2048, dy k n d * dy k n d

/-! ## The sum over probes and tokens -/

/-- The sum over the probes and over the tokens of one lane. -/
def laneSum (S : ℕ → Fin 4096 → EReal) (l : Fin 128) : EReal :=
  ∑ k : Fin 8, ∑ a : Fin 32, S k.val ⟨128 * a.val + l.val, by omega⟩

/-- The same sum, taken block by block of 512 tokens, the probes from the last to the first. -/
theorem laneSum_blocks (S : ℕ → Fin 4096 → EReal) (l : Fin 128) :
    laneSum S l = ∑ t : Fin 64, ∑ r : Fin 4, S (7 - t.val % 8) ⟨512 * (t.val / 8) + (128 * r.val + l.val), by omega⟩ := by
  unfold laneSum
  have h1 : ∀ k : Fin 8, ∑ a : Fin 32, S k.val ⟨128 * a.val + l.val, by omega⟩
      = ∑ i : Fin 8, ∑ r : Fin 4, S k.val ⟨512 * i.val + (128 * r.val + l.val), by omega⟩ := by
    intro k
    rw [← Fintype.sum_prod_type', ← (finProdFinEquiv (m := 8) (n := 4)).sum_comp]
    refine Finset.sum_congr rfl fun x _ => congrArg (S k.val) (Fin.ext ?_)
    simp [finProdFinEquiv]
    omega
  rw [Finset.sum_congr rfl fun k _ => h1 k, Finset.sum_comm]
  rw [← (finProdFinEquiv (m := 8) (n := 8)).sum_comp, Fintype.sum_prod_type]
  refine Finset.sum_congr rfl fun i _ => ?_
  rw [← Equiv.sum_comp Fin.revPerm]
  refine Finset.sum_congr rfl fun j _ => Finset.sum_congr rfl fun r _ => ?_
  have e1 : (Fin.revPerm j : Fin 8).val = 7 - (finProdFinEquiv (i, j) : Fin 64).val % 8 := by
    simp [finProdFinEquiv, Fin.revPerm, Fin.rev]; omega
  rw [e1]
  refine congrArg (S _) (Fin.ext ?_)
  simp [finProdFinEquiv]
  omega

/-- The lanes together: the sum over probes and tokens. -/
theorem laneSum_total (S : ℕ → Fin 4096 → EReal) :
    ∑ l : Fin 128, laneSum S l = ∑ k : Fin 8, ∑ n : Fin 4096, S k.val n := by
  unfold laneSum
  rw [Finset.sum_comm]
  refine Finset.sum_congr rfl fun k _ => ?_
  rw [Finset.sum_comm, ← Fintype.sum_prod_type', ← (finProdFinEquiv (m := 32) (n := 128)).sum_comp]
  refine Finset.sum_congr rfl fun x _ => congrArg (S k.val) (Fin.ext ?_)
  simp [finProdFinEquiv, Nat.add_comm]

end Proof.Full
-- ==== Proof.Spec.lean ====
/-
  The eight results as plain sums over the extended reals of the layer's inputs. The kernel and the reference both compute these.
-/
module

public import proofs.«01_k».proof.Proof.Row
public import proofs.«01_k».proof.Proof.Full

@[expose] public section

noncomputable section

namespace Proof.Spec

open Idealize.ShloMosaic Proof.Row Proof.Full

/-- The inputs: tokens, weights with their column scales, and the packed probe signs of the three weights. -/
structure Layer where
  /-- The tokens. -/
  x : Fin 4096 → Fin 2048 → EReal
  /-- The gate weight. -/
  wg : Fin 2048 → Fin 5632 → EReal
  /-- Its column scales. -/
  zg : Fin 5632 → EReal
  /-- The up weight. -/
  wu : Fin 2048 → Fin 5632 → EReal
  /-- Its column scales. -/
  zu : Fin 5632 → EReal
  /-- The down weight. -/
  wd : Fin 5632 → Fin 2048 → EReal
  /-- Its column scales. -/
  zd : Fin 2048 → EReal
  /-- The gate's signs. -/
  vg : Fin 2048 → Fin 5632 → BitVec 8
  /-- The up weight's signs. -/
  vu : Fin 2048 → Fin 5632 → BitVec 8
  /-- The down weight's signs. -/
  vd : Fin 5632 → Fin 2048 → BitVec 8

namespace Layer

variable (L : Layer)

/-- The tokens' codes. -/
def xq (n : Fin 4096) (d : Fin 2048) : EReal := code (L.x n) d

/-- The tokens' scales. -/
def sx (n : Fin 4096) : EReal := rowScale (L.x n)

/-- The gate's activation. -/
def act (n : Fin 4096) (f : Fin 5632) : EReal := silu (L.x n) L.wg L.zg f

/-- The activation's derivative times the up layer. -/
def dact (n : Fin 4096) (f : Fin 5632) : EReal := dsilu (L.x n) L.wg L.zg L.wu L.zu f

/-- The hidden rows. -/
def hidden (n : Fin 4096) : Fin 5632 → EReal := hid (L.x n) L.wg L.zg L.wu L.zu

/-- The hidden rows' codes. -/
def hq (n : Fin 4096) (f : Fin 5632) : EReal := code (L.hidden n) f

/-- The hidden rows' scales. -/
def sh (n : Fin 4096) : EReal := rowScale (L.hidden n)

/-- The layer's output. -/
def y : Fin 4096 → Fin 2048 → EReal := yN L.hq L.sh L.wd L.zd

/-- The directional derivatives of the gate's probes. -/
def dyGate : ℕ → Fin 4096 → Fin 2048 → EReal := dyN L.xq L.sx L.dact L.vg L.wd L.zd

/-- The directional derivatives of the up weight's probes. -/
def dyUp : ℕ → Fin 4096 → Fin 2048 → EReal := dyN L.xq L.sx L.act L.vu L.wd L.zd

/-- The directional derivatives of the down weight's probes. -/
def dyDown : ℕ → Fin 4096 → Fin 2048 → EReal := dirN L.hq L.sh L.vd

/-- The directional derivatives, branch by branch. -/
def dy (b : ℕ) : ℕ → Fin 4096 → Fin 2048 → EReal := if b = 0 then L.dyGate else if b = 1 then L.dyUp else L.dyDown

/-- The squared norms. -/
def sq (b k : ℕ) (n : Fin 4096) : EReal := sqN (L.dy b) k n

/-- The trace estimate of a branch. -/
def trace (b : ℕ) : EReal := Ideal.div (∑ k : Fin 8, ∑ n : Fin 4096, L.sq b k.val n) (Ideal.ofBits .f32 0x47000000#32)

end Layer

end Proof.Spec

end
-- ==== Proof.Results.lean ====
/-
  The eight result arrays of a layer, in the shapes that the two programs return them in.
-/
module

public import proofs.«01_k».proof.Proof.Spec
public import proofs.«01_k».proof.KernelIdeal
public import proofs.«01_k».proof.Proof.Gen.KernelIdeal.Launch
public import Idealize.ShloMosaic.Lib.Pipeline.ValueKit

@[expose] public section

set_option maxRecDepth 16384

noncomputable section

namespace Proof.Results

open Idealize.ShloMosaic Cert.KernelIdeal Cert.KernelIdeal.Gen Proof.Spec

variable (L : Layer)

/-- A token from its sequence and its position in it. -/
def tok (r : Fin 4) (s : Fin 1024) : Fin 4096 := ⟨r.val * 1024 + s.val, by omega⟩

/-- The layer's output. -/
def y : FVec Ideal S4x1024x2048 .bf16 :=
  shapeCast S4x1024x2048 (show FVec Ideal S4096x2048 .bf16 from fun i => L.y (i 0) (i 1)) shapeCasts_S4096x2048_S4x1024x2048

/-- The trace estimates. -/
def trace : FVec Ideal S3 .f32 := fun i => L.trace (i 0).val

/-- The squared norms. -/
def sq : FVec Ideal S3x8x4x1024 .f32 := fun i => L.sq (i 0).val (i 1).val (tok (i 2) (i 3))

/-- The first probe's directional derivatives. -/
def dy : FVec Ideal S3x4x1024x2048 .f32 :=
  shapeCast S3x4x1024x2048 (show FVec Ideal S3x4096x2048 .f32 from fun i => L.dy (i 0).val 0 (i 1) (i 2)) shapeCasts_S3x4096x2048_S3x4x1024x2048

/-- The tokens' codes. -/
def xq : FVec Ideal S4x1024x2048 .fp8e4m3 :=
  shapeCast S4x1024x2048 (show FVec Ideal S4096x2048 .fp8e4m3 from fun i => L.xq (i 0) (i 1)) shapeCasts_S4096x2048_S4x1024x2048

/-- The tokens' scales. -/
def sx : FVec Ideal S4x1024 .f32 := fun i => L.sx (tok (i 0) (i 1))

/-- The hidden rows' codes. -/
def hq : FVec Ideal S4x1024x5632 .fp8e4m3 :=
  shapeCast S4x1024x5632 (show FVec Ideal S4096x5632 .fp8e4m3 from fun i => L.hq (i 0) (i 1)) shapeCasts_S4096x5632_S4x1024x5632

/-- The hidden rows' scales. -/
def sh : FVec Ideal S4x1024 .f32 := fun i => L.sh (tok (i 0) (i 1))

/-! ## An index is the list of its coordinates -/

theorem eta1 (i : S3.Idx) : i = ix1 (i 0) := by
  funext a; fin_cases a; rfl

theorem eta2 (i : S4x1024.Idx) : i = ix2 (i 0) (i 1) := by
  funext a; fin_cases a <;> rfl

theorem eta4 (i : S3x8x4x1024.Idx) : i = ix4 (i 0) (i 1) (i 2) (i 3) := by
  funext a; fin_cases a <;> rfl

end Proof.Results

end
-- ==== Proof.RefSigns.lean ====
/-
  The reference's form of the packed random signs: bit `k` of a byte, widened to an integer `b`, gives the sign `1 - 2 b`.
-/
module

public import proofs.«01_k».proof.Proof.Signs

@[expose] public section

noncomputable section

namespace Proof.Signs

open Idealize.ShloMosaic

/-- The bit taken out of a byte, as an integer. -/
theorem bit_toInt (b : BitVec 8) (s : BitVec 32) (k : ℕ) (hk : s.toNat = k) (h8 : k < 8) :
    (IntOp.andi (IntOp.shrui .vector (b.setWidth 32) s) 1#32).toInt = if b.getLsbD k then 1 else 0 := by
  have e : IntOp.shrui .vector (b.setWidth 32) s = (b.setWidth 32) >>> k := by
    unfold IntOp.shrui
    rw [if_pos (by omega), ← hk]
    rfl
  rw [e]
  show (((b.setWidth 32) >>> k) &&& 1#32).toInt = _
  clear e hk s
  revert b
  interval_cases k <;> decide +kernel

/-- The sign made from the bit. -/
theorem ref_sign (b : BitVec 8) (s : BitVec 32) (k : ℕ) (hk : s.toNat = k) (h8 : k < 8) :
    (1 : EReal) - 2 * (((IntOp.andi (IntOp.shrui .vector (b.setWidth 32) s) 1#32).toInt : ℝ) : EReal) = sgn k b := by
  rw [bit_toInt b s k hk h8]
  unfold sgn
  by_cases h : b.getLsbD k
  · rw [if_pos h, if_pos h]
    rw [show ((1 : EReal)) = ((1 : ℝ) : EReal) from rfl, show ((2 : EReal)) = ((2 : ℝ) : EReal) from rfl, ← EReal.coe_mul, ← EReal.coe_sub, ← EReal.coe_neg]
    norm_num
  · rw [if_neg h, if_neg h]
    simp

end Proof.Signs

end
-- ==== Proof.Ref.lean ====
/-
  The reference, read at an index: its arrays are the plain sums of Proof/Spec.lean.
-/
module

public import proofs.«01_k».proof.Proof.RefSigns
public import proofs.«01_k».proof.Proof.Spec
public import proofs.«01_k».proof.Proof.Gen.ReferenceIdeal.Frame
public import Idealize.ShloMosaic.Lib.Pipeline.ValueKit

@[expose] public section

set_option maxRecDepth 16384

noncomputable section

namespace Proof.Ref

open Idealize.ShloMosaic Cert.ReferenceIdeal Cert.ReferenceIdeal.Gen Proof.Signs Proof.Full Proof.Quant Proof.Row Proof.Spec

/-- The constant two. -/
theorem ofBits_two : Ideal.ofBits .bf16 0x4000#16 = 2 := by
  rw [show (2 : EReal) = ((2 : ℝ) : EReal) by norm_cast]
  simp [Ideal.ofBits, Ideal.ieee, -EReal.coe_mul]; norm_num

theorem ofBits_one : Ideal.ofBits .f32 0x3F800000#32 = 1 := by
  rw [show (1 : EReal) = ((1 : ℝ) : EReal) by norm_cast]
  simp [Ideal.ofBits, Ideal.ieee, -EReal.coe_mul]; norm_num

theorem sel (p : Prop) [Decidable p] (a b : EReal) : Scalar.select (BitVec.ofBool (decide p)) a b = if p then a else b := by
  unfold Scalar.select
  by_cases h : p <;> simp [h]

/-- The reference's scale as it reads at an index. -/
theorem scale_ite (r : EReal) : (if r < Ideal.ofBits FTy.f32 0x00800000#32 then 1 else
    Finset.fold min (Ideal.ofBits FTy.f32 0x7F800000#32) (fun x : Fin 256 =>
      if r < Ideal.ofBits FTy.f32 (IntOp.shli ArithUnit.vector (IntOp.minsi (253#32) (IntOp.maxsi (2#32) (BitVec.ofNat 32 x.val))) 23#32) then
        Ideal.ofBits FTy.f32 (IntOp.shli ArithUnit.vector (IntOp.minsi (253#32) (IntOp.maxsi (2#32) (BitVec.ofNat 32 x.val))) 23#32)
      else Ideal.ofBits FTy.f32 0x7E800000#32) Finset.univ) = scale r := by
  refine Eq.trans ?_ (scale_ref r)
  rw [ofBits_one]
  unfold cand
  simp only [sel]

/-! ## The reference's operations at an index -/

section Ops

/-- The scale of a ratio, as the reference's operations. -/
def scaleV (u : FVec Ideal S4096x1 .f32) : FVec Ideal S4096x1 .f32 :=
  select (cmpf .olt u (broadcast S4096x1 (Scalar.ofBits (F := Ideal) .f32 0x00800000#32))) (broadcast S4096x1 (Scalar.ofBits (F := Ideal) .f32 0x3F800000#32))
    (shapeCast S4096x1 (multiReduction .minimumf [1] S4096
      (select (cmpf .ogt (broadcastTo S4096x256 (bitcastToFloat (F := Ideal) .f32 (shli (minsi (broadcast S1x256 253#32) (maxsi (broadcast S1x256 2#32)
          (iota .tc S1x256 32 [1] iota_S1x256_d1_w32))) (broadcast S1x256 23#32))) broadcasts_S1x256_S4096x256) (broadcastTo S4096x256 u broadcasts_S4096x1_S4096x256))
        (broadcastTo S4096x256 (shapeCast S1x256 (bitcastToFloat (F := Ideal) .f32 (shli (minsi (broadcast S1x256 253#32) (maxsi (broadcast S1x256 2#32)
          (iota .tc S1x256 32 [1] iota_S1x256_d1_w32))) (broadcast S1x256 23#32))) shapeCasts_S1x256_S1x256) broadcasts_S1x256_S4096x256)
        (broadcast S4096x256 (Scalar.ofBits (F := Ideal) .f32 0x7E800000#32)))
      0x7F800000#32 reduces_S4096x256_S4096 (.inl rfl) rfl) shapeCasts_S4096_S4096x1)

theorem scaleV_apply (u : FVec Ideal S4096x1 .f32) (n : Fin 4096) : scaleV u (ix2 n 0) = scale (u (ix2 n 0)) := by
  unfold scaleV
  pointwise []
  exact scale_ite _

theorem col_apply (v : FVec Ideal S4096 .f32) (n : Fin 4096) : shapeCast S4096x1 v shapeCasts_S4096_S4096x1 (ix2 n 0) = v (ix1 n) := by
  pointwise []

theorem mulc_apply (a : FVec Ideal S4096x1 .f32) (c : Ideal .f32) (n : Fin 4096) : mulf a (broadcast S4096x1 c) (ix2 n 0) = a (ix2 n 0) * c := by
  pointwise []

theorem max_x (v : FVec Ideal S4096x2048 .f32) (n : Fin 4096) :
    multiReduction .maximumf [1] S4096 (absf v) 0xFF800000#32 reduces_S4096x2048_S4096 (.inl rfl) rfl (ix1 n)
      = Finset.fold max (Ideal.ofBits FTy.f32 0xFF800000#32) (fun d : Fin 2048 => FloatOps.absf (F := Ideal) (φ := .f32) (v (ix2 n d))) Finset.univ := by
  pointwise []

theorem max_h (v : FVec Ideal S4096x5632 .f32) (n : Fin 4096) :
    multiReduction .maximumf [1] S4096 (absf v) 0xFF800000#32 reduces_S4096x5632_S4096 (.inl rfl) rfl (ix1 n)
      = Finset.fold max (Ideal.ofBits FTy.f32 0xFF800000#32) (fun d : Fin 5632 => FloatOps.absf (F := Ideal) (φ := .f32) (v (ix2 n d))) Finset.univ := by
  pointwise []

/-- The ratio of a row of the input, as the reference's operations. -/
def ratioX (v : FVec Ideal S4096x2048 .f32) : FVec Ideal S4096x1 .f32 :=
  mulf (shapeCast S4096x1 (multiReduction .maximumf [1] S4096 (absf v) 0xFF800000#32 reduces_S4096x2048_S4096 (.inl rfl) rfl) shapeCasts_S4096_S4096x1)
    (broadcast S4096x1 (Scalar.ofBits (F := Ideal) .f32 0x3B124925#32))

theorem ratioX_apply (v : FVec Ideal S4096x2048 .f32) (n : Fin 4096) (r : Fin 2048 → EReal) (h : ∀ d, v (ix2 n d) = r d) :
    ratioX v (ix2 n 0) = ratio r := by
  obtain rfl : (fun d : Fin 2048 => v (ix2 n d)) = r := funext h
  exact (mulc_apply _ _ n).trans (congrArg (· * Ideal.ofBits FTy.f32 0x3B124925#32) ((col_apply _ n).trans (max_x v n)))

/-- The ratio of a hidden row, as the reference's operations. -/
def ratioH (v : FVec Ideal S4096x5632 .f32) : FVec Ideal S4096x1 .f32 :=
  mulf (shapeCast S4096x1 (multiReduction .maximumf [1] S4096 (absf v) 0xFF800000#32 reduces_S4096x5632_S4096 (.inl rfl) rfl) shapeCasts_S4096_S4096x1)
    (broadcast S4096x1 (Scalar.ofBits (F := Ideal) .f32 0x3B124925#32))

theorem ratioH_apply (v : FVec Ideal S4096x5632 .f32) (n : Fin 4096) (r : Fin 5632 → EReal) (h : ∀ d, v (ix2 n d) = r d) :
    ratioH v (ix2 n 0) = ratio r := by
  obtain rfl : (fun d : Fin 5632 => v (ix2 n d)) = r := funext h
  exact (mulc_apply _ _ n).trans (congrArg (· * Ideal.ofBits FTy.f32 0x3B124925#32) ((col_apply _ n).trans (max_h v n)))

/-- The codes of the input, as the reference's operations. -/
def codeX (v : FVec Ideal S4096x2048 .f32) (s : FVec Ideal S4096x1 .f32) : FVec Ideal S4096x2048 .fp8e4m3 :=
  truncf .fp8e4m3 (minimumf (broadcast S4096x2048 (Scalar.ofBits (F := Ideal) .f32 0x43E00000#32))
    (maximumf (broadcast S4096x2048 (Scalar.ofBits (F := Ideal) .f32 0xC3E00000#32))
      (divf v (broadcastTo S4096x2048 s broadcasts_S4096x1_S4096x2048)))) bitsLt_fp8e4m3_f32

theorem codeX_apply (v : FVec Ideal S4096x2048 .f32) (s : FVec Ideal S4096x1 .f32) (n : Fin 4096) (d : Fin 2048) :
    codeX v s (ix2 n d) = min (Ideal.ofBits FTy.f32 0x43E00000#32) (max (Ideal.ofBits FTy.f32 0xC3E00000#32) (Ideal.div (v (ix2 n d)) (s (ix2 n 0)))) := by
  unfold codeX
  pointwise []

/-- The codes of the hidden rows, as the reference's operations. -/
def codeH (v : FVec Ideal S4096x5632 .f32) (s : FVec Ideal S4096x1 .f32) : FVec Ideal S4096x5632 .fp8e4m3 :=
  truncf .fp8e4m3 (minimumf (broadcast S4096x5632 (Scalar.ofBits (F := Ideal) .f32 0x43E00000#32))
    (maximumf (broadcast S4096x5632 (Scalar.ofBits (F := Ideal) .f32 0xC3E00000#32))
      (divf v (broadcastTo S4096x5632 s broadcasts_S4096x1_S4096x5632)))) bitsLt_fp8e4m3_f32

theorem codeH_apply (v : FVec Ideal S4096x5632 .f32) (s : FVec Ideal S4096x1 .f32) (n : Fin 4096) (d : Fin 5632) :
    codeH v s (ix2 n d) = min (Ideal.ofBits FTy.f32 0x43E00000#32) (max (Ideal.ofBits FTy.f32 0xC3E00000#32) (Ideal.div (v (ix2 n d)) (s (ix2 n 0)))) := by
  unfold codeH
  pointwise []

/-- A scaled product of the input's codes, as the reference's operations. -/
def dotX (a : FVec Ideal S4096x2048 .fp8e4m3) (s : FVec Ideal S4096x1 .f32) (w : FVec Ideal S2048x5632 .fp8e4m3) : FVec Ideal S4096x5632 .f32 :=
  mulf (matmul dot_S4096x2048_S2048x5632_S4096x5632_1_0_0_1_n_n none a w (constant S4096x5632 .f32 0x00000000#32))
    (broadcastTo S4096x5632 s broadcasts_S4096x1_S4096x5632)

theorem dotX_apply (a : FVec Ideal S4096x2048 .fp8e4m3) (s : FVec Ideal S4096x1 .f32) (w : FVec Ideal S2048x5632 .fp8e4m3) (n : Fin 4096) (f : Fin 5632) :
    dotX a s w (ix2 n f) = (∑ d : Fin 2048, a (ix2 n d) * w (ix2 d f)) * s (ix2 n 0) := by
  unfold dotX
  pointwise []

theorem pay2_a (v : Vec Ideal S4096x2048 .bf16) (n : Fin 4096) (d : Fin 2048) : k0_pay2 (F := Ideal) v (ix2 n d) = v (ix2 n d) := by
  pointwise [k0_pay2]

theorem pay6_a (v : Vec Ideal S1x5632 .f32) (f : Fin 5632) : k0_pay6 (F := Ideal) v (ix2 0 f) = v (ix2 0 f) := by
  pointwise [k0_pay6]

theorem pay7_a (g : FVec Ideal S4096x5632 .f32) (z : FVec Ideal S1x5632 .f32) (n : Fin 4096) (f : Fin 5632) :
    k0_pay7 (F := Ideal) g z (ix2 n f) = g (ix2 n f) * z (ix2 0 f) := by
  pointwise [k0_pay7]

theorem pay8_a (s : FVec Ideal S4096x1 .f32) (a : FVec Ideal S4096x2048 .fp8e4m3) (w : Vec Ideal S2048x5632 .fp8e4m3) (z : Vec Ideal S1x5632 .f32)
    (n : Fin 4096) (f : Fin 5632) :
    k0_pay8 (F := Ideal) s a w z (ix2 n f) = (∑ d : Fin 2048, a (ix2 n d) * w (ix2 d f)) * s (ix2 n 0) * z (ix2 0 f) := by
  pointwise [k0_pay8]

theorem logi_a (v : FVec Ideal S4096x5632 .f32) (n : Fin 4096) (f : Fin 5632) : logistic (F := Ideal) v (ix2 n f) = Ideal.logistic (v (ix2 n f)) := by
  pointwise []

theorem mul_a (v w : FVec Ideal S4096x5632 .f32) (n : Fin 4096) (f : Fin 5632) : mulf v w (ix2 n f) = v (ix2 n f) * w (ix2 n f) := by
  pointwise []

/-- The activation's derivative, as the reference's operations. -/
theorem der_a (g l u : FVec Ideal S4096x5632 .f32) (n : Fin 4096) (f : Fin 5632) :
    mulf (mulf l (addf (broadcast S4096x5632 (Scalar.ofBits (F := Ideal) .f32 0x3F800000#32))
      (mulf g (subf (broadcast S4096x5632 (Scalar.ofBits (F := Ideal) .f32 0x3F800000#32)) l)))) u (ix2 n f)
      = l (ix2 n f) * (1 + g (ix2 n f) * (1 - l (ix2 n f))) * u (ix2 n f) := by
  pointwise []

/-- The layer's output, as the reference's operations. -/
def outV (a : FVec Ideal S4096x5632 .fp8e4m3) (s : FVec Ideal S4096x1 .f32) (w : FVec Ideal S5632x2048 .fp8e4m3) (z : FVec Ideal S1x2048 .f32) :
    FVec Ideal S4096x2048 .bf16 :=
  truncf .bf16 (mulf (mulf (matmul dot_S4096x5632_S5632x2048_S4096x2048_1_0_0_1_n_n none a w (constant S4096x2048 .f32 0x00000000#32))
    (broadcastTo S4096x2048 s broadcasts_S4096x1_S4096x2048))
    (broadcastTo S4096x2048 (shapeCast S1x2048 z shapeCasts_S1x2048_S1x2048) broadcasts_S1x2048_S4096x2048)) bitsLt_bf16_f32

theorem outV_apply (a : FVec Ideal S4096x5632 .fp8e4m3) (s : FVec Ideal S4096x1 .f32) (w : FVec Ideal S5632x2048 .fp8e4m3) (z : FVec Ideal S1x2048 .f32)
    (n : Fin 4096) (d : Fin 2048) :
    outV a s w z (ix2 n d) = (∑ f : Fin 5632, a (ix2 n f) * w (ix2 f d)) * s (ix2 n 0) * z (ix2 0 d) := by
  unfold outV
  pointwise []

end Ops

/-! ## The primal pass -/

section Primal

variable (x0 : Vec Ideal S4096x2048 .bf16) (x1 : Vec Ideal S2048x5632 .fp8e4m3) (x2 : Vec Ideal S1x5632 .f32)
  (x3 : Vec Ideal S2048x5632 .fp8e4m3) (x4 : Vec Ideal S1x5632 .f32) (x5 : Vec Ideal S5632x2048 .fp8e4m3) (x6 : Vec Ideal S1x2048 .f32)
  (x7 x8 : Vec Ideal S2048x5632 .i8) (x9 : Vec Ideal S5632x2048 .i8)

/-- The layer whose inputs are the reference's arrays. -/
def layer : Layer where
  x n d := x0 (ix2 n d)
  wg d f := x1 (ix2 d f)
  zg f := x2 (ix2 0 f)
  wu d f := x3 (ix2 d f)
  zu f := x4 (ix2 0 f)
  wd f d := x5 (ix2 f d)
  zd d := x6 (ix2 0 d)
  vg d f := x7 (ix2 d f)
  vu d f := x8 (ix2 d f)
  vd f d := x9 (ix2 f d)

theorem scale_x (n : Fin 4096) : k0_pay3 (F := Ideal) x0 (ix2 n 0) = (layer x0 x1 x2 x3 x4 x5 x6 x7 x8 x9).sx n :=
  (scaleV_apply (ratioX (k0_pay2 (F := Ideal) x0)) n).trans (congrArg scale (ratioX_apply _ n ((layer x0 x1 x2 x3 x4 x5 x6 x7 x8 x9).x n) fun d => pay2_a x0 n d))

theorem code_x (n : Fin 4096) (d : Fin 2048) : k0_pay4 (F := Ideal) x0 (ix2 n d) = (layer x0 x1 x2 x3 x4 x5 x6 x7 x8 x9).xq n d := by
  refine (codeX_apply (k0_pay2 (F := Ideal) x0) (k0_pay3 (F := Ideal) x0) n d).trans ?_
  rw [scale_x x0 x1 x2 x3 x4 x5 x6 x7 x8 x9, pay2_a]
  unfold Layer.xq Layer.sx code rowScale
  rw [div_scale]
  rfl

theorem gate_x (n : Fin 4096) (f : Fin 5632) : k0_pay7 (k0_pay5 (F := Ideal) x0 x1) (k0_pay6 x2) (ix2 n f)
    = lin ((layer x0 x1 x2 x3 x4 x5 x6 x7 x8 x9).x n) (layer x0 x1 x2 x3 x4 x5 x6 x7 x8 x9).wg (layer x0 x1 x2 x3 x4 x5 x6 x7 x8 x9).zg f := by
  refine (pay7_a _ _ n f).trans ?_
  rw [pay6_a]
  refine (congrArg (· * x2 (ix2 0 f)) (dotX_apply (k0_pay4 (F := Ideal) x0) (k0_pay3 (F := Ideal) x0) x1 n f)).trans ?_
  simp only [scale_x x0 x1 x2 x3 x4 x5 x6 x7 x8 x9, code_x x0 x1 x2 x3 x4 x5 x6 x7 x8 x9]
  rfl

theorem up_x (n : Fin 4096) (f : Fin 5632) : k0_pay8 (F := Ideal) (k0_pay3 x0) (k0_pay4 x0) x3 x4 (ix2 n f)
    = lin ((layer x0 x1 x2 x3 x4 x5 x6 x7 x8 x9).x n) (layer x0 x1 x2 x3 x4 x5 x6 x7 x8 x9).wu (layer x0 x1 x2 x3 x4 x5 x6 x7 x8 x9).zu f := by
  refine (pay8_a _ _ _ _ n f).trans ?_
  simp only [scale_x x0 x1 x2 x3 x4 x5 x6 x7 x8 x9, code_x x0 x1 x2 x3 x4 x5 x6 x7 x8 x9]
  rfl

theorem logi_x (n : Fin 4096) (f : Fin 5632) : k0_pay9 (k0_pay5 (F := Ideal) x0 x1) (k0_pay6 x2) (ix2 n f)
    = Ideal.logistic (lin ((layer x0 x1 x2 x3 x4 x5 x6 x7 x8 x9).x n) (layer x0 x1 x2 x3 x4 x5 x6 x7 x8 x9).wg (layer x0 x1 x2 x3 x4 x5 x6 x7 x8 x9).zg f) :=
  (logi_a _ n f).trans (congrArg Ideal.logistic (gate_x x0 x1 x2 x3 x4 x5 x6 x7 x8 x9 n f))

theorem silu_x (n : Fin 4096) (f : Fin 5632) : k0_pay10 (k0_pay5 (F := Ideal) x0 x1) (k0_pay6 x2) (ix2 n f)
    = (layer x0 x1 x2 x3 x4 x5 x6 x7 x8 x9).act n f := by
  refine (mul_a (k0_pay7 (k0_pay5 (F := Ideal) x0 x1) (k0_pay6 x2)) (k0_pay9 (k0_pay5 (F := Ideal) x0 x1) (k0_pay6 x2)) n f).trans ?_
  rw [gate_x x0 x1 x2 x3 x4 x5 x6 x7 x8 x9, logi_x x0 x1 x2 x3 x4 x5 x6 x7 x8 x9]
  rfl

theorem dsilu_x (n : Fin 4096) (f : Fin 5632) : k0_pay11 (F := Ideal) (k0_pay3 x0) (k0_pay4 x0) (k0_pay5 (F := Ideal) x0 x1) (k0_pay6 x2) x3 x4 (ix2 n f)
    = (layer x0 x1 x2 x3 x4 x5 x6 x7 x8 x9).dact n f := by
  refine (der_a (k0_pay7 (k0_pay5 (F := Ideal) x0 x1) (k0_pay6 x2)) (k0_pay9 (k0_pay5 (F := Ideal) x0 x1) (k0_pay6 x2))
    (k0_pay8 (F := Ideal) (k0_pay3 x0) (k0_pay4 x0) x3 x4) n f).trans ?_
  rw [gate_x x0 x1 x2 x3 x4 x5 x6 x7 x8 x9, logi_x x0 x1 x2 x3 x4 x5 x6 x7 x8 x9, up_x x0 x1 x2 x3 x4 x5 x6 x7 x8 x9]
  rfl

theorem hid_x (n : Fin 4096) (f : Fin 5632) : k0_pay12 (F := Ideal) (k0_pay3 x0) (k0_pay4 x0) (k0_pay5 (F := Ideal) x0 x1) (k0_pay6 x2) x3 x4 (ix2 n f)
    = (layer x0 x1 x2 x3 x4 x5 x6 x7 x8 x9).hidden n f := by
  refine (mul_a (k0_pay10 (k0_pay5 (F := Ideal) x0 x1) (k0_pay6 x2)) (k0_pay8 (F := Ideal) (k0_pay3 x0) (k0_pay4 x0) x3 x4) n f).trans ?_
  rw [silu_x x0 x1 x2 x3 x4 x5 x6 x7 x8 x9, up_x x0 x1 x2 x3 x4 x5 x6 x7 x8 x9]
  rfl

theorem scale_h (n : Fin 4096) : k0_pay16 (k0_pay14 (F := Ideal) (k0_pay3 x0) (k0_pay4 x0) (k0_pay5 (F := Ideal) x0 x1) (k0_pay6 x2) x3 x4)
    (k0_pay15 (F := Ideal) (k0_pay3 x0) (k0_pay4 x0) (k0_pay5 (F := Ideal) x0 x1) (k0_pay6 x2) x3 x4) (Scalar.ofBits (F := Ideal) .f32 0x3F800000#32) (ix2 n 0)
    = (layer x0 x1 x2 x3 x4 x5 x6 x7 x8 x9).sh n :=
  (scaleV_apply (ratioH (k0_pay12 (F := Ideal) (k0_pay3 x0) (k0_pay4 x0) (k0_pay5 (F := Ideal) x0 x1) (k0_pay6 x2) x3 x4)) n).trans
    (congrArg scale (ratioH_apply _ n ((layer x0 x1 x2 x3 x4 x5 x6 x7 x8 x9).hidden n) fun f => hid_x x0 x1 x2 x3 x4 x5 x6 x7 x8 x9 n f))

theorem code_h (n : Fin 4096) (f : Fin 5632) :
    k0_pay17 (F := Ideal) (k0_pay12 (F := Ideal) (k0_pay3 x0) (k0_pay4 x0) (k0_pay5 (F := Ideal) x0 x1) (k0_pay6 x2) x3 x4)
      (k0_pay14 (F := Ideal) (k0_pay3 x0) (k0_pay4 x0) (k0_pay5 (F := Ideal) x0 x1) (k0_pay6 x2) x3 x4)
      (k0_pay15 (F := Ideal) (k0_pay3 x0) (k0_pay4 x0) (k0_pay5 (F := Ideal) x0 x1) (k0_pay6 x2) x3 x4) (Scalar.ofBits (F := Ideal) .f32 0x3F800000#32) (ix2 n f)
    = (layer x0 x1 x2 x3 x4 x5 x6 x7 x8 x9).hq n f := by
  refine (codeH_apply (k0_pay12 (F := Ideal) (k0_pay3 x0) (k0_pay4 x0) (k0_pay5 (F := Ideal) x0 x1) (k0_pay6 x2) x3 x4) (k0_pay16 (k0_pay14 (F := Ideal) (k0_pay3 x0) (k0_pay4 x0) (k0_pay5 (F := Ideal) x0 x1) (k0_pay6 x2) x3 x4)
    (k0_pay15 (F := Ideal) (k0_pay3 x0) (k0_pay4 x0) (k0_pay5 (F := Ideal) x0 x1) (k0_pay6 x2) x3 x4) (Scalar.ofBits (F := Ideal) .f32 0x3F800000#32)) n f).trans ?_
  rw [scale_h x0 x1 x2 x3 x4 x5 x6 x7 x8 x9, hid_x x0 x1 x2 x3 x4 x5 x6 x7 x8 x9]
  unfold Layer.hq Layer.sh code rowScale
  rw [div_scale]

/-! A load of a whole array is the array. -/

theorem hz : (![0, 0] : Fin 2 → ℕ) = fun _ => 0 := by
  funext a
  fin_cases a <;> rfl

theorem ld_x (a : Vec Ideal S4096x2048 .bf16) : View.ld a r0_0 = a := View.ld_unit_zero (S := S4096x2048) hz _ a
theorem ld_w (a : Vec Ideal S2048x5632 .fp8e4m3) : View.ld a r0_1 = a := View.ld_unit_zero (S := S2048x5632) hz _ a
theorem ld_v (a : Vec Ideal S2048x5632 .i8) : View.ld a r0_1 = a := View.ld_unit_zero (S := S2048x5632) hz _ a
theorem ld_z (a : Vec Ideal S1x5632 .f32) : View.ld a r0_2 = a := View.ld_unit_zero (S := S1x5632) hz _ a
theorem ld_wd (a : Vec Ideal S5632x2048 .fp8e4m3) : View.ld a r0_3 = a := View.ld_unit_zero (S := S5632x2048) hz _ a
theorem ld_vd (a : Vec Ideal S5632x2048 .i8) : View.ld a r0_3 = a := View.ld_unit_zero (S := S5632x2048) hz _ a
theorem ld_zd (a : Vec Ideal S1x2048 .f32) : View.ld a r0_4 = a := View.ld_unit_zero (S := S1x2048) hz _ a

/-! The values that the stores share, at an index. -/

theorem p65 (n : Fin 4096) : k0_pay65 (F := Ideal) x0 x1 x2 x3 x4 x5 x6 x7 x8 x9 (ix2 n 0) = (layer x0 x1 x2 x3 x4 x5 x6 x7 x8 x9).sx n := by
  unfold k0_pay65
  rw [ld_x]
  exact scale_x x0 x1 x2 x3 x4 x5 x6 x7 x8 x9 n

theorem p66 (n : Fin 4096) (d : Fin 2048) : k0_pay66 (F := Ideal) x0 x1 x2 x3 x4 x5 x6 x7 x8 x9 (ix2 n d) = (layer x0 x1 x2 x3 x4 x5 x6 x7 x8 x9).xq n d := by
  unfold k0_pay66
  rw [ld_x]
  exact code_x x0 x1 x2 x3 x4 x5 x6 x7 x8 x9 n d

theorem p75 (n : Fin 4096) (d : Fin 2048) : k0_pay75 (F := Ideal) x0 x1 x2 x3 x4 x5 x6 x7 x8 x9 (ix2 n d) = (layer x0 x1 x2 x3 x4 x5 x6 x7 x8 x9).xq n d := by
  unfold k0_pay75
  exact p66 x0 x1 x2 x3 x4 x5 x6 x7 x8 x9 n d

theorem p69 (n : Fin 4096) (f : Fin 5632) : k0_pay69 (F := Ideal) x0 x1 x2 x3 x4 x5 x6 x7 x8 x9 (ix2 n f) = (layer x0 x1 x2 x3 x4 x5 x6 x7 x8 x9).act n f := by
  unfold k0_pay69 k0_pay67 k0_pay68
  rw [ld_x, ld_w, ld_z]
  exact silu_x x0 x1 x2 x3 x4 x5 x6 x7 x8 x9 n f

theorem p70 (n : Fin 4096) (f : Fin 5632) : k0_pay70 (F := Ideal) x0 x1 x2 x3 x4 x5 x6 x7 x8 x9 (ix2 n f) = (layer x0 x1 x2 x3 x4 x5 x6 x7 x8 x9).dact n f := by
  unfold k0_pay70 k0_pay65 k0_pay66 k0_pay67 k0_pay68
  rw [ld_x, ld_w, ld_z, ld_w, ld_z]
  exact dsilu_x x0 x1 x2 x3 x4 x5 x6 x7 x8 x9 n f

theorem p74 (n : Fin 4096) : k0_pay74 (F := Ideal) x0 x1 x2 x3 x4 x5 x6 x7 x8 x9 (ix2 n 0) = (layer x0 x1 x2 x3 x4 x5 x6 x7 x8 x9).sh n := by
  unfold k0_pay74 k0_pay72 k0_pay73 k0_pay65 k0_pay66 k0_pay67 k0_pay68
  rw [ld_x, ld_w, ld_z, ld_w, ld_z]
  exact scale_h x0 x1 x2 x3 x4 x5 x6 x7 x8 x9 n

theorem p17 (n : Fin 4096) (f : Fin 5632) : k0_pay17 (F := Ideal) (k0_pay71 x0 x1 x2 x3 x4 x5 x6 x7 x8 x9) (k0_pay72 x0 x1 x2 x3 x4 x5 x6 x7 x8 x9) (k0_pay73 x0 x1 x2 x3 x4 x5 x6 x7 x8 x9)
    (Scalar.ofBits (F := Ideal) .f32 0x3F800000#32) (ix2 n f) = (layer x0 x1 x2 x3 x4 x5 x6 x7 x8 x9).hq n f := by
  unfold k0_pay71 k0_pay72 k0_pay73 k0_pay65 k0_pay66 k0_pay67 k0_pay68
  rw [ld_x, ld_w, ld_z, ld_w, ld_z]
  exact code_h x0 x1 x2 x3 x4 x5 x6 x7 x8 x9 n f

theorem p76 (n : Fin 4096) (f : Fin 5632) : k0_pay76 (F := Ideal) x0 x1 x2 x3 x4 x5 x6 x7 x8 x9 (ix2 n f) = (layer x0 x1 x2 x3 x4 x5 x6 x7 x8 x9).hq n f := by
  unfold k0_pay76
  exact p17 x0 x1 x2 x3 x4 x5 x6 x7 x8 x9 n f

theorem p77 (f : Fin 5632) (d : Fin 2048) : k0_pay77 (F := Ideal) x0 x1 x2 x3 x4 x5 x6 x7 x8 x9 (ix2 f d) = x5 (ix2 f d) := by
  unfold k0_pay77
  rw [ld_wd]
  rfl

theorem p18 (n : Fin 4096) (d : Fin 2048) : k0_pay18 (F := Ideal) (k0_pay71 x0 x1 x2 x3 x4 x5 x6 x7 x8 x9) (k0_pay72 x0 x1 x2 x3 x4 x5 x6 x7 x8 x9) (k0_pay73 x0 x1 x2 x3 x4 x5 x6 x7 x8 x9)
    (Scalar.ofBits (F := Ideal) .f32 0x3F800000#32) x5 x6 (ix2 n d) = (layer x0 x1 x2 x3 x4 x5 x6 x7 x8 x9).y n d := by
  refine (outV_apply (k0_pay17 (F := Ideal) (k0_pay71 x0 x1 x2 x3 x4 x5 x6 x7 x8 x9) (k0_pay72 x0 x1 x2 x3 x4 x5 x6 x7 x8 x9) (k0_pay73 x0 x1 x2 x3 x4 x5 x6 x7 x8 x9) (Scalar.ofBits (F := Ideal) .f32 0x3F800000#32))
    (k0_pay74 x0 x1 x2 x3 x4 x5 x6 x7 x8 x9) x5 x6 n d).trans ?_
  rw [p74 x0 x1 x2 x3 x4 x5 x6 x7 x8 x9]
  simp only [p17 x0 x1 x2 x3 x4 x5 x6 x7 x8 x9]
  rfl

end Primal

end Proof.Ref

end
-- ==== Proof.Tail.lean ====
/-
  The host operations after the kernel's last call, read at an index.
-/
module

public import proofs.«01_k».proof.Proof.Full
public import proofs.«01_k».proof.Proof.Gen.KernelIdeal.Launch
public import Idealize.ShloMosaic.Lib.StableHlo.RunRead
public import Idealize.ShloMosaic.Lib.Pipeline.ValueKit

@[expose] public section

set_option maxRecDepth 16384

noncomputable section

namespace Proof.Tail

open Idealize.ShloMosaic Idealize.ShloMosaic.TcCoe Idealize.SL.Sem Cert.KernelIdeal Cert.KernelIdeal.Gen Proof.Full

variable (W : Valuation τ sig (Elt Ideal))

theorem v17 : StableHlo.after hostOps4 W (Proc.devRef .tc main_v17)
    = shapeCast S4x1024x2048 (W (Proc.devRef .tc main_v7_3)) shapeCasts_S4096x2048_S4x1024x2048 := by
  after_reads_simp
  rfl

theorem v12 (S : Fin 3 → Fin 8 → Fin 4096 → EReal)
    (h0 : ∀ k n, (W (Proc.devRef .tc main_v5_1) : FVec Ideal S8x1x4096 .f32) (ix3 k 0 n) = S 0 k n)
    (h1 : ∀ k n, (W (Proc.devRef .tc main_v6_1) : FVec Ideal S8x1x4096 .f32) (ix3 k 0 n) = S 1 k n)
    (h2 : ∀ k n, (W (Proc.devRef .tc main_v7_1) : FVec Ideal S8x1x4096 .f32) (ix3 k 0 n) = S 2 k n)
    (b : Fin 3) (k : Fin 8) (r : Fin 4) (s : Fin 1024) :
    (show FVec Ideal S3x8x4x1024 .f32 from StableHlo.after hostOps4 W (Proc.devRef .tc main_v12)) (ix4 b k r s)
      = S b k ⟨r.val * 1024 + s.val, by omega⟩ := by
  after_reads_simp
  pointwise []
  fin_cases b
  · simp
    after_reads_simp
    pointwise []
    exact h0 _ _
  · simp
    after_reads_simp
    pointwise []
    exact h1 _ _
  · simp
    after_reads_simp
    pointwise []
    exact h2 _ _

/-- The trace estimates. -/
theorem v16 (S : Fin 3 → Fin 128 → EReal)
    (h0 : ∀ l, (W (Proc.devRef .tc main_v5_2) : FVec Ideal S1x128 .f32) (ix2 0 l) = S 0 l)
    (h1 : ∀ l, (W (Proc.devRef .tc main_v6_2) : FVec Ideal S1x128 .f32) (ix2 0 l) = S 1 l)
    (h2 : ∀ l, (W (Proc.devRef .tc main_v7_2) : FVec Ideal S1x128 .f32) (ix2 0 l) = S 2 l)
    (b : Fin 3) : (show FVec Ideal S3 .f32 from StableHlo.after hostOps4 W (Proc.devRef .tc main_v16)) (ix1 b)
      = Ideal.div (∑ l, S b l) (Ideal.ofBits .f32 0x47000000#32) := by
  after_reads_simp
  pointwise []
  congr 1
  refine Finset.sum_congr rfl fun l _ => ?_
  fin_cases b
  · simp
    after_reads_simp
    exact h0 l
  · simp
    after_reads_simp
    exact h1 l
  · simp
    after_reads_simp
    exact h2 l

/-- The scales of the input's rows. -/
theorem v22 (r : Fin 4) (s : Fin 1024) :
    (show FVec Ideal S4x1024 .f32 from StableHlo.after hostOps4 W (Proc.devRef .tc main_v22)) (ix2 r s)
      = (W (Proc.devRef .tc main_v4_1) : FVec Ideal S4096x128 .f32) (ix2 ⟨r.val * 1024 + s.val, by omega⟩ 0) := by
  after_reads_simp
  pointwise []

theorem v26 (r : Fin 4) (s : Fin 1024) :
    (show FVec Ideal S4x1024 .f32 from StableHlo.after hostOps4 W (Proc.devRef .tc main_v26)) (ix2 r s)
      = (W (Proc.devRef .tc main_v4_5) : FVec Ideal S4096x128 .f32) (ix2 ⟨r.val * 1024 + s.val, by omega⟩ 0) := by
  after_reads_simp
  pointwise []

theorem v18 : StableHlo.after hostOps4 W (Proc.devRef .tc main_v18)
    = shapeCast S3x4x1024x2048 (W (Proc.devRef .tc main_v7_0)) shapeCasts_S3x4096x2048_S3x4x1024x2048 := by
  after_reads_simp
  rfl

theorem v19 : StableHlo.after hostOps4 W (Proc.devRef .tc main_v19)
    = shapeCast S4x1024x2048 (W (Proc.devRef .tc main_v4_0)) shapeCasts_S4096x2048_S4x1024x2048 := by
  after_reads_simp
  rfl

theorem v23 : StableHlo.after hostOps4 W (Proc.devRef .tc main_v23)
    = shapeCast S4x1024x5632 (W (Proc.devRef .tc main_v4_4)) shapeCasts_S4096x5632_S4x1024x5632 := by
  after_reads_simp
  rfl

end Proof.Tail

end
-- ==== Proof.Block.lean ====
/-
  One block of 512 tokens and one probe in the three tangent calls, as plain sums over the extended reals. In the two hidden
  branches the body forms the product of the token codes with the probe's signs in eleven column chunks, scales and weights each,
  keeps them in a scratch array, multiplies the scratch with the down-projection weights in four column chunks, and adds up the
  squares of the result. In the down branch the product with the signs is the result itself.
-/
module

public import proofs.«01_k».proof.Proof.Signs
public import proofs.«01_k».proof.Proof.Full
public import proofs.«01_k».proof.Proof.Gen.KernelIdeal.Skeleton
public import Idealize.ShloMosaic.Lib.Pipeline.ValueKit
public import Idealize.ShloMosaic.Lib.Pipeline.ReadBack
public import Idealize.ShloMosaic.Lib.Ring

@[expose] public section

set_option maxRecDepth 16384

noncomputable section

namespace Proof.Block

open Idealize.ShloMosaic Cert.KernelIdeal Cert.KernelIdeal.Gen Proof.Signs Proof.Full

/-! ## What the block computes -/

/-- The weighted product of the codes with the signs of probe `k`: the scratch array. -/
def tArr (k : ℕ) (x0 : Vec Ideal S512x2048 .fp8e4m3) (x1 : Vec Ideal S512x128 .f32) (x2 : Vec Ideal S512x5632 .f32)
    (x3 : Vec Ideal S2048x5632 .i8) : Vec Ideal S512x5632 .bf16 := fun j =>
  x2 j * ((∑ d : Fin 2048, x0 (ix2 (j 0) d) * sgn k (x3 (ix2 d (j 1)))) * x1 (ix2 (j 0) 0))

/-- The block's rows of the directional derivative. -/
def dyArr (t : Vec Ideal S512x5632 .bf16) (x4 : Vec Ideal S5632x2048 .fp8e4m3) (x5 : Vec Ideal S1x2048 .f32)
    (p : Fin 512) (q : Fin 2048) : EReal :=
  (∑ f : Fin 5632, t (ix2 p f) * x4 (ix2 f q)) * x5 (ix2 0 q)

/-! ## The scratch array -/

/-- The shift that step `i` applies brings bit `7 - i` of a byte to the top. -/
theorem shift_eq (n : ℕ) (h : n < 8) : (Scalar.subi 7#32 (Scalar.subi 7#32 (BitVec.ofNat 32 n))).toNat + (7 - n) = 7 := by
  interval_cases n <;> rfl

section Chunk

variable (s : BitVec 32) (k : ℕ) (v1 : Vec Ideal S512x1 .f32) (v2 : Vec Ideal S512x2048 .fp8e4m3)
  (w : Vec Ideal S2048x512 .i8) (z : Vec Ideal S512x512 .f32)

/-- One column chunk of the scratch array, as the kernel's operations. -/
def chunkV : FVec Ideal S512x512 .bf16 := k1_pay13 (F := Ideal) s (k1_pay8 v1) (k1_pay9 v2) w z

theorem chunk_apply (hk : (Scalar.subi 7#32 s).toNat + k = 7) (j : S512x512.Idx) :
    chunkV s v1 v2 w z j
      = z j * ((∑ d : Fin 2048, v2 (ix2 (j 0) d) * sgn k (w (ix2 d (j 1)))) * v1 (ix2 (j 0) 0)) := by
  idx_vars j
  pointwise [chunkV, k1_pay13, k1_pay8, k1_pay9]
  refine congrArg (_ * ·) (congrArg (· * _) (Finset.sum_congr rfl fun d _ => congrArg _ ?_))
  exact signs_apply w _ _ _ _ hk _

/-- A chunk loaded from whole arrays at column offset `o` is that part of the scratch array. -/
theorem chunk_block (hk : (Scalar.subi 7#32 s).toNat + k = 7) (x0 : Vec Ideal S512x2048 .fp8e4m3) (x1 : Vec Ideal S512x128 .f32)
    (x2 : Vec Ideal S512x5632 .f32) (x3 : Vec Ideal S2048x5632 .i8) (o : ℕ) (h1) (h2) (h3)
    (j : (Rect.unit (s := S512x5632) ![0, o] ![512, 512] h3).shape.Idx) :
    chunkV s (View.ld x1 (Rect.unit ![0, 0] ![512, 1] h1)) x0
        (View.ld x3 (Rect.unit ![0, o] ![2048, 512] h2)) (View.ld x2 (Rect.unit ![0, o] ![512, 512] h3)) j
      = tArr k x0 x1 x2 x3 ((Rect.unit (s := S512x5632) ![0, o] ![512, 512] h3).emb j) := by
  refine (chunk_apply s k _ _ _ _ hk j).trans ?_
  unfold tArr
  have e2 : View.ld x2 (Rect.unit ![0, o] ![512, 512] h3) j = x2 ((Rect.unit (s := S512x5632) ![0, o] ![512, 512] h3).emb j) := rfl
  rw [e2]
  refine congrArg (_ * ·) (congrArg₂ (· * ·) (Finset.sum_congr rfl fun d _ => congrArg₂ (· * ·) (congrArg x0 ?_) (congrArg (fun b => sgn k (x3 b)) ?_)) (congrArg x1 ?_))
  · funext a; refine Fin.ext ?_; fin_cases a <;> simp [Rect.emb_apply, ix2]
  · funext a; refine Fin.ext ?_; fin_cases a <;> simp [Rect.emb_apply, ix2]
  · funext a; refine Fin.ext ?_; fin_cases a <;> simp [Rect.emb_apply, ix2]

/-- The eleven stores into the scratch array, last first. -/
def pieces (x0 : Vec Ideal S512x2048 .fp8e4m3) (x1 : Vec Ideal S512x128 .f32) (x2 : Vec Ideal S512x5632 .f32)
    (x3 : Vec Ideal S2048x5632 .i8) : List (View.Piece (Elt Ideal) S512x5632 .bf16) :=
  [ ⟨Rect.unit ![0, 5120] ![512, 512] inb_S512x5632_S512x512_0_5120, chunkV s (View.ld x1 (Rect.unit ![0, 0] ![512, 1] inb_S512x128_S512x1_0_0)) x0
      (View.ld x3 (Rect.unit ![0, 5120] ![2048, 512] inb_S2048x5632_S2048x512_0_5120)) (View.ld x2 (Rect.unit ![0, 5120] ![512, 512] inb_S512x5632_S512x512_0_5120))⟩,
    ⟨Rect.unit ![0, 4608] ![512, 512] inb_S512x5632_S512x512_0_4608, chunkV s (View.ld x1 (Rect.unit ![0, 0] ![512, 1] inb_S512x128_S512x1_0_0)) x0
      (View.ld x3 (Rect.unit ![0, 4608] ![2048, 512] inb_S2048x5632_S2048x512_0_4608)) (View.ld x2 (Rect.unit ![0, 4608] ![512, 512] inb_S512x5632_S512x512_0_4608))⟩,
    ⟨Rect.unit ![0, 4096] ![512, 512] inb_S512x5632_S512x512_0_4096, chunkV s (View.ld x1 (Rect.unit ![0, 0] ![512, 1] inb_S512x128_S512x1_0_0)) x0
      (View.ld x3 (Rect.unit ![0, 4096] ![2048, 512] inb_S2048x5632_S2048x512_0_4096)) (View.ld x2 (Rect.unit ![0, 4096] ![512, 512] inb_S512x5632_S512x512_0_4096))⟩,
    ⟨Rect.unit ![0, 3584] ![512, 512] inb_S512x5632_S512x512_0_3584, chunkV s (View.ld x1 (Rect.unit ![0, 0] ![512, 1] inb_S512x128_S512x1_0_0)) x0
      (View.ld x3 (Rect.unit ![0, 3584] ![2048, 512] inb_S2048x5632_S2048x512_0_3584)) (View.ld x2 (Rect.unit ![0, 3584] ![512, 512] inb_S512x5632_S512x512_0_3584))⟩,
    ⟨Rect.unit ![0, 3072] ![512, 512] inb_S512x5632_S512x512_0_3072, chunkV s (View.ld x1 (Rect.unit ![0, 0] ![512, 1] inb_S512x128_S512x1_0_0)) x0
      (View.ld x3 (Rect.unit ![0, 3072] ![2048, 512] inb_S2048x5632_S2048x512_0_3072)) (View.ld x2 (Rect.unit ![0, 3072] ![512, 512] inb_S512x5632_S512x512_0_3072))⟩,
    ⟨Rect.unit ![0, 2560] ![512, 512] inb_S512x5632_S512x512_0_2560, chunkV s (View.ld x1 (Rect.unit ![0, 0] ![512, 1] inb_S512x128_S512x1_0_0)) x0
      (View.ld x3 (Rect.unit ![0, 2560] ![2048, 512] inb_S2048x5632_S2048x512_0_2560)) (View.ld x2 (Rect.unit ![0, 2560] ![512, 512] inb_S512x5632_S512x512_0_2560))⟩,
    ⟨Rect.unit ![0, 2048] ![512, 512] inb_S512x5632_S512x512_0_2048, chunkV s (View.ld x1 (Rect.unit ![0, 0] ![512, 1] inb_S512x128_S512x1_0_0)) x0
      (View.ld x3 (Rect.unit ![0, 2048] ![2048, 512] inb_S2048x5632_S2048x512_0_2048)) (View.ld x2 (Rect.unit ![0, 2048] ![512, 512] inb_S512x5632_S512x512_0_2048))⟩,
    ⟨Rect.unit ![0, 1536] ![512, 512] inb_S512x5632_S512x512_0_1536, chunkV s (View.ld x1 (Rect.unit ![0, 0] ![512, 1] inb_S512x128_S512x1_0_0)) x0
      (View.ld x3 (Rect.unit ![0, 1536] ![2048, 512] inb_S2048x5632_S2048x512_0_1536)) (View.ld x2 (Rect.unit ![0, 1536] ![512, 512] inb_S512x5632_S512x512_0_1536))⟩,
    ⟨Rect.unit ![0, 1024] ![512, 512] inb_S512x5632_S512x512_0_1024, chunkV s (View.ld x1 (Rect.unit ![0, 0] ![512, 1] inb_S512x128_S512x1_0_0)) x0
      (View.ld x3 (Rect.unit ![0, 1024] ![2048, 512] inb_S2048x5632_S2048x512_0_1024)) (View.ld x2 (Rect.unit ![0, 1024] ![512, 512] inb_S512x5632_S512x512_0_1024))⟩,
    ⟨Rect.unit ![0, 512] ![512, 512] inb_S512x5632_S512x512_0_512, chunkV s (View.ld x1 (Rect.unit ![0, 0] ![512, 1] inb_S512x128_S512x1_0_0)) x0
      (View.ld x3 (Rect.unit ![0, 512] ![2048, 512] inb_S2048x5632_S2048x512_0_512)) (View.ld x2 (Rect.unit ![0, 512] ![512, 512] inb_S512x5632_S512x512_0_512))⟩,
    ⟨Rect.unit ![0, 0] ![512, 512] inb_S512x5632_S512x512_0_0, chunkV s (View.ld x1 (Rect.unit ![0, 0] ![512, 1] inb_S512x128_S512x1_0_0)) x0
      (View.ld x3 (Rect.unit ![0, 0] ![2048, 512] inb_S2048x5632_S2048x512_0_0)) (View.ld x2 (Rect.unit ![0, 0] ![512, 512] inb_S512x5632_S512x512_0_0))⟩]

/-- The scratch array read back whole after the eleven stores. -/
theorem scratch (v : View sig .tc .vmem S512x5632 .bf16) (hk : (Scalar.subi 7#32 s).toNat + k = 7)
    (x0 : Vec Ideal S512x2048 .fp8e4m3) (x1 : Vec Ideal S512x128 .f32) (x2 : Vec Ideal S512x5632 .f32)
    (x3 : Vec Ideal S2048x5632 .i8) :
    v.readCov (pieces s x0 x1 x2 x3) (Rect.unit (s := S512x5632) ![0, 0] ![512, 5632] inb_S512x5632_S512x5632_0_0).toLoadRect
      = tArr k x0 x1 x2 x3 := by
  rw [View.readCov_eq_canon']
  funext j
  have hp : View.PiecesOf (tArr k x0 x1 x2 x3) (pieces s x0 x1 x2 x3) := by
    refine ⟨?_, ?_, ?_, ?_, ?_, ?_, ?_, ?_, ?_, ?_, ?_, trivial⟩ <;> exact fun j => chunk_block s k hk x0 x1 x2 x3 _ _ _ _ j
  have e : (Rect.unit (s := S512x5632) ![0, 0] ![512, 5632] inb_S512x5632_S512x5632_0_0).toLoadRect.idx j = j := by
    funext a; refine Fin.ext ?_; fin_cases a <;> simp
  rw [e]
  refine View.canon_append_of_piecesOf (tArr k x0 x1 x2 x3) [] (pieces s x0 x1 x2 x3) hp j ?_
  exact View.cover_of_tiledL (pieces s x0 x1 x2 x3) ![512, 512] (by sl_kernel_rfl) j

end Chunk

/-! ## The product with the down-projection weights -/

section Down

variable (T : Vec Ideal S512x5632 .bf16) (x4 : Vec Ideal S5632x2048 .fp8e4m3) (x5 : Vec Ideal S1x2048 .f32)

/-- One column chunk of the derivative, read at an index. -/
theorem down_apply (w : Vec Ideal S5632x512 .fp8e4m3) (z : Vec Ideal S1x512 .f32) (p q : Fin 512) :
    k1_pay28 (F := Ideal) T w z (ix2 p q) = (∑ f : Fin 5632, T (ix2 p f) * w (ix2 f q)) * z (ix2 0 q) := by
  pointwise [k1_pay28]

/-- A chunk loaded from whole arrays at column offset `o` is that part of the block's derivative. -/
theorem down_block (o : ℕ) (h1) (h2) (p q : Fin 512) (d : Fin 2048) (hd : d.val = o + q.val) :
    k1_pay28 (F := Ideal) T (View.ld x4 (Rect.unit ![0, o] ![5632, 512] h1)) (View.ld x5 (Rect.unit ![0, o] ![1, 512] h2)) (ix2 p q)
      = dyArr T x4 x5 p d := by
  refine (down_apply T _ _ p q).trans ?_
  unfold dyArr
  refine congrArg₂ (· * ·) (Finset.sum_congr rfl fun f _ => congrArg (_ * ·) (congrArg x4 ?_)) (congrArg x5 ?_)
  · funext a; refine Fin.ext ?_; fin_cases a <;> simp [Rect.emb_apply, ix2, hd]
  · funext a; refine Fin.ext ?_; fin_cases a <;> simp [Rect.emb_apply, ix2, hd]

end Down

/-! ## The squares -/

/-- A sum over 2048 columns is the sum over 128 lanes of 16 columns each. -/
theorem lanes_sum (g : Fin 2048 → EReal) :
    ∑ d : Fin 2048, g d = ∑ l : Fin 128, ∑ a : Fin 16, g ⟨128 * a.val + l.val, by omega⟩ := by
  rw [Finset.sum_comm, ← Fintype.sum_prod_type', ← (finProdFinEquiv (m := 16) (n := 128)).sum_comp]
  refine Finset.sum_congr rfl fun x _ => congrArg g (Fin.ext ?_)
  simp [finProdFinEquiv, Nat.add_comm]

/-- The sum of the squares of a block row. -/
def sqArr (g : Fin 512 → Fin 2048 → EReal) (p : Fin 512) : EReal := ∑ d : Fin 2048, g p d * g p d

section Squares

variable (A : FVec Ideal S512x128 .f32) (D D0 D1 D2 D3 : FVec Ideal S512x512 .f32)

/-- The lane sums with the squares of one chunk added, four lane groups in turn. -/
def addSq : FVec Ideal S512x128 .f32 :=
  addf (addf (addf (addf A (extractStridedSlice S512x128 ![0, 0] (mulf D D) slices_S512x512_o0_0_S512x128))
    (extractStridedSlice S512x128 ![0, 128] (mulf D D) slices_S512x512_o0_128_S512x128))
    (extractStridedSlice S512x128 ![0, 256] (mulf D D) slices_S512x512_o0_256_S512x128))
    (extractStridedSlice S512x128 ![0, 384] (mulf D D) slices_S512x512_o0_384_S512x128)

/-- The lane partial sums of the squares of the four chunks. -/
def part : FVec Ideal S512x128 .f32 := addSq (addSq (addSq (addSq (k1_pay27 (F := Ideal)) D0) D1) D2) D3

variable (g : Fin 512 → Fin 2048 → EReal)
  (h0 : ∀ (p q : Fin 512) (d : Fin 2048), d.val = 0 + q.val → D0 (ix2 p q) = g p d)
  (h1 : ∀ (p q : Fin 512) (d : Fin 2048), d.val = 512 + q.val → D1 (ix2 p q) = g p d)
  (h2 : ∀ (p q : Fin 512) (d : Fin 2048), d.val = 1024 + q.val → D2 (ix2 p q) = g p d)
  (h3 : ∀ (p q : Fin 512) (d : Fin 2048), d.val = 1536 + q.val → D3 (ix2 p q) = g p d)

include h0 h1 h2 h3

theorem part_apply (p : Fin 512) (l : Fin 128) :
    part D0 D1 D2 D3 (ix2 p l) = ∑ a : Fin 16, g p ⟨128 * a.val + l.val, by omega⟩ * g p ⟨128 * a.val + l.val, by omega⟩ := by
  pointwise [part, addSq, k1_pay27]
  simp only [Fin.sum_univ_castSucc, Fin.sum_univ_zero, zero_add]
  repeat' refine congrArg₂ (· + ·) ?_ ?_
  all_goals
    first
      | exact congrArg₂ (· * ·) (h0 _ _ _ (by simp <;> omega)) (h0 _ _ _ (by simp <;> omega))
      | exact congrArg₂ (· * ·) (h1 _ _ _ (by simp <;> omega)) (h1 _ _ _ (by simp <;> omega))
      | exact congrArg₂ (· * ·) (h2 _ _ _ (by simp <;> omega)) (h2 _ _ _ (by simp <;> omega))
      | exact congrArg₂ (· * ·) (h3 _ _ _ (by simp <;> omega)) (h3 _ _ _ (by simp <;> omega))

theorem rows_sum (p : Fin 512) : ∑ l : Fin 128, part D0 D1 D2 D3 (ix2 p l) = sqArr g p := by
  unfold sqArr
  rw [lanes_sum (fun d => g p d * g p d)]
  exact Finset.sum_congr rfl fun l _ => part_apply D0 D1 D2 D3 g h0 h1 h2 h3 p l

/-- The block's row of sums of squares. -/
theorem sq_apply (p : Fin 512) : k1_pay5 (part D0 D1 D2 D3) (ix3 0 0 p) = sqArr g p := by
  have hS := rows_sum D0 D1 D2 D3 g h0 h1 h2 h3
  clear h0 h1 h2 h3
  generalize part D0 D1 D2 D3 = P at hS
  pointwise [k1_pay5, k1_pay1, k1_pay2, k1_pay3, k1_pay4]
  split_ifs
  all_goals
    refine (hS _).trans (congrArg (sqArr g) (Fin.ext ?_))
    dsimp only <;> omega

/-- The running lane sums after the block. -/
theorem tr_apply (v : Vec Ideal S1x128 .f32) (l : Fin 128) :
    k1_pay7 (part D0 D1 D2 D3) v (ix2 0 l) = v (ix2 0 l) + ∑ r : Fin 4, sqArr g ⟨128 * r.val + l.val, by omega⟩ := by
  have hS := rows_sum D0 D1 D2 D3 g h0 h1 h2 h3
  clear h0 h1 h2 h3
  generalize part D0 D1 D2 D3 = P at hS
  pointwise [k1_pay7, k1_pay1, k1_pay2, k1_pay3, k1_pay4]
  rw [Fin.sum_univ_four]
  refine congrArg (v (ix2 0 l) + ·) (congrArg₂ (· + ·) (congrArg₂ (· + ·) (congrArg₂ (· + ·) ?_ ?_) ?_) ?_)
  all_goals
    refine (hS _).trans (congrArg (sqArr g) (Fin.ext ?_))
    simp

end Squares

/-- The running lane sums start at zero. -/
theorem zero_row (l : Fin 128) : k1_pay6 (F := Ideal) (ix2 0 l) = 0 := by
  pointwise [k1_pay6]

/-- A chunk as the body stores it, read at an index. -/
theorem store_apply (D : FVec Ideal S512x512 .f32) (y : S1x512x512.Idx) :
    shapeCast S1x512x512 D shapeCasts_S512x512_S1x512x512 y = D (ix2 (y 1) (y 2)) := by
  idx_vars y
  pointwise []

/-! ## The down branch -/

section Direct

variable (s : BitVec 32) (k : ℕ) (x0 : Vec Ideal S512x5632 .fp8e4m3) (x1 : Vec Ideal S512x128 .f32) (x2 : Vec Ideal S5632x2048 .i8)
  (x3 : Vec Ideal S5632x2048 .fp8e4m3) (x4 : Vec Ideal S1x2048 .f32)

/-- One column chunk of the down branch's derivative, as the kernel's operations. -/
def directV (v1 : Vec Ideal S512x1 .f32) (w : Vec Ideal S5632x512 .i8) : FVec Ideal S512x512 .f32 :=
  k3_pay19 (F := Ideal) s (k3_pay10 v1) (k3_pay11 x0) w

/-- The block's rows of the down branch's derivative. -/
def dirArr (p : Fin 512) (q : Fin 2048) : EReal :=
  (∑ f : Fin 5632, x0 (ix2 p f) * sgn k (x2 (ix2 f q))) * x1 (ix2 p 0)

theorem direct_apply (hk : (Scalar.subi 7#32 s).toNat + k = 7) (v1 : Vec Ideal S512x1 .f32) (w : Vec Ideal S5632x512 .i8) (p q : Fin 512) :
    directV s x0 v1 w (ix2 p q) = (∑ f : Fin 5632, x0 (ix2 p f) * sgn k (w (ix2 f q))) * v1 (ix2 p 0) := by
  pointwise [directV, k3_pay19, k3_pay10, k3_pay11]
  refine congrArg (· * _) (Finset.sum_congr rfl fun d _ => congrArg _ ?_)
  exact signs_apply w _ _ _ _ hk _

theorem direct_block (hk : (Scalar.subi 7#32 s).toNat + k = 7) (o : ℕ) (h1) (h2) (p q : Fin 512) (d : Fin 2048) (hd : d.val = o + q.val) :
    directV s x0 (View.ld x1 (Rect.unit ![0, 0] ![512, 1] h1)) (View.ld x2 (Rect.unit ![0, o] ![5632, 512] h2)) (ix2 p q)
      = dirArr k x0 x1 x2 p d := by
  refine (direct_apply s k x0 hk _ _ p q).trans ?_
  unfold dirArr
  refine congrArg₂ (· * ·) (Finset.sum_congr rfl fun f _ => congrArg (fun b => _ * sgn k (x2 b)) ?_) (congrArg x1 ?_)
  · funext a; refine Fin.ext ?_; fin_cases a <;> simp [Rect.emb_apply, ix2, hd]
  · funext a; refine Fin.ext ?_; fin_cases a <;> simp [Rect.emb_apply, ix2]

/-- One column chunk of the layer's output, as the kernel's operations. -/
def outV (v1 : Vec Ideal S512x1 .f32) (w : Vec Ideal S5632x512 .fp8e4m3) (z : Vec Ideal S1x512 .f32) : FVec Ideal S512x512 .bf16 :=
  k3_pay5 (F := Ideal) (k3_pay10 v1) (k3_pay11 x0) w z

/-- The block's rows of the layer's output. -/
def outArr (p : Fin 512) (q : Fin 2048) : EReal :=
  (∑ f : Fin 5632, x0 (ix2 p f) * x3 (ix2 f q)) * x1 (ix2 p 0) * x4 (ix2 0 q)

theorem out_block (o : ℕ) (h1) (h2) (h3) (p q : Fin 512) (d : Fin 2048) (hd : d.val = o + q.val) :
    outV x0 (View.ld x1 (Rect.unit ![0, 0] ![512, 1] h1)) (View.ld x3 (Rect.unit ![0, o] ![5632, 512] h2))
        (View.ld x4 (Rect.unit ![0, o] ![1, 512] h3)) (ix2 p q) = outArr x0 x1 x3 x4 p d := by
  have e : ∀ (v1 : Vec Ideal S512x1 .f32) (w : Vec Ideal S5632x512 .fp8e4m3) (z : Vec Ideal S1x512 .f32),
      outV x0 v1 w z (ix2 p q) = (∑ f : Fin 5632, x0 (ix2 p f) * w (ix2 f q)) * v1 (ix2 p 0) * z (ix2 0 q) := by
    intro v1 w z
    pointwise [outV, k3_pay5, k3_pay10, k3_pay11]
  refine (e _ _ _).trans ?_
  unfold outArr
  refine congrArg₂ (· * ·) (congrArg₂ (· * ·) (Finset.sum_congr rfl fun f _ => congrArg (_ * ·) (congrArg x3 ?_)) (congrArg x1 ?_)) (congrArg x4 ?_)
  · funext a; refine Fin.ext ?_; fin_cases a <;> simp [Rect.emb_apply, ix2, hd]
  · funext a; refine Fin.ext ?_; fin_cases a <;> simp [Rect.emb_apply, ix2]
  · funext a; refine Fin.ext ?_; fin_cases a <;> simp [Rect.emb_apply, ix2, hd]

end Direct

/-! ## The blocks against the whole arrays -/

section Point

variable (s : BitVec 32) (k : ℕ) (x0 : Vec Ideal S512x2048 .fp8e4m3) (x1 : Vec Ideal S512x128 .f32) (x2 : Vec Ideal S512x5632 .f32)
  (x3 : Vec Ideal S2048x5632 .i8) (x4 : Vec Ideal S5632x2048 .fp8e4m3) (x5 : Vec Ideal S1x2048 .f32)

/-- The block's rows of a hidden branch's derivative. -/
def hidArr : Fin 512 → Fin 2048 → EReal := dyArr (tArr k x0 x1 x2 x3) x4 x5

theorem hid_block (T : Vec Ideal S512x5632 .bf16) (hT : T = tArr k x0 x1 x2 x3) (o : ℕ) (h1) (h2) (p q : Fin 512) (d : Fin 2048)
    (hd : d.val = o + q.val) :
    k1_pay28 (F := Ideal) T (View.ld x4 (Rect.unit ![0, o] ![5632, 512] h1)) (View.ld x5 (Rect.unit ![0, o] ![1, 512] h2)) (ix2 p q)
      = hidArr k x0 x1 x2 x3 x4 x5 p d := by
  subst hT
  exact down_block _ _ _ o h1 h2 p q d hd

theorem hid_piece (T : Vec Ideal S512x5632 .bf16) (hT : T = tArr k x0 x1 x2 x3) (o : ℕ) (h1) (h2) (y : S1x512x512.Idx) (p : Fin 512)
    (d : Fin 2048) (hp : p.val = (y 1).val) (hd : d.val = o + (y 2).val) :
    shapeCast S1x512x512 (k1_pay28 (F := Ideal) T (View.ld x4 (Rect.unit ![0, o] ![5632, 512] h1))
        (View.ld x5 (Rect.unit ![0, o] ![1, 512] h2))) shapeCasts_S512x512_S1x512x512 y
      = hidArr k x0 x1 x2 x3 x4 x5 p d := by
  obtain rfl : p = y 1 := Fin.ext hp
  exact (store_apply _ y).trans (hid_block k x0 x1 x2 x3 x4 x5 T hT o h1 h2 _ _ d hd)

theorem dir_piece (hk : (Scalar.subi 7#32 s).toNat + k = 7) (x0 : Vec Ideal S512x5632 .fp8e4m3) (x1 : Vec Ideal S512x128 .f32)
    (x2 : Vec Ideal S5632x2048 .i8) (o : ℕ) (h1) (h2) (y : S1x512x512.Idx) (p : Fin 512)
    (d : Fin 2048) (hp : p.val = (y 1).val) (hd : d.val = o + (y 2).val) :
    shapeCast S1x512x512 (directV s x0 (View.ld x1 (Rect.unit ![0, 0] ![512, 1] h1)) (View.ld x2 (Rect.unit ![0, o] ![5632, 512] h2)))
        shapeCasts_S512x512_S1x512x512 y = dirArr k x0 x1 x2 p d := by
  obtain rfl : p = y 1 := Fin.ext hp
  exact (store_apply _ y).trans (direct_block s k x0 x1 x2 hk o h1 h2 _ _ d hd)

theorem out_piece (x0 : Vec Ideal S512x5632 .fp8e4m3) (x1 : Vec Ideal S512x128 .f32) (x3 : Vec Ideal S5632x2048 .fp8e4m3)
    (x4 : Vec Ideal S1x2048 .f32) (o : ℕ) (h1) (h2) (h3) (y : S512x512.Idx) (p : Fin 512) (d : Fin 2048)
    (hp : p.val = (y 0).val) (hd : d.val = o + (y 1).val) :
    outV x0 (View.ld x1 (Rect.unit ![0, 0] ![512, 1] h1)) (View.ld x3 (Rect.unit ![0, o] ![5632, 512] h2))
        (View.ld x4 (Rect.unit ![0, o] ![1, 512] h3)) y = outArr x0 x1 x3 x4 p d := by
  obtain rfl : p = y 0 := Fin.ext hp
  have ey : y = ix2 (y 0) (y 1) := by
    funext a
    fin_cases a <;> rfl
  rw [ey]
  exact out_block x0 x1 x3 x4 o h1 h2 h3 _ _ d hd

/-- If the blocks are those rows of whole arrays, the block's derivative is those rows of the whole one. -/
theorem hidArr_eq (xq : Fin 4096 → Fin 2048 → EReal) (sx : Fin 4096 → EReal) (coef : Fin 4096 → Fin 5632 → EReal)
    (v : Fin 2048 → Fin 5632 → BitVec 8) (wd : Fin 5632 → Fin 2048 → EReal) (ds : Fin 2048 → EReal) (p : Fin 512) (n : Fin 4096)
    (h0 : ∀ d, x0 (ix2 p d) = xq n d) (h1 : x1 (ix2 p 0) = sx n) (h2 : ∀ f, x2 (ix2 p f) = coef n f) (h3 : ∀ d f, x3 (ix2 d f) = v d f)
    (h4 : ∀ f d, x4 (ix2 f d) = wd f d) (h5 : ∀ d, x5 (ix2 0 d) = ds d) (d : Fin 2048) :
    hidArr k x0 x1 x2 x3 x4 x5 p d = dyN xq sx coef v wd ds k n d := by
  unfold hidArr dyArr dyN
  rw [h5]
  refine congrArg (· * _) (Finset.sum_congr rfl fun f _ => ?_)
  rw [h4]
  refine congrArg (· * _) ?_
  show x2 (ix2 p f) * ((∑ d : Fin 2048, x0 (ix2 p d) * sgn k (x3 (ix2 d f))) * x1 (ix2 p 0)) = _
  rw [h2, h1]
  exact congrArg (_ * ·) (congrArg (· * _) (Finset.sum_congr rfl fun d' _ => by rw [h0, h3]))

theorem dirArr_eq (x0 : Vec Ideal S512x5632 .fp8e4m3) (x2 : Vec Ideal S5632x2048 .i8) (hq : Fin 4096 → Fin 5632 → EReal)
    (sh : Fin 4096 → EReal) (v : Fin 5632 → Fin 2048 → BitVec 8) (p : Fin 512) (n : Fin 4096)
    (h0 : ∀ f, x0 (ix2 p f) = hq n f) (h1 : x1 (ix2 p 0) = sh n) (h2 : ∀ f d, x2 (ix2 f d) = v f d) (d : Fin 2048) :
    dirArr k x0 x1 x2 p d = dirN hq sh v k n d := by
  unfold dirArr dirN
  rw [h1]
  exact congrArg (· * _) (Finset.sum_congr rfl fun f _ => by rw [h0, h2])

theorem outArr_eq (x0 : Vec Ideal S512x5632 .fp8e4m3) (hq : Fin 4096 → Fin 5632 → EReal) (sh : Fin 4096 → EReal)
    (wd : Fin 5632 → Fin 2048 → EReal) (ds : Fin 2048 → EReal) (p : Fin 512) (n : Fin 4096)
    (h0 : ∀ f, x0 (ix2 p f) = hq n f) (h1 : x1 (ix2 p 0) = sh n) (h4 : ∀ f d, x4 (ix2 f d) = wd f d) (h5 : ∀ d, x5 (ix2 0 d) = ds d)
    (d : Fin 2048) : outArr x0 x1 x4 x5 p d = yN hq sh wd ds n d := by
  unfold outArr yN
  rw [h1, h5]
  exact congrArg (· * _) (congrArg (· * _) (Finset.sum_congr rfl fun f _ => by rw [h0, h4]))

theorem sqArr_eq (dy : ℕ → Fin 4096 → Fin 2048 → EReal) (g : Fin 512 → Fin 2048 → EReal) (p : Fin 512) (n : Fin 4096)
    (h : ∀ d, g p d = dy k n d) : sqArr g p = sqN dy k n := by
  unfold sqArr sqN
  exact Finset.sum_congr rfl fun d _ => by rw [h]

end Point

end Proof.Block

end
-- ==== Proof.PrimalBlock.lean ====
/-
  One block of 256 tokens in the primal call, row by row. The body quantises the rows, forms the two linear layers in eleven column
  chunks, keeps the running magnitudes of the hidden values in 128 lanes, and quantises the hidden rows at the end.
-/
module

public import proofs.«01_k».proof.Proof.Row
public import proofs.«01_k».proof.Proof.Block

@[expose] public section

set_option maxRecDepth 16384

noncomputable section

namespace Proof.PrimalBlock

open Idealize.ShloMosaic Cert.KernelIdeal Cert.KernelIdeal.Gen Proof.Quant Proof.Row

/-! ## The payloads at an index -/

section Payload

variable (x0 : Vec Ideal S256x2048 .bf16)

/-- A row of the block. -/
abbrev row (p : Fin 256) : Fin 2048 → EReal := fun d => x0 (ix2 p d)

theorem field_x (p : Fin 256) : k0_pay3 (F := Ideal) x0 (ix2 p 0) = BitVec.ofNat 32 (field (ratio (row x0 p))) := by
  pointwise [k0_pay3, k0_pay2]
  exact field_word _

theorem inv_x (p : Fin 256) : k0_pay4 (F := Ideal) x0 (ix2 p 0) = (rowScale (row x0 p))⁻¹ := by
  pointwise [k0_pay4]
  rw [field_x]
  exact inv_word _

theorem scale_x (p : Fin 256) : k0_pay6 (F := Ideal) (k0_pay5 (F := Ideal) x0) (ix2 p 0) = rowScale (row x0 p) := by
  pointwise [k0_pay6, k0_pay5]
  rw [field_x]
  exact scale_word _

theorem code_x (p : Fin 256) (d : Fin 2048) :
    k0_pay7 (k0_pay2 x0) (k0_pay4 (F := Ideal) x0) (ix2 p d) = code (row x0 p) d := by
  pointwise [k0_pay7, k0_pay2]
  rw [inv_x]
  rfl

theorem scales_x (p : Fin 256) (l : Fin 128) : k0_pay8 (F := Ideal) (k0_pay5 (F := Ideal) x0) (ix2 p l) = rowScale (row x0 p) := by
  have e : k0_pay8 (F := Ideal) (k0_pay5 (F := Ideal) x0) (ix2 p l) = k0_pay6 (F := Ideal) (k0_pay5 (F := Ideal) x0) (ix2 p 0) := by
    pointwise [k0_pay8]
  exact e.trans (scale_x x0 p)

/-! ### One chunk of 512 hidden units -/

/-- A linear layer's chunk, as the kernel's operations. -/
def linV (w : Vec Ideal S2048x512 .fp8e4m3) (z : Vec Ideal S1x512 .f32) : FVec Ideal S256x512 .f32 :=
  k0_pay19 (F := Ideal) (k0_pay6 (k0_pay5 (F := Ideal) x0)) (k0_pay7 (k0_pay2 x0) (k0_pay4 (F := Ideal) x0)) w z

/-- The activation's chunk. -/
def siluV (w : Vec Ideal S2048x512 .fp8e4m3) (z : Vec Ideal S1x512 .f32) : FVec Ideal S256x512 .f32 :=
  k0_pay22 (F := Ideal) (k0_pay6 (k0_pay5 (F := Ideal) x0)) (k0_pay7 (k0_pay2 x0) (k0_pay4 (F := Ideal) x0)) w z

/-- The derivative's chunk. -/
def dsiluV (w : Vec Ideal S2048x512 .fp8e4m3) (z : Vec Ideal S1x512 .f32) (w' : Vec Ideal S2048x512 .fp8e4m3) (z' : Vec Ideal S1x512 .f32) :
    FVec Ideal S256x512 .f32 :=
  k0_pay24 (linV x0 w z) (linV x0 w' z')
    (k0_pay21 (F := Ideal) (k0_pay6 (k0_pay5 (F := Ideal) x0)) (k0_pay7 (k0_pay2 x0) (k0_pay4 (F := Ideal) x0)) w z)

/-- The hidden chunk. -/
def hidV (w : Vec Ideal S2048x512 .fp8e4m3) (z : Vec Ideal S1x512 .f32) (w' : Vec Ideal S2048x512 .fp8e4m3) (z' : Vec Ideal S1x512 .f32) :
    FVec Ideal S256x512 .f32 :=
  k0_pay23 (F := Ideal) (k0_pay6 (k0_pay5 (F := Ideal) x0)) (k0_pay7 (k0_pay2 x0) (k0_pay4 (F := Ideal) x0)) w z w' z'

section Chunk

variable (x1 : Vec Ideal S2048x5632 .fp8e4m3) (x2 : Vec Ideal S2048x5632 .fp8e4m3) (x3 x4 : Vec Ideal S1x5632 .f32)

/-- The weights and the column scales, as functions of the coordinates. -/
abbrev mat (w : Vec Ideal S2048x5632 .fp8e4m3) : Fin 2048 → Fin 5632 → EReal := fun d f => w (ix2 d f)
abbrev vec (z : Vec Ideal S1x5632 .f32) : Fin 5632 → EReal := fun f => z (ix2 0 f)

theorem lin_block (w : Vec Ideal S2048x5632 .fp8e4m3) (z : Vec Ideal S1x5632 .f32) (o : ℕ) (h1) (h2) (p : Fin 256) (q : Fin 512)
    (f : Fin 5632) (hf : f.val = o + q.val) :
    linV x0 (View.ld w (Rect.unit ![0, o] ![2048, 512] h1)) (View.ld z (Rect.unit ![0, o] ![1, 512] h2)) (ix2 p q)
      = lin (row x0 p) (mat w) (vec z) f := by
  have e : ∀ (w' : Vec Ideal S2048x512 .fp8e4m3) (z' : Vec Ideal S1x512 .f32), linV x0 w' z' (ix2 p q)
      = (∑ d, k0_pay7 (k0_pay2 x0) (k0_pay4 (F := Ideal) x0) (ix2 p d) * w' (ix2 d q))
        * k0_pay6 (F := Ideal) (k0_pay5 (F := Ideal) x0) (ix2 p 0) * z' (ix2 0 q) := by
    intro w' z'
    unfold linV
    generalize k0_pay7 (k0_pay2 x0) (k0_pay4 (F := Ideal) x0) = A
    generalize k0_pay6 (F := Ideal) (k0_pay5 (F := Ideal) x0) = B
    pointwise [k0_pay19]
  rw [e, scale_x]
  unfold lin
  refine congrArg₂ (· * ·) (congrArg (· * _) (Finset.sum_congr rfl fun d _ => congrArg₂ (· * ·) (code_x x0 p d) (congrArg w ?_))) (congrArg z ?_)
  · funext a; refine Fin.ext ?_; fin_cases a <;> simp [Rect.emb_apply, ix2, hf]
  · funext a; refine Fin.ext ?_; fin_cases a <;> simp [Rect.emb_apply, ix2, hf]

theorem silu_block (o : ℕ) (h1) (h2) (p : Fin 256) (q : Fin 512) (f : Fin 5632) (hf : f.val = o + q.val) :
    siluV x0 (View.ld x1 (Rect.unit ![0, o] ![2048, 512] h1)) (View.ld x3 (Rect.unit ![0, o] ![1, 512] h2)) (ix2 p q)
      = silu (row x0 p) (mat x1) (vec x3) f := by
  unfold silu
  rw [← lin_block x0 x1 x3 o h1 h2 p q f hf]
  rfl

theorem hid_block (o : ℕ) (h1) (h2) (h3) (h4) (p : Fin 256) (q : Fin 512) (f : Fin 5632) (hf : f.val = o + q.val) :
    hidV x0 (View.ld x1 (Rect.unit ![0, o] ![2048, 512] h1)) (View.ld x3 (Rect.unit ![0, o] ![1, 512] h2))
        (View.ld x2 (Rect.unit ![0, o] ![2048, 512] h3)) (View.ld x4 (Rect.unit ![0, o] ![1, 512] h4)) (ix2 p q)
      = hid (row x0 p) (mat x1) (vec x3) (mat x2) (vec x4) f := by
  unfold hid
  rw [← silu_block x0 x1 x3 o h1 h2 p q f hf, ← lin_block x0 x2 x4 o h3 h4 p q f hf]
  rfl

theorem dsilu_block (o : ℕ) (h1) (h2) (h3) (h4) (p : Fin 256) (q : Fin 512) (f : Fin 5632) (hf : f.val = o + q.val) :
    dsiluV x0 (View.ld x1 (Rect.unit ![0, o] ![2048, 512] h1)) (View.ld x3 (Rect.unit ![0, o] ![1, 512] h2))
        (View.ld x2 (Rect.unit ![0, o] ![2048, 512] h3)) (View.ld x4 (Rect.unit ![0, o] ![1, 512] h4)) (ix2 p q)
      = dsilu (row x0 p) (mat x1) (vec x3) (mat x2) (vec x4) f := by
  unfold dsilu
  rw [← lin_block x0 x1 x3 o h1 h2 p q f hf, ← lin_block x0 x2 x4 o h3 h4 p q f hf]
  unfold dsiluV
  have e : ∀ (A B C : FVec Ideal S256x512 .f32), k0_pay24 A B C (ix2 p q) = C (ix2 p q) * (1 + A (ix2 p q) * (1 - C (ix2 p q))) * B (ix2 p q) := by
    intro A B C
    pointwise [k0_pay24]
  rw [e]
  rfl

end Chunk

/-! ### The hidden row's quantiser -/

theorem lanes_step (A : FVec Ideal S256x128 .f32) (H : FVec Ideal S256x512 .f32) (p : Fin 256) (l : Fin 128) (c : EReal) :
    k0_pay26 A H (ix2 p l) ≤ c ↔ A (ix2 p l) ≤ c
      ∧ ∀ r : Fin 4, FloatOps.absf (F := Ideal) (φ := .f32) (H (ix2 p ⟨128 * r.val + l.val, by omega⟩)) ≤ c := by
  pointwise [k0_pay26]
  simp only [max_le_iff, Fin.forall_fin_succ]
  tauto

section Hidden

variable (x1 : Vec Ideal S2048x5632 .fp8e4m3) (x2 : Vec Ideal S2048x5632 .fp8e4m3) (x3 x4 : Vec Ideal S1x5632 .f32)

/-- The hidden chunk from column `o` on, loaded from the whole arrays. -/
abbrev chunkV (o : ℕ) (h1 : ∀ a, (![0, o] : Fin 2 → ℕ) a + S2048x512.size a ≤ S2048x5632.size a)
    (h2 : ∀ a, (![0, o] : Fin 2 → ℕ) a + S1x512.size a ≤ S1x5632.size a) : FVec Ideal S256x512 .f32 :=
  hidV x0 (View.ld x1 (Rect.unit ![0, o] ![2048, 512] h1)) (View.ld x3 (Rect.unit ![0, o] ![1, 512] h2))
    (View.ld x2 (Rect.unit ![0, o] ![2048, 512] h1)) (View.ld x4 (Rect.unit ![0, o] ![1, 512] h2))

theorem chunk_eq (o : ℕ) (h1) (h2) (p : Fin 256) (q : Fin 512) (f : Fin 5632) (hf : f.val = o + q.val) :
    chunkV x0 x1 x2 x3 x4 o h1 h2 (ix2 p q) = hid (row x0 p) (mat x1) (vec x3) (mat x2) (vec x4) f :=
  hid_block x0 x1 x2 x3 x4 o h1 h2 h1 h2 p q f hf

/-- The lanes after one more chunk. -/
abbrev lanesStep (A : FVec Ideal S256x128 .f32) (o : ℕ) (h1 : ∀ a, (![0, o] : Fin 2 → ℕ) a + S2048x512.size a ≤ S2048x5632.size a)
    (h2 : ∀ a, (![0, o] : Fin 2 → ℕ) a + S1x512.size a ≤ S1x5632.size a) : FVec Ideal S256x128 .f32 :=
  k0_pay26 A (chunkV x0 x1 x2 x3 x4 o h1 h2)

/-- The lanes after ten chunks. -/
def lanesV : FVec Ideal S256x128 .f32 :=
  (lanesStep x0 x1 x2 x3 x4 (lanesStep x0 x1 x2 x3 x4 (lanesStep x0 x1 x2 x3 x4 (lanesStep x0 x1 x2 x3 x4 (lanesStep x0 x1 x2 x3 x4 (lanesStep x0 x1 x2 x3 x4 (lanesStep x0 x1 x2 x3 x4 (lanesStep x0 x1 x2 x3 x4 (lanesStep x0 x1 x2 x3 x4 (lanesStep x0 x1 x2 x3 x4 (k0_pay9 (F := Ideal)) 0 inb_S2048x5632_S2048x512_0_0 inb_S1x5632_S1x512_0_0) 512 inb_S2048x5632_S2048x512_0_512 inb_S1x5632_S1x512_0_512) 1024 inb_S2048x5632_S2048x512_0_1024 inb_S1x5632_S1x512_0_1024) 1536 inb_S2048x5632_S2048x512_0_1536 inb_S1x5632_S1x512_0_1536) 2048 inb_S2048x5632_S2048x512_0_2048 inb_S1x5632_S1x512_0_2048) 2560 inb_S2048x5632_S2048x512_0_2560 inb_S1x5632_S1x512_0_2560) 3072 inb_S2048x5632_S2048x512_0_3072 inb_S1x5632_S1x512_0_3072) 3584 inb_S2048x5632_S2048x512_0_3584 inb_S1x5632_S1x512_0_3584) 4096 inb_S2048x5632_S2048x512_0_4096 inb_S1x5632_S1x512_0_4096) 4608 inb_S2048x5632_S2048x512_0_4608 inb_S1x5632_S1x512_0_4608)

/-- The last chunk. -/
abbrev lastV : FVec Ideal S256x512 .f32 := chunkV x0 x1 x2 x3 x4 5120 inb_S2048x5632_S2048x512_0_5120 inb_S1x5632_S1x512_0_5120

/-- The lanes after ten chunks and the last chunk's first 128 columns. -/
def firstV : FVec Ideal S256x128 .f32 :=
  maximumf (lanesV x0 x1 x2 x3 x4) (absf (extractStridedSlice S256x128 ![0, 0] (lastV x0 x1 x2 x3 x4) slices_S256x512_o0_0_S256x128))

/-- The magnitude of a row's hidden value. -/
abbrev mag (p : Fin 256) (f : Fin 5632) : EReal :=
  FloatOps.absf (F := Ideal) (φ := .f32) (hid (row x0 p) (mat x1) (vec x3) (mat x2) (vec x4) f)

theorem bound_zero (p : Fin 256) (c : EReal) :
    (∀ l, k0_pay9 (F := Ideal) (ix2 p l) ≤ c) ↔ 0 ≤ c ∧ ∀ f : Fin 5632, f.val < 0 → mag x0 x1 x2 x3 x4 p f ≤ c := by
  have e : ∀ l, k0_pay9 (F := Ideal) (ix2 p l) = 0 := by
    intro l
    pointwise [k0_pay9]
  simp only [e]
  exact ⟨fun h => ⟨h 0, fun f hf => absurd hf (Nat.not_lt_zero _)⟩, fun h _ => h.1⟩

theorem bound_step (p : Fin 256) (c : EReal) (A : FVec Ideal S256x128 .f32) (o : ℕ) (h1) (h2)
    (h : (∀ l, A (ix2 p l) ≤ c) ↔ 0 ≤ c ∧ ∀ f : Fin 5632, f.val < o → mag x0 x1 x2 x3 x4 p f ≤ c) :
    (∀ l, lanesStep x0 x1 x2 x3 x4 A o h1 h2 (ix2 p l) ≤ c) ↔ 0 ≤ c ∧ ∀ f : Fin 5632, f.val < o + 512 → mag x0 x1 x2 x3 x4 p f ≤ c := by
  have ho : o + 512 ≤ 5632 := h1 1
  simp only [lanes_step, forall_and, h, and_assoc]
  refine and_congr_right fun _ => ⟨fun ⟨ha, hb⟩ f hf => ?_, fun hc => ⟨fun f hf => hc f (by omega), fun l r => ?_⟩⟩
  · by_cases hlt : f.val < o
    · exact ha f hlt
    · have := hb ⟨(f.val - o) % 128, Nat.mod_lt _ (by norm_num)⟩ ⟨(f.val - o) / 128, by omega⟩
      rw [chunk_eq x0 x1 x2 x3 x4 o h1 h2 p ⟨_, _⟩ f (by dsimp only; omega)] at this
      exact this
  · rw [chunk_eq x0 x1 x2 x3 x4 o h1 h2 p ⟨128 * r.val + l.val, by omega⟩ ⟨o + (128 * r.val + l.val), by omega⟩ rfl]
    exact hc _ (by dsimp only; omega)

theorem lanes_bound (p : Fin 256) (c : EReal) :
    (∀ l, k0_pay26 (lanesV x0 x1 x2 x3 x4) (lastV x0 x1 x2 x3 x4) (ix2 p l) ≤ c) ↔ ∀ f : Fin 5632, mag x0 x1 x2 x3 x4 p f ≤ c := by
  refine (bound_step x0 x1 x2 x3 x4 p c _ 5120 _ _ (bound_step x0 x1 x2 x3 x4 p c _ 4608 _ _ (bound_step x0 x1 x2 x3 x4 p c _ 4096 _ _ (bound_step x0 x1 x2 x3 x4 p c _ 3584 _ _ (bound_step x0 x1 x2 x3 x4 p c _ 3072 _ _ (bound_step x0 x1 x2 x3 x4 p c _ 2560 _ _ (bound_step x0 x1 x2 x3 x4 p c _ 2048 _ _ (bound_step x0 x1 x2 x3 x4 p c _ 1536 _ _ (bound_step x0 x1 x2 x3 x4 p c _ 1024 _ _ (bound_step x0 x1 x2 x3 x4 p c _ 512 _ _ (bound_step x0 x1 x2 x3 x4 p c _ 0 _ _ (bound_zero x0 x1 x2 x3 x4 p c)))))))))))).trans ?_
  exact ⟨fun h f => h.2 f f.isLt, fun h => ⟨(abs_nonneg _).trans (h 0), fun f _ => h f⟩⟩

end Hidden

/-- The rows' exponent fields from the 128 lanes of running magnitudes, as the kernel's operations. -/
def fieldV (L : FVec Ideal S256x128 .f32) : IVec S256x1 32 :=
  have v530 : FVec Ideal S256 .f32 := multiReduction .maximumf [1] S256 L 0xFF800000#32 reduces_S256x128_S256 (.inl rfl) rfl
  have v531 : FVec Ideal S256x1 .f32 := shapeCast S256x1 v530 shapeCasts_S256_S256x1
  have cst_206 : Ideal .f32 := Scalar.ofBits .f32 0x3B124925#32
  have v532 : FVec Ideal S256x1 .f32 := broadcast S256x1 cst_206
  have v533 : FVec Ideal S256x1 .f32 := mulf v531 v532
  have v534 : IVec S1x256 32 := iota .tc S1x256 32 [1] iota_S1x256_d1_w32
  have v535 : IVec S1x256 32 := broadcast S1x256 1#32
  have v536 : IVec S1x256 32 := maxsi v535 v534
  have v537 : IVec S1x256 32 := broadcast S1x256 252#32
  have v538 : IVec S1x256 32 := minsi v537 v536
  have v539 : IVec S1x256 32 := broadcast S1x256 23#32
  have v540 : IVec S1x256 32 := shli v538 v539
  have v541 : FVec Ideal S1x256 .f32 := bitcastToFloat .f32 v540
  have v542 : IVec S1x256 32 := broadcast S1x256 1#32
  have v543 : IVec S1x256 1 := cmpi .sge v534 v542
  have v544 : IVec S1x256 32 := broadcast S1x256 252#32
  have v545 : IVec S1x256 1 := cmpi .sle v534 v544
  have v546 : IVec S1x256 1 := andi v543 v545
  have v547 : FVec Ideal S256x256 .f32 := broadcastTo S256x256 v533 broadcasts_S256x1_S256x256
  have v548 : FVec Ideal S256x256 .f32 := broadcastTo S256x256 v541 broadcasts_S1x256_S256x256
  have v549 : IVec S256x256 1 := cmpf .oge v547 v548
  have v550 : IVec S256x256 1 := broadcastTo S256x256 v546 broadcasts_S1x256_S256x256
  have v551 : IVec S256x256 1 := andi v550 v549
  have v552 : IVec S256x256 32 := broadcast S256x256 1#32
  have v553 : IVec S256x256 32 := broadcast S256x256 0#32
  have v554 : IVec S256x256 32 := select v551 v552 v553
  have v555 : IVec S256 32 := multiReductionI .add [1] S256 v554 0#32 reduces_S256x256_S256 rfl
  have v556 : IVec S256x1 32 := shapeCast S256x1 v555 shapeCasts_S256_S256x1
  have v557 : IVec S256x1 32 := broadcast S256x1 0#32
  have v558 : IVec S256x1 1 := cmpi .eq v556 v557
  have v559 : IVec S256x1 32 := broadcast S256x1 126#32
  have v560 : IVec S256x1 32 := select v558 v559 v556
  v560

theorem fieldV_apply (L : FVec Ideal S256x128 .f32) (p : Fin 256) : fieldV L (ix2 p 0)
    = BitVec.ofNat 32 (field (Finset.fold max (Ideal.ofBits FTy.f32 0xFF800000#32) (fun l => L (ix2 p l)) Finset.univ * Ideal.ofBits FTy.f32 0x3B124925#32)) := by
  pointwise [fieldV]
  exact field_word _

section Quant

variable (x1 : Vec Ideal S2048x5632 .fp8e4m3) (x2 : Vec Ideal S2048x5632 .fp8e4m3) (x3 x4 : Vec Ideal S1x5632 .f32)

/-- A row of the hidden values. -/
abbrev hrow (p : Fin 256) : Fin 5632 → EReal := hid (row x0 p) (mat x1) (vec x3) (mat x2) (vec x4)

theorem field_h (p : Fin 256) : k0_pay107 (lastV x0 x1 x2 x3 x4) (firstV x0 x1 x2 x3 x4) (ix2 p 0)
    = BitVec.ofNat 32 (field (ratio (hrow x0 x1 x2 x3 x4 p))) := by
  have e : k0_pay107 (lastV x0 x1 x2 x3 x4) (firstV x0 x1 x2 x3 x4)
      = fieldV (k0_pay26 (lanesV x0 x1 x2 x3 x4) (lastV x0 x1 x2 x3 x4)) := rfl
  rw [e, fieldV_apply]
  unfold ratio
  rw [fold_abs (hrow x0 x1 x2 x3 x4 p) (Finset.fold max (Ideal.ofBits FTy.f32 0xFF800000#32)
    (fun l => k0_pay26 (lanesV x0 x1 x2 x3 x4) (lastV x0 x1 x2 x3 x4) (ix2 p l)) Finset.univ) fun c => ?_]
  rw [Finset.fold_max_le, bits_bot]
  simp only [bot_le, true_and, Finset.mem_univ, forall_const]
  exact lanes_bound x0 x1 x2 x3 x4 p c

theorem inv_h (p : Fin 256) : k0_pay108 (lastV x0 x1 x2 x3 x4) (firstV x0 x1 x2 x3 x4) (ix2 p 0) = (rowScale (hrow x0 x1 x2 x3 x4 p))⁻¹ := by
  have e : ∀ (A : FVec Ideal S256x512 .f32) (B : FVec Ideal S256x128 .f32),
      k0_pay108 A B (ix2 p 0) = Ideal.ofBits .f32 (IntOp.shli .vector (IntOp.subi 253#32 (k0_pay107 A B (ix2 p 0))) 23#32) := by
    intro A B
    pointwise [k0_pay108]
  rw [e, field_h]
  exact inv_word _

theorem scales_h (p : Fin 256) (l : Fin 128) : k0_pay109 (F := Ideal) (k0_pay107 (lastV x0 x1 x2 x3 x4) (firstV x0 x1 x2 x3 x4)) 1#32 (ix2 p l)
    = rowScale (hrow x0 x1 x2 x3 x4 p) := by
  have e : ∀ A : IVec S256x1 32,
      k0_pay109 (F := Ideal) A 1#32 (ix2 p l) = Ideal.ofBits .f32 (IntOp.shli .vector (IntOp.addi (A (ix2 p 0)) 1#32) 23#32) := by
    intro A
    pointwise [k0_pay109]
  rw [e, field_h]
  exact scale_word _

/-- One chunk of the hidden codes. -/
theorem code_block (o : ℕ) (h1) (h2) (p : Fin 256) (q : Fin 512) (f : Fin 5632) (hf : f.val = o + q.val) :
    k0_pay110 (k0_pay108 (lastV x0 x1 x2 x3 x4) (firstV x0 x1 x2 x3 x4)) (k0_pay25 (chunkV x0 x1 x2 x3 x4 o h1 h2)) (ix2 p q)
      = code (hrow x0 x1 x2 x3 x4 p) f := by
  have e : ∀ (A : FVec Ideal S256x1 .f32) (B : FVec Ideal S256x512 .f32), k0_pay110 A (k0_pay25 B) (ix2 p q)
      = min (Ideal.ofBits FTy.f32 0x43E00000#32) (max (Ideal.ofBits FTy.f32 0xC3E00000#32) (B (ix2 p q) * A (ix2 p 0))) := by
    intro A B
    pointwise [k0_pay110, k0_pay25]
  rw [e, inv_h, chunk_eq x0 x1 x2 x3 x4 o h1 h2 p q f hf]
  rfl

end Quant

end Payload

end Proof.PrimalBlock

end
-- ==== Proof.Primal.lean ====
/-
  The primal call: what its body leaves at each grid point, and the arrays these blocks make up.
-/
module

public import proofs.«01_k».proof.Proof.PrimalBlock
public import proofs.«01_k».proof.Proof.Frame.Region0

@[expose] public section

set_option maxRecDepth 16384

noncomputable section

namespace Proof.Primal

open Idealize.ShloMosaic Idealize.ShloMosaic.TcCoe Idealize.SL.Sem Cert.KernelIdeal Cert.KernelIdeal.Gen Proof.Row Proof.PrimalBlock

variable (V : (c : Dev nD) → (b : Ref sig .tc) → Buf (Elt Ideal) ((c : Thread nD τ).loc b)) (c : Dev nD)

/-! ## One grid point -/

section Point

variable (t : Fin cfg0.N)

theorem xq_out (y : S256x2048.Idx) : (outsAt0 V c t).1 y = code (row (iblk0 V c 0 t) (y 0)) (y 1) := by
  idx_vars y
  unfold outsAt0
  frame_open
  simp (disch := decide) only [↓ View.readCov_skip, ↓ View.readCov_cons_toLoadRect, ↓ View.readCov_fill]
  frame_out
  exact code_x _ _ _

theorem sx_out (y : S256x128.Idx) : (outsAt0 V c t).2.1 y = rowScale (row (iblk0 V c 0 t) (y 0)) := by
  idx_vars y
  unfold outsAt0
  frame_open
  simp (disch := decide) only [↓ View.readCov_skip, ↓ View.readCov_cons_toLoadRect, ↓ View.readCov_fill]
  frame_out
  exact scales_x _ _ _

theorem silu_piece (o : ℕ) (h1 : ∀ a, (![0, o] : Fin 2 → ℕ) a + S2048x512.size a ≤ S2048x5632.size a)
    (h2 : ∀ a, (![0, o] : Fin 2 → ℕ) a + S1x512.size a ≤ S1x5632.size a) (x : S256x512.Idx) (p : Fin 256) (f : Fin 5632) (hp : p.val = (x 0).val)
    (hf : f.val = o + (x 1).val) :
    siluV (iblk0 V c 0 t) (View.ld (S := S2048x5632) (iblk0 V c 1 t) (Rect.unit ![0, o] ![2048, 512] h1))
        (View.ld (S := S1x5632) (iblk0 V c 3 t) (Rect.unit ![0, o] ![1, 512] h2)) x
      = silu (row (iblk0 V c 0 t) p) (mat (iblk0 V c 1 t)) (vec (iblk0 V c 3 t)) f := by
  obtain rfl : p = x 0 := Fin.ext hp
  idx_vars x
  exact silu_block _ _ _ o h1 h2 _ _ f hf

theorem dsilu_piece (o : ℕ) (h1 : ∀ a, (![0, o] : Fin 2 → ℕ) a + S2048x512.size a ≤ S2048x5632.size a)
    (h2 : ∀ a, (![0, o] : Fin 2 → ℕ) a + S1x512.size a ≤ S1x5632.size a) (x : S256x512.Idx) (p : Fin 256) (f : Fin 5632) (hp : p.val = (x 0).val)
    (hf : f.val = o + (x 1).val) :
    dsiluV (iblk0 V c 0 t) (View.ld (S := S2048x5632) (iblk0 V c 1 t) (Rect.unit ![0, o] ![2048, 512] h1))
        (View.ld (S := S1x5632) (iblk0 V c 3 t) (Rect.unit ![0, o] ![1, 512] h2))
        (View.ld (S := S2048x5632) (iblk0 V c 2 t) (Rect.unit ![0, o] ![2048, 512] h1))
        (View.ld (S := S1x5632) (iblk0 V c 4 t) (Rect.unit ![0, o] ![1, 512] h2)) x
      = dsilu (row (iblk0 V c 0 t) p) (mat (iblk0 V c 1 t)) (vec (iblk0 V c 3 t)) (mat (iblk0 V c 2 t)) (vec (iblk0 V c 4 t)) f := by
  obtain rfl : p = x 0 := Fin.ext hp
  idx_vars x
  exact dsilu_block _ _ _ _ _ o h1 h2 h1 h2 _ _ f hf

/-- The kernel's hidden codes from column `o` on. -/
abbrev codeV (o : ℕ) (h1 : ∀ a, (![0, o] : Fin 2 → ℕ) a + S2048x512.size a ≤ S2048x5632.size a)
    (h2 : ∀ a, (![0, o] : Fin 2 → ℕ) a + S1x512.size a ≤ S1x5632.size a) : FVec Ideal S256x512 .fp8e4m3 :=
  k0_pay110 (k0_pay108 (lastV (iblk0 V c 0 t) (iblk0 V c 1 t) (iblk0 V c 2 t) (iblk0 V c 3 t) (iblk0 V c 4 t))
      (firstV (iblk0 V c 0 t) (iblk0 V c 1 t) (iblk0 V c 2 t) (iblk0 V c 3 t) (iblk0 V c 4 t)))
    (k0_pay25 (chunkV (iblk0 V c 0 t) (iblk0 V c 1 t) (iblk0 V c 2 t) (iblk0 V c 3 t) (iblk0 V c 4 t) o h1 h2))

theorem code_piece (o : ℕ) (h1) (h2) (x : S256x512.Idx) (p : Fin 256) (f : Fin 5632) (hp : p.val = (x 0).val) (hf : f.val = o + (x 1).val) :
    codeV V c t o h1 h2 x
      = code (hrow (iblk0 V c 0 t) (iblk0 V c 1 t) (iblk0 V c 2 t) (iblk0 V c 3 t) (iblk0 V c 4 t) p) f := by
  obtain rfl : p = x 0 := Fin.ext hp
  idx_vars x
  exact code_block _ _ _ _ _ o h1 h2 _ _ f hf

theorem silu_out (y : S256x5632.Idx) : (outsAt0 V c t).2.2.1 y
    = silu (row (iblk0 V c 0 t) (y 0)) (mat (iblk0 V c 1 t)) (vec (iblk0 V c 3 t)) (y 1) := by
  unfold outsAt0
  frame_open
  simp (disch := decide) only [↓ View.readCov_skip, ↓ View.readCov_cons_toLoadRect, ↓ View.readCov_fill]
  frame_out
  canon_tiles x h
  · exact silu_piece V c t 5120 inb_S2048x5632_S2048x512_0_5120 inb_S1x5632_S1x512_0_5120 x _ _ (by omega) (by omega)
  · exact silu_piece V c t 4608 inb_S2048x5632_S2048x512_0_4608 inb_S1x5632_S1x512_0_4608 x _ _ (by omega) (by omega)
  · exact silu_piece V c t 4096 inb_S2048x5632_S2048x512_0_4096 inb_S1x5632_S1x512_0_4096 x _ _ (by omega) (by omega)
  · exact silu_piece V c t 3584 inb_S2048x5632_S2048x512_0_3584 inb_S1x5632_S1x512_0_3584 x _ _ (by omega) (by omega)
  · exact silu_piece V c t 3072 inb_S2048x5632_S2048x512_0_3072 inb_S1x5632_S1x512_0_3072 x _ _ (by omega) (by omega)
  · exact silu_piece V c t 2560 inb_S2048x5632_S2048x512_0_2560 inb_S1x5632_S1x512_0_2560 x _ _ (by omega) (by omega)
  · exact silu_piece V c t 2048 inb_S2048x5632_S2048x512_0_2048 inb_S1x5632_S1x512_0_2048 x _ _ (by omega) (by omega)
  · exact silu_piece V c t 1536 inb_S2048x5632_S2048x512_0_1536 inb_S1x5632_S1x512_0_1536 x _ _ (by omega) (by omega)
  · exact silu_piece V c t 1024 inb_S2048x5632_S2048x512_0_1024 inb_S1x5632_S1x512_0_1024 x _ _ (by omega) (by omega)
  · exact silu_piece V c t 512 inb_S2048x5632_S2048x512_0_512 inb_S1x5632_S1x512_0_512 x _ _ (by omega) (by omega)
  · exact silu_piece V c t 0 inb_S2048x5632_S2048x512_0_0 inb_S1x5632_S1x512_0_0 x _ _ (by omega) (by omega)

theorem dsilu_out (y : S256x5632.Idx) : (outsAt0 V c t).2.2.2.1 y
    = dsilu (row (iblk0 V c 0 t) (y 0)) (mat (iblk0 V c 1 t)) (vec (iblk0 V c 3 t)) (mat (iblk0 V c 2 t)) (vec (iblk0 V c 4 t)) (y 1) := by
  unfold outsAt0
  frame_open
  simp (disch := decide) only [↓ View.readCov_skip, ↓ View.readCov_cons_toLoadRect, ↓ View.readCov_fill]
  frame_out
  canon_tiles x h
  · exact dsilu_piece V c t 5120 inb_S2048x5632_S2048x512_0_5120 inb_S1x5632_S1x512_0_5120 x _ _ (by omega) (by omega)
  · exact dsilu_piece V c t 4608 inb_S2048x5632_S2048x512_0_4608 inb_S1x5632_S1x512_0_4608 x _ _ (by omega) (by omega)
  · exact dsilu_piece V c t 4096 inb_S2048x5632_S2048x512_0_4096 inb_S1x5632_S1x512_0_4096 x _ _ (by omega) (by omega)
  · exact dsilu_piece V c t 3584 inb_S2048x5632_S2048x512_0_3584 inb_S1x5632_S1x512_0_3584 x _ _ (by omega) (by omega)
  · exact dsilu_piece V c t 3072 inb_S2048x5632_S2048x512_0_3072 inb_S1x5632_S1x512_0_3072 x _ _ (by omega) (by omega)
  · exact dsilu_piece V c t 2560 inb_S2048x5632_S2048x512_0_2560 inb_S1x5632_S1x512_0_2560 x _ _ (by omega) (by omega)
  · exact dsilu_piece V c t 2048 inb_S2048x5632_S2048x512_0_2048 inb_S1x5632_S1x512_0_2048 x _ _ (by omega) (by omega)
  · exact dsilu_piece V c t 1536 inb_S2048x5632_S2048x512_0_1536 inb_S1x5632_S1x512_0_1536 x _ _ (by omega) (by omega)
  · exact dsilu_piece V c t 1024 inb_S2048x5632_S2048x512_0_1024 inb_S1x5632_S1x512_0_1024 x _ _ (by omega) (by omega)
  · exact dsilu_piece V c t 512 inb_S2048x5632_S2048x512_0_512 inb_S1x5632_S1x512_0_512 x _ _ (by omega) (by omega)
  · exact dsilu_piece V c t 0 inb_S2048x5632_S2048x512_0_0 inb_S1x5632_S1x512_0_0 x _ _ (by omega) (by omega)

theorem hq_out (y : S256x5632.Idx) : (outsAt0 V c t).2.2.2.2.1 y
    = code (hrow (iblk0 V c 0 t) (iblk0 V c 1 t) (iblk0 V c 2 t) (iblk0 V c 3 t) (iblk0 V c 4 t) (y 0)) (y 1) := by
  unfold outsAt0
  frame_open
  simp (disch := decide) only [↓ View.readCov_skip, ↓ View.readCov_cons_toLoadRect, ↓ View.readCov_fill]
  frame_out
  canon_tiles x h
  · exact code_piece V c t 5120 inb_S2048x5632_S2048x512_0_5120 inb_S1x5632_S1x512_0_5120 x _ _ (by omega) (by omega)
  · exact code_piece V c t 4608 inb_S2048x5632_S2048x512_0_4608 inb_S1x5632_S1x512_0_4608 x _ _ (by omega) (by omega)
  · exact code_piece V c t 4096 inb_S2048x5632_S2048x512_0_4096 inb_S1x5632_S1x512_0_4096 x _ _ (by omega) (by omega)
  · exact code_piece V c t 3584 inb_S2048x5632_S2048x512_0_3584 inb_S1x5632_S1x512_0_3584 x _ _ (by omega) (by omega)
  · exact code_piece V c t 3072 inb_S2048x5632_S2048x512_0_3072 inb_S1x5632_S1x512_0_3072 x _ _ (by omega) (by omega)
  · exact code_piece V c t 2560 inb_S2048x5632_S2048x512_0_2560 inb_S1x5632_S1x512_0_2560 x _ _ (by omega) (by omega)
  · exact code_piece V c t 2048 inb_S2048x5632_S2048x512_0_2048 inb_S1x5632_S1x512_0_2048 x _ _ (by omega) (by omega)
  · exact code_piece V c t 1536 inb_S2048x5632_S2048x512_0_1536 inb_S1x5632_S1x512_0_1536 x _ _ (by omega) (by omega)
  · exact code_piece V c t 1024 inb_S2048x5632_S2048x512_0_1024 inb_S1x5632_S1x512_0_1024 x _ _ (by omega) (by omega)
  · exact code_piece V c t 512 inb_S2048x5632_S2048x512_0_512 inb_S1x5632_S1x512_0_512 x _ _ (by omega) (by omega)
  · exact code_piece V c t 0 inb_S2048x5632_S2048x512_0_0 inb_S1x5632_S1x512_0_0 x _ _ (by omega) (by omega)

theorem sh_out (y : S256x128.Idx) : (outsAt0 V c t).2.2.2.2.2 y
    = rowScale (hrow (iblk0 V c 0 t) (iblk0 V c 1 t) (iblk0 V c 2 t) (iblk0 V c 3 t) (iblk0 V c 4 t) (y 0)) := by
  idx_vars y
  unfold outsAt0
  frame_open
  simp (disch := decide) only [↓ View.readCov_skip, ↓ View.readCov_cons_toLoadRect, ↓ View.readCov_fill]
  frame_out
  exact scales_h _ _ _ _ _ _ _

end Point

/-! ## Whole arrays -/

/-- A token's row, as the call finds it. -/
def xrow (n : Fin 4096) : Fin 2048 → EReal := fun d => V c main_v3 (ix2 n d)

/-- The gate weights and column scales, and the up weights and column scales, as the call finds them. -/
def wg : Fin 2048 → Fin 5632 → EReal := fun d f => V c main_arg1 (ix2 d f)
def zg : Fin 5632 → EReal := fun f => V c main_v0 (ix2 0 f)
def wu : Fin 2048 → Fin 5632 → EReal := fun d f => V c main_arg3 (ix2 d f)
def zu : Fin 5632 → EReal := fun f => V c main_v1 (ix2 0 f)

theorem t_lt (t : Fin cfg0.N) : t.val < 16 := Nat.lt_of_lt_of_eq t.isLt (by decide +kernel)

theorem coords_eq : ∀ t : Fin cfg0.N, (cfg0.grid.coords t 0).val = t.val := by decide +kernel

theorem idx : ∀ t : Fin cfg0.N, win0_0.index t = ![(cfg0.grid.coords t 0).val, 0] ∧ win0_1.index t = ![0, 0]
    ∧ win0_2.index t = ![0, 0] ∧ win0_3.index t = ![0, 0] ∧ win0_4.index t = ![0, 0]
    ∧ win0_5.index t = ![(cfg0.grid.coords t 0).val, 0] ∧ win0_6.index t = ![(cfg0.grid.coords t 0).val, 0]
    ∧ win0_7.index t = ![(cfg0.grid.coords t 0).val, 0] ∧ win0_8.index t = ![(cfg0.grid.coords t 0).val, 0]
    ∧ win0_9.index t = ![(cfg0.grid.coords t 0).val, 0] ∧ win0_10.index t = ![(cfg0.grid.coords t 0).val, 0] := by decide +kernel

theorem row_eq (t : Fin cfg0.N) (p : Fin 256) : row (iblk0 V c 0 t) p = xrow V c ⟨256 * t.val + p.val, by have := t_lt t; omega⟩ := by
  have e0 := coords_eq t
  obtain ⟨i0, -⟩ := idx t
  funext d
  unfold row xrow
  blk_ext [iblk0, i0, e0]

theorem wg_eq (t : Fin cfg0.N) : mat (iblk0 V c 1 t) = wg V c := by
  obtain ⟨-, i1, -⟩ := idx t
  funext d f
  unfold mat wg
  blk_ext [iblk0, i1]

theorem wu_eq (t : Fin cfg0.N) : mat (iblk0 V c 2 t) = wu V c := by
  obtain ⟨-, -, i2, -⟩ := idx t
  funext d f
  unfold mat wu
  blk_ext [iblk0, i2]

theorem zg_eq (t : Fin cfg0.N) : vec (iblk0 V c 3 t) = zg V c := by
  obtain ⟨-, -, -, i3, -⟩ := idx t
  funext f
  unfold vec zg
  blk_ext [iblk0, i3]

theorem zu_eq (t : Fin cfg0.N) : vec (iblk0 V c 4 t) = zu V c := by
  obtain ⟨-, -, -, -, i4, -⟩ := idx t
  funext f
  unfold vec zu
  blk_ext [iblk0, i4]

/-- A token's hidden row, from the arrays as the call finds them. -/
def hidRow (n : Fin 4096) : Fin 5632 → EReal := hid (xrow V c n) (wg V c) (zg V c) (wu V c) (zu V c)

theorem hrow_eq (t : Fin cfg0.N) (p : Fin 256) :
    hrow (iblk0 V c 0 t) (iblk0 V c 1 t) (iblk0 V c 2 t) (iblk0 V c 3 t) (iblk0 V c 4 t) p
      = hidRow V c ⟨256 * t.val + p.val, by have := t_lt t; omega⟩ := by
  unfold hidRow
  rw [← row_eq, ← wg_eq V c t, ← zg_eq V c t, ← wu_eq V c t, ← zu_eq V c t]

theorem blk5 (t : Fin cfg0.N) (p : Fin 256) (f : Fin 2048) : code (row (iblk0 V c 0 t) p) f
    = code (xrow V c ⟨256 * t.val + p.val, by have := t_lt t; omega⟩) f := by
  rw [row_eq]

theorem at5 (t : Fin cfg0.N) (y : S256x2048.Idx) : (outsAt0 V c t).1 y
    = code (xrow V c ⟨256 * t.val + (y 0).val, by have := t_lt t; have : (y 0).val < 256 := (y 0).isLt; omega⟩) (y 1) :=
  (xq_out V c t y).trans (blk5 V c t (y 0) (y 1))

/-- The token codes. -/
theorem arr5 : (dat0 V c).arrAt 5 cfg0.N = fun i : S4096x2048.Idx => code (xrow V c (i 0)) (i 1) := by
  refine (dat0 V c).arrAt_eq_of_covers 5 _ (by decide +kernel) fun t hf y => ?_
  have e0 := coords_eq t
  obtain ⟨-, -, -, -, -, i5, -⟩ := idx t
  blk_simp [i5, e0]
  refine (congrFun (after0_5 V c t) y).trans ((at5 V c t y).trans ?_)
  refine congrArg₂ (fun (n : Fin 4096) (j : Fin 2048) => code (xrow V c n) j) (Fin.ext ?_) (Fin.ext ?_)
  · blk_simp [i5, e0]
    exact congrArg (· + (y 0).val) (Nat.mul_comm _ _)
  · blk_simp [i5, e0]

theorem blk6 (t : Fin cfg0.N) (p : Fin 256) : rowScale (row (iblk0 V c 0 t) p)
    = rowScale (xrow V c ⟨256 * t.val + p.val, by have := t_lt t; omega⟩) := by
  rw [row_eq]

theorem at6 (t : Fin cfg0.N) (y : S256x128.Idx) : (outsAt0 V c t).2.1 y
    = rowScale (xrow V c ⟨256 * t.val + (y 0).val, by have := t_lt t; have : (y 0).val < 256 := (y 0).isLt; omega⟩) :=
  (sx_out V c t y).trans (blk6 V c t (y 0))

/-- The token scales, in every lane. -/
theorem arr6 : (dat0 V c).arrAt 6 cfg0.N = fun i : S4096x128.Idx => rowScale (xrow V c (i 0)) := by
  refine (dat0 V c).arrAt_eq_of_covers 6 _ (by decide +kernel) fun t hf y => ?_
  have e0 := coords_eq t
  obtain ⟨-, -, -, -, -, -, i6, -⟩ := idx t
  blk_simp [i6, e0]
  refine (congrFun (after0_6 V c t) y).trans ((at6 V c t y).trans ?_)
  refine congrArg (fun n : Fin 4096 => rowScale (xrow V c n)) (Fin.ext ?_)
  blk_simp [i6, e0]
  exact congrArg (· + (y 0).val) (Nat.mul_comm _ _)

theorem blk7 (t : Fin cfg0.N) (p : Fin 256) (f : Fin 5632) : silu (row (iblk0 V c 0 t) p) (mat (iblk0 V c 1 t)) (vec (iblk0 V c 3 t)) f
    = silu (xrow V c ⟨256 * t.val + p.val, by have := t_lt t; omega⟩) (wg V c) (zg V c) f := by
  rw [row_eq, wg_eq, zg_eq]

theorem at7 (t : Fin cfg0.N) (y : S256x5632.Idx) : (outsAt0 V c t).2.2.1 y
    = silu (xrow V c ⟨256 * t.val + (y 0).val, by have := t_lt t; have : (y 0).val < 256 := (y 0).isLt; omega⟩) (wg V c) (zg V c) (y 1) :=
  (silu_out V c t y).trans (blk7 V c t (y 0) (y 1))

/-- The activation of the gate. -/
theorem arr7 : (dat0 V c).arrAt 7 cfg0.N = fun i : S4096x5632.Idx => silu (xrow V c (i 0)) (wg V c) (zg V c) (i 1) := by
  refine (dat0 V c).arrAt_eq_of_covers 7 _ (by decide +kernel) fun t hf y => ?_
  have e0 := coords_eq t
  obtain ⟨-, -, -, -, -, -, -, i7, -⟩ := idx t
  blk_simp [i7, e0]
  refine (congrFun (after0_7 V c t) y).trans ((at7 V c t y).trans ?_)
  refine congrArg₂ (fun (n : Fin 4096) (j : Fin 5632) => silu (xrow V c n) (wg V c) (zg V c) j) (Fin.ext ?_) (Fin.ext ?_)
  · blk_simp [i7, e0]
    exact congrArg (· + (y 0).val) (Nat.mul_comm _ _)
  · blk_simp [i7, e0]

theorem blk8 (t : Fin cfg0.N) (p : Fin 256) (f : Fin 5632) : dsilu (row (iblk0 V c 0 t) p) (mat (iblk0 V c 1 t)) (vec (iblk0 V c 3 t)) (mat (iblk0 V c 2 t)) (vec (iblk0 V c 4 t)) f
    = dsilu (xrow V c ⟨256 * t.val + p.val, by have := t_lt t; omega⟩) (wg V c) (zg V c) (wu V c) (zu V c) f := by
  rw [row_eq, wg_eq, zg_eq, wu_eq, zu_eq]

theorem at8 (t : Fin cfg0.N) (y : S256x5632.Idx) : (outsAt0 V c t).2.2.2.1 y
    = dsilu (xrow V c ⟨256 * t.val + (y 0).val, by have := t_lt t; have : (y 0).val < 256 := (y 0).isLt; omega⟩) (wg V c) (zg V c) (wu V c) (zu V c) (y 1) :=
  (dsilu_out V c t y).trans (blk8 V c t (y 0) (y 1))

/-- The derivative of the activation times the up layer. -/
theorem arr8 : (dat0 V c).arrAt 8 cfg0.N = fun i : S4096x5632.Idx => dsilu (xrow V c (i 0)) (wg V c) (zg V c) (wu V c) (zu V c) (i 1) := by
  refine (dat0 V c).arrAt_eq_of_covers 8 _ (by decide +kernel) fun t hf y => ?_
  have e0 := coords_eq t
  obtain ⟨-, -, -, -, -, -, -, -, i8, -⟩ := idx t
  blk_simp [i8, e0]
  refine (congrFun (after0_8 V c t) y).trans ((at8 V c t y).trans ?_)
  refine congrArg₂ (fun (n : Fin 4096) (j : Fin 5632) => dsilu (xrow V c n) (wg V c) (zg V c) (wu V c) (zu V c) j) (Fin.ext ?_) (Fin.ext ?_)
  · blk_simp [i8, e0]
    exact congrArg (· + (y 0).val) (Nat.mul_comm _ _)
  · blk_simp [i8, e0]

theorem blk9 (t : Fin cfg0.N) (p : Fin 256) (f : Fin 5632) : code (hrow (iblk0 V c 0 t) (iblk0 V c 1 t) (iblk0 V c 2 t) (iblk0 V c 3 t) (iblk0 V c 4 t) p) f
    = code (hidRow V c ⟨256 * t.val + p.val, by have := t_lt t; omega⟩) f := by
  rw [hrow_eq]

theorem at9 (t : Fin cfg0.N) (y : S256x5632.Idx) : (outsAt0 V c t).2.2.2.2.1 y
    = code (hidRow V c ⟨256 * t.val + (y 0).val, by have := t_lt t; have : (y 0).val < 256 := (y 0).isLt; omega⟩) (y 1) :=
  (hq_out V c t y).trans (blk9 V c t (y 0) (y 1))

/-- The hidden codes. -/
theorem arr9 : (dat0 V c).arrAt 9 cfg0.N = fun i : S4096x5632.Idx => code (hidRow V c (i 0)) (i 1) := by
  refine (dat0 V c).arrAt_eq_of_covers 9 _ (by decide +kernel) fun t hf y => ?_
  have e0 := coords_eq t
  obtain ⟨-, -, -, -, -, -, -, -, -, i9, -⟩ := idx t
  blk_simp [i9, e0]
  refine (congrFun (after0_9 V c t) y).trans ((at9 V c t y).trans ?_)
  refine congrArg₂ (fun (n : Fin 4096) (j : Fin 5632) => code (hidRow V c n) j) (Fin.ext ?_) (Fin.ext ?_)
  · blk_simp [i9, e0]
    exact congrArg (· + (y 0).val) (Nat.mul_comm _ _)
  · blk_simp [i9, e0]

theorem blk10 (t : Fin cfg0.N) (p : Fin 256) : rowScale (hrow (iblk0 V c 0 t) (iblk0 V c 1 t) (iblk0 V c 2 t) (iblk0 V c 3 t) (iblk0 V c 4 t) p)
    = rowScale (hidRow V c ⟨256 * t.val + p.val, by have := t_lt t; omega⟩) := by
  rw [hrow_eq]

theorem at10 (t : Fin cfg0.N) (y : S256x128.Idx) : (outsAt0 V c t).2.2.2.2.2 y
    = rowScale (hidRow V c ⟨256 * t.val + (y 0).val, by have := t_lt t; have : (y 0).val < 256 := (y 0).isLt; omega⟩) :=
  (sh_out V c t y).trans (blk10 V c t (y 0))

/-- The hidden scales, in every lane. -/
theorem arr10 : (dat0 V c).arrAt 10 cfg0.N = fun i : S4096x128.Idx => rowScale (hidRow V c (i 0)) := by
  refine (dat0 V c).arrAt_eq_of_covers 10 _ (by decide +kernel) fun t hf y => ?_
  have e0 := coords_eq t
  obtain ⟨-, -, -, -, -, -, -, -, -, -, i10⟩ := idx t
  blk_simp [i10, e0]
  refine (congrFun (after0_10 V c t) y).trans ((at10 V c t y).trans ?_)
  refine congrArg (fun n : Fin 4096 => rowScale (hidRow V c n)) (Fin.ext ?_)
  blk_simp [i10, e0]
  exact congrArg (· + (y 0).val) (Nat.mul_comm _ _)

end Proof.Primal

end
-- ==== Proof.Gate.lean ====
/-
  The gate branch's call: what its body leaves at each grid point, and the arrays these blocks make up.
-/
module

public import proofs.«01_k».proof.Proof.Block
public import proofs.«01_k».proof.Proof.Frame.Region1

@[expose] public section

set_option maxRecDepth 16384

noncomputable section

namespace Proof.Gate

open Idealize.ShloMosaic Idealize.ShloMosaic.TcCoe Idealize.SL.Sem Cert.KernelIdeal Cert.KernelIdeal.Gen Proof.Signs Proof.Block Proof.Full

variable (V : (c : Dev nD) → (b : Ref sig .tc) → Buf (Elt Ideal) ((c : Thread nD τ).loc b)) (c : Dev nD)

/-! ## One grid point -/

section Point

variable (t : Fin cfg1.N)

/-- The derivative block of a grid point. -/
def dyPt : Fin 512 → Fin 2048 → EReal :=
  hidArr (7 - (cfg1.grid.coords t 1).val) (iblk1 V c 0 t) (iblk1 V c 1 t) (iblk1 V c 2 t) (iblk1 V c 3 t) (iblk1 V c 4 t) (iblk1 V c 5 t)

/-- The point's scratch array, read back whole. -/
theorem scratchPt (v : View sig .tc .vmem S512x5632 .bf16) :
    v.readCov (pieces (Scalar.subi 7#32 (BitVec.ofNat 32 (cfg1.grid.coords t 1).val)) (iblk1 V c 0 t) (iblk1 V c 1 t) (iblk1 V c 2 t) (iblk1 V c 3 t))
      (Rect.unit (s := S512x5632) ![0, 0] ![512, 5632] inb_S512x5632_S512x5632_0_0).toLoadRect
      = tArr (7 - (cfg1.grid.coords t 1).val) (iblk1 V c 0 t) (iblk1 V c 1 t) (iblk1 V c 2 t) (iblk1 V c 3 t) :=
  scratch _ _ v (shift_eq _ (cfg1.grid.coords t 1).isLt) _ _ _ _

/-- A derivative of 512 columns, computed from the scratch array read back. -/
theorem colPt (v : View sig .tc .vmem S512x5632 .bf16) (o : ℕ) (h1) (h2) (p q : Fin 512) (d : Fin 2048) (hd : d.val = o + q.val) :
    k1_pay28 (F := Ideal) (v.readCov (pieces (Scalar.subi 7#32 (BitVec.ofNat 32 (cfg1.grid.coords t 1).val)) (iblk1 V c 0 t) (iblk1 V c 1 t) (iblk1 V c 2 t) (iblk1 V c 3 t))
      (Rect.unit (s := S512x5632) ![0, 0] ![512, 5632] inb_S512x5632_S512x5632_0_0).toLoadRect)
      (View.ld (iblk1 V c 4 t) (Rect.unit ![0, o] ![5632, 512] h1)) (View.ld (iblk1 V c 5 t) (Rect.unit ![0, o] ![1, 512] h2)) (ix2 p q)
      = dyPt V c t p d :=
  hid_block _ _ _ _ _ _ _ _ (scratchPt V c t v) o h1 h2 p q d hd

theorem dy_A (h0 : t.val % 64 = 0) (y : S1x512x2048.Idx) : (outsAt1 V c t.val t.isLt).1 y = dyPt V c t (y 1) (y 2) := by
  rw [outsAt1_A V c t h0]
  frame_open
  simp (disch := decide) only [↓ View.readCov_skip, ↓ View.readCov_cons_toLoadRect, ↓ View.readCov_fill]
  frame_out
  canon_tiles x h
  all_goals exact hid_piece _ _ _ _ _ _ _ _ (scratchPt V c t _) _ _ _ x _ _ (by omega) (by omega)

theorem sq_A (h0 : t.val % 64 = 0) (p : Fin 512) : (outsAt1 V c t.val t.isLt).2.1 (ix3 0 0 p) = sqArr (dyPt V c t) p := by
  rw [outsAt1_A V c t h0]
  frame_open
  simp (disch := decide) only [↓ View.readCov_skip, ↓ View.readCov_cons_toLoadRect, ↓ View.readCov_fill]
  frame_out
  exact sq_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) p

theorem tr_A (h0 : t.val % 64 = 0) (l : Fin 128) : (outsAt1 V c t.val t.isLt).2.2 (ix2 0 l)
    = 0 + ∑ r : Fin 4, sqArr (dyPt V c t) ⟨128 * r.val + l.val, by omega⟩ := by
  rw [outsAt1_A V c t h0]
  frame_open
  simp (disch := decide) only [↓ View.readCov_skip, ↓ View.readCov_cons_toLoadRect, ↓ View.readCov_fill]
  frame_out
  exact (tr_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) _ l).trans (congrArg (· + _) (zero_row l))

theorem dy_B (h0 : ¬ t.val % 64 = 0) (y : S1x512x2048.Idx) : (outsAt1 V c t.val t.isLt).1 y = dyPt V c t (y 1) (y 2) := by
  rw [outsAt1_B V c t h0]
  frame_open
  simp (disch := decide) only [↓ View.readCov_skip, ↓ View.readCov_cons_toLoadRect, ↓ View.readCov_fill]
  frame_out
  canon_tiles x h
  all_goals exact hid_piece _ _ _ _ _ _ _ _ (scratchPt V c t _) _ _ _ x _ _ (by omega) (by omega)

theorem sq_B (h0 : ¬ t.val % 64 = 0) (p : Fin 512) : (outsAt1 V c t.val t.isLt).2.1 (ix3 0 0 p) = sqArr (dyPt V c t) p := by
  rw [outsAt1_B V c t h0]
  frame_open
  simp (disch := decide) only [↓ View.readCov_skip, ↓ View.readCov_cons_toLoadRect, ↓ View.readCov_fill]
  frame_out
  exact sq_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) p

theorem tr_B (h0 : ¬ t.val % 64 = 0) (l : Fin 128) : (outsAt1 V c t.val t.isLt).2.2 (ix2 0 l)
    = (outsAt1 V c (t.val - 1) (by omega)).2.2 (ix2 0 l) + ∑ r : Fin 4, sqArr (dyPt V c t) ⟨128 * r.val + l.val, by omega⟩ := by
  rw [outsAt1_B V c t h0]
  frame_open
  simp (disch := decide) only [↓ View.readCov_skip, ↓ View.readCov_cons_toLoadRect, ↓ View.readCov_fill]
  frame_out
  exact tr_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) _ l

theorem dy_out (y : S1x512x2048.Idx) : (outsAt1 V c t.val t.isLt).1 y = dyPt V c t (y 1) (y 2) := by
  by_cases h : t.val % 64 = 0
  · exact dy_A V c t h y
  · exact dy_B V c t h y

theorem sq_out (p : Fin 512) : (outsAt1 V c t.val t.isLt).2.1 (ix3 0 0 p) = sqArr (dyPt V c t) p := by
  by_cases h : t.val % 64 = 0
  · exact sq_A V c t h p
  · exact sq_B V c t h p

end Point

/-! ## Whole arrays -/

/-- The branch's derivatives, from the arrays as the call finds them. -/
def dyM : ℕ → Fin 4096 → Fin 2048 → EReal :=
  dyN (fun n d => V c main_v4_0 (ix2 n d)) (fun n => V c main_v4_1 (ix2 n 0)) (fun n f => V c main_v4_3 (ix2 n f))
    (fun d f => V c main_arg7 (ix2 d f)) (fun f d => V c main_arg5 (ix2 f d)) (fun d => V c main_v2 (ix2 0 d))

theorem t_lt (t : Fin cfg1.N) : t.val < 64 := Nat.lt_of_lt_of_eq t.isLt (by decide +kernel)

theorem coords_eq : ∀ t : Fin cfg1.N, (cfg1.grid.coords t 0).val = t.val / 8 ∧ (cfg1.grid.coords t 1).val = t.val % 8 := by decide +kernel

theorem idx : ∀ t : Fin cfg1.N, win1_0.index t = ![(cfg1.grid.coords t 0).val, 0] ∧ win1_1.index t = ![(cfg1.grid.coords t 0).val, 0]
    ∧ win1_2.index t = ![(cfg1.grid.coords t 0).val, 0] ∧ win1_3.index t = ![0, 0] ∧ win1_4.index t = ![0, 0] ∧ win1_5.index t = ![0, 0]
    ∧ win1_6.index t = ![0, (cfg1.grid.coords t 0).val, 0] ∧ win1_7.index t = ![7 - (cfg1.grid.coords t 1).val, 0, (cfg1.grid.coords t 0).val]
    ∧ win1_8.index t = ![0, 0] := by decide +kernel

theorem dyPt_eq (t : Fin cfg1.N) (p : Fin 512) (d : Fin 2048) :
    dyPt V c t p d = dyM V c (7 - t.val % 8) ⟨512 * (t.val / 8) + p.val, by have := t_lt t; omega⟩ d := by
  obtain ⟨e0, e1⟩ := coords_eq t
  obtain ⟨i0, i1, i2, i3, i4, i5, -⟩ := idx t
  unfold dyPt dyM
  rw [e1]
  refine hidArr_eq _ _ _ _ _ _ _ _ _ _ _ _ _ p _ (fun d => ?_) ?_ (fun f => ?_) (fun d f => ?_) (fun f d => ?_) (fun d => ?_) d
  · blk_ext [iblk1, i0, e0]
  · blk_ext [iblk1, i1, e0]
  · blk_ext [iblk1, i2, e0]
  · blk_ext [iblk1, i3, e0]
  · blk_ext [iblk1, i4, e0]
  · blk_ext [iblk1, i5, e0]

theorem sqPt_eq (t : Fin cfg1.N) (p : Fin 512) :
    sqArr (dyPt V c t) p = sqN (dyM V c) (7 - t.val % 8) ⟨512 * (t.val / 8) + p.val, by have := t_lt t; omega⟩ :=
  sqArr_eq _ _ _ _ _ fun d => dyPt_eq V c t p d

/-- Slot 0 of the stacked derivatives is probe 0's; the other slots are as the call finds them. -/
theorem arr6 : (dat1 V c).arrAt 6 cfg1.N
    = fun i : S3x4096x2048.Idx => if (i 0).val = 0 then dyM V c 0 (i 1) (i 2) else V c main_v5_0 i := by
  refine (dat1 V c).arrAt_eq_of_coversWhere 6 _ (fun β => β 0 = 0) (by decide +kernel) (fun t hf y => ?_) (fun j => ?_)
  · have h7 : t.val % 8 = 7 := (flush1_6 t).mp hf
    obtain ⟨i0, i1, i2, i3, i4, i5, i6, -⟩ := idx t
    obtain ⟨e0, e1⟩ := coords_eq t
    refine (congrFun (after1_6 V c t) y).trans ((dy_out V c t _).trans ((dyPt_eq V c t _ _).trans ?_))
    rw [h7]
    refine congrArg₂ (dyM V c 0) (Fin.ext ?_) (Fin.ext ?_)
    · blk_simp [i6, e0]
      exact congrArg (· + (y 1).val) (Nat.mul_comm _ _)
    · blk_simp [i6, e0]
  · blk_simp [Pipeline.Window.cell_apply]
    omega

/-- The squared norms of every probe and token. -/
theorem arr7 : (dat1 V c).arrAt 7 cfg1.N = fun i : S8x1x4096.Idx => sqN (dyM V c) (i 0).val (i 2) := by
  refine (dat1 V c).arrAt_eq_of_covers 7 _ (by decide +kernel) fun t hf y => ?_
  obtain ⟨i0, i1, i2, i3, i4, i5, i6, i7, i8⟩ := idx t
  obtain ⟨e0, e1⟩ := coords_eq t
  blk_simp [i7, e0, e1]
  have ey : y = ix3 (0 : Fin 1) (0 : Fin 1) (y 2) := by
    funext a
    fin_cases a
    · exact Subsingleton.elim (α := Fin 1) _ _
    · exact Subsingleton.elim (α := Fin 1) _ _
    · rfl
  rw [after1_7, ey]
  refine (sq_out V c t (y 2)).trans ((sqPt_eq V c t _).trans ?_)
  refine congrArg (sqN (dyM V c) _) (Fin.ext ?_)
  blk_simp [i7, e0]
  exact congrArg (· + (y 2).val) (Nat.mul_comm _ _)

/-- The last grid point. -/
def tLast : Fin cfg1.N := ⟨63, by decide +kernel⟩

/-- The lane sums after the last point. -/
theorem tr_last (l : Fin 128) : (outsAt1 V c tLast.val tLast.isLt).2.2 (ix2 0 l) = laneSum (sqN (dyM V c)) l := by
  rw [laneSum_blocks]
  have h := Pipeline.eq_sum_fin_of_reset_step_apply_last (fun n h (l : Fin 128) => (outsAt1 V c n h).2.2 (ix2 0 l)) 64 (fun _ => 0)
    (fun t l => ∑ r : Fin 4, sqN (dyM V c) (7 - t.val % 8) ⟨512 * (t.val / 8) + (128 * r.val + l.val), by have := t_lt t; omega⟩)
    (fun t h0 l => (tr_A V c t h0 l).trans (congrArg (0 + ·) (Finset.sum_congr rfl fun r _ => sqPt_eq V c t _)))
    (fun t h0 l => (tr_B V c t h0 l).trans (congrArg (_ + ·) (Finset.sum_congr rfl fun r _ => sqPt_eq V c t _)))
    (by decide +kernel) tLast (by decide +kernel) l
  refine h.trans ?_
  rw [zero_add]
  rfl

theorem arr8 : (dat1 V c).arrAt 8 cfg1.N = fun i : S1x128.Idx => laneSum (sqN (dyM V c)) (i 1) := by
  refine (dat1 V c).arrAt_eq_of_after_last 8 tLast (by decide +kernel) _ fun j => ?_
  blk_simp
  rw [after1_8]
  have ej : j = ix2 (0 : Fin 1) (j 1) := by
    funext a
    fin_cases a
    · exact Subsingleton.elim (α := Fin 1) _ _
    · rfl
  rw [ej]
  exact tr_last V c (j 1)

end Proof.Gate

end
-- ==== Proof.Up.lean ====
/-
  The up branch's call: what its body leaves at each grid point, and the arrays these blocks make up.
-/
module

public import proofs.«01_k».proof.Proof.Block
public import proofs.«01_k».proof.Proof.Frame.Region2

@[expose] public section

set_option maxRecDepth 16384

noncomputable section

namespace Proof.Up

open Idealize.ShloMosaic Idealize.ShloMosaic.TcCoe Idealize.SL.Sem Cert.KernelIdeal Cert.KernelIdeal.Gen Proof.Signs Proof.Block Proof.Full

variable (V : (c : Dev nD) → (b : Ref sig .tc) → Buf (Elt Ideal) ((c : Thread nD τ).loc b)) (c : Dev nD)

/-! ## One grid point -/

section Point

variable (t : Fin cfg2.N)

/-- The derivative block of a grid point. -/
def dyPt : Fin 512 → Fin 2048 → EReal :=
  hidArr (7 - (cfg2.grid.coords t 1).val) (iblk2 V c 0 t) (iblk2 V c 1 t) (iblk2 V c 2 t) (iblk2 V c 3 t) (iblk2 V c 4 t) (iblk2 V c 5 t)

/-- The point's scratch array, read back whole. -/
theorem scratchPt (v : View sig .tc .vmem S512x5632 .bf16) :
    v.readCov (pieces (Scalar.subi 7#32 (BitVec.ofNat 32 (cfg2.grid.coords t 1).val)) (iblk2 V c 0 t) (iblk2 V c 1 t) (iblk2 V c 2 t) (iblk2 V c 3 t))
      (Rect.unit (s := S512x5632) ![0, 0] ![512, 5632] inb_S512x5632_S512x5632_0_0).toLoadRect
      = tArr (7 - (cfg2.grid.coords t 1).val) (iblk2 V c 0 t) (iblk2 V c 1 t) (iblk2 V c 2 t) (iblk2 V c 3 t) :=
  scratch _ _ v (shift_eq _ (cfg2.grid.coords t 1).isLt) _ _ _ _

/-- A derivative of 512 columns, computed from the scratch array read back. -/
theorem colPt (v : View sig .tc .vmem S512x5632 .bf16) (o : ℕ) (h1) (h2) (p q : Fin 512) (d : Fin 2048) (hd : d.val = o + q.val) :
    k1_pay28 (F := Ideal) (v.readCov (pieces (Scalar.subi 7#32 (BitVec.ofNat 32 (cfg2.grid.coords t 1).val)) (iblk2 V c 0 t) (iblk2 V c 1 t) (iblk2 V c 2 t) (iblk2 V c 3 t))
      (Rect.unit (s := S512x5632) ![0, 0] ![512, 5632] inb_S512x5632_S512x5632_0_0).toLoadRect)
      (View.ld (iblk2 V c 4 t) (Rect.unit ![0, o] ![5632, 512] h1)) (View.ld (iblk2 V c 5 t) (Rect.unit ![0, o] ![1, 512] h2)) (ix2 p q)
      = dyPt V c t p d :=
  hid_block _ _ _ _ _ _ _ _ (scratchPt V c t v) o h1 h2 p q d hd

theorem dy_A (h0 : t.val % 64 = 0) (y : S1x512x2048.Idx) : (outsAt2 V c t.val t.isLt).1 y = dyPt V c t (y 1) (y 2) := by
  rw [outsAt2_A V c t h0]
  frame_open
  simp (disch := decide) only [↓ View.readCov_skip, ↓ View.readCov_cons_toLoadRect, ↓ View.readCov_fill]
  frame_out
  canon_tiles x h
  all_goals exact hid_piece _ _ _ _ _ _ _ _ (scratchPt V c t _) _ _ _ x _ _ (by omega) (by omega)

theorem sq_A (h0 : t.val % 64 = 0) (p : Fin 512) : (outsAt2 V c t.val t.isLt).2.1 (ix3 0 0 p) = sqArr (dyPt V c t) p := by
  rw [outsAt2_A V c t h0]
  frame_open
  simp (disch := decide) only [↓ View.readCov_skip, ↓ View.readCov_cons_toLoadRect, ↓ View.readCov_fill]
  frame_out
  exact sq_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) p

theorem tr_A (h0 : t.val % 64 = 0) (l : Fin 128) : (outsAt2 V c t.val t.isLt).2.2 (ix2 0 l)
    = 0 + ∑ r : Fin 4, sqArr (dyPt V c t) ⟨128 * r.val + l.val, by omega⟩ := by
  rw [outsAt2_A V c t h0]
  frame_open
  simp (disch := decide) only [↓ View.readCov_skip, ↓ View.readCov_cons_toLoadRect, ↓ View.readCov_fill]
  frame_out
  exact (tr_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) _ l).trans (congrArg (· + _) (zero_row l))

theorem dy_B (h0 : ¬ t.val % 64 = 0) (y : S1x512x2048.Idx) : (outsAt2 V c t.val t.isLt).1 y = dyPt V c t (y 1) (y 2) := by
  rw [outsAt2_B V c t h0]
  frame_open
  simp (disch := decide) only [↓ View.readCov_skip, ↓ View.readCov_cons_toLoadRect, ↓ View.readCov_fill]
  frame_out
  canon_tiles x h
  all_goals exact hid_piece _ _ _ _ _ _ _ _ (scratchPt V c t _) _ _ _ x _ _ (by omega) (by omega)

theorem sq_B (h0 : ¬ t.val % 64 = 0) (p : Fin 512) : (outsAt2 V c t.val t.isLt).2.1 (ix3 0 0 p) = sqArr (dyPt V c t) p := by
  rw [outsAt2_B V c t h0]
  frame_open
  simp (disch := decide) only [↓ View.readCov_skip, ↓ View.readCov_cons_toLoadRect, ↓ View.readCov_fill]
  frame_out
  exact sq_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) p

theorem tr_B (h0 : ¬ t.val % 64 = 0) (l : Fin 128) : (outsAt2 V c t.val t.isLt).2.2 (ix2 0 l)
    = (outsAt2 V c (t.val - 1) (by omega)).2.2 (ix2 0 l) + ∑ r : Fin 4, sqArr (dyPt V c t) ⟨128 * r.val + l.val, by omega⟩ := by
  rw [outsAt2_B V c t h0]
  frame_open
  simp (disch := decide) only [↓ View.readCov_skip, ↓ View.readCov_cons_toLoadRect, ↓ View.readCov_fill]
  frame_out
  exact tr_apply (k1_pay28 _ _ _) (k1_pay28 _ _ _) (k1_pay28 _ _ _) (k1_pay28 _ _ _) (dyPt V c t)
    (colPt V c t _ 0 _ _) (colPt V c t _ 512 _ _) (colPt V c t _ 1024 _ _) (colPt V c t _ 1536 _ _) _ l

theorem dy_out (y : S1x512x2048.Idx) : (outsAt2 V c t.val t.isLt).1 y = dyPt V c t (y 1) (y 2) := by
  by_cases h : t.val % 64 = 0
  · exact dy_A V c t h y
  · exact dy_B V c t h y

theorem sq_out (p : Fin 512) : (outsAt2 V c t.val t.isLt).2.1 (ix3 0 0 p) = sqArr (dyPt V c t) p := by
  by_cases h : t.val % 64 = 0
  · exact sq_A V c t h p
  · exact sq_B V c t h p

end Point

/-! ## Whole arrays -/

/-- The branch's derivatives, from the arrays as the call finds them. -/
def dyM : ℕ → Fin 4096 → Fin 2048 → EReal :=
  dyN (fun n d => V c main_v4_0 (ix2 n d)) (fun n => V c main_v4_1 (ix2 n 0)) (fun n f => V c main_v4_2 (ix2 n f))
    (fun d f => V c main_arg8 (ix2 d f)) (fun f d => V c main_arg5 (ix2 f d)) (fun d => V c main_v2 (ix2 0 d))

theorem t_lt (t : Fin cfg2.N) : t.val < 64 := Nat.lt_of_lt_of_eq t.isLt (by decide +kernel)

theorem coords_eq : ∀ t : Fin cfg2.N, (cfg2.grid.coords t 0).val = t.val / 8 ∧ (cfg2.grid.coords t 1).val = t.val % 8 := by decide +kernel

theorem idx : ∀ t : Fin cfg2.N, win2_0.index t = ![(cfg2.grid.coords t 0).val, 0] ∧ win2_1.index t = ![(cfg2.grid.coords t 0).val, 0]
    ∧ win2_2.index t = ![(cfg2.grid.coords t 0).val, 0] ∧ win2_3.index t = ![0, 0] ∧ win2_4.index t = ![0, 0] ∧ win2_5.index t = ![0, 0]
    ∧ win2_6.index t = ![1, (cfg2.grid.coords t 0).val, 0] ∧ win2_7.index t = ![7 - (cfg2.grid.coords t 1).val, 0, (cfg2.grid.coords t 0).val]
    ∧ win2_8.index t = ![0, 0] := by decide +kernel

theorem dyPt_eq (t : Fin cfg2.N) (p : Fin 512) (d : Fin 2048) :
    dyPt V c t p d = dyM V c (7 - t.val % 8) ⟨512 * (t.val / 8) + p.val, by have := t_lt t; omega⟩ d := by
  obtain ⟨e0, e1⟩ := coords_eq t
  obtain ⟨i0, i1, i2, i3, i4, i5, -⟩ := idx t
  unfold dyPt dyM
  rw [e1]
  refine hidArr_eq _ _ _ _ _ _ _ _ _ _ _ _ _ p _ (fun d => ?_) ?_ (fun f => ?_) (fun d f => ?_) (fun f d => ?_) (fun d => ?_) d
  · blk_ext [iblk2, i0, e0]
  · blk_ext [iblk2, i1, e0]
  · blk_ext [iblk2, i2, e0]
  · blk_ext [iblk2, i3, e0]
  · blk_ext [iblk2, i4, e0]
  · blk_ext [iblk2, i5, e0]

theorem sqPt_eq (t : Fin cfg2.N) (p : Fin 512) :
    sqArr (dyPt V c t) p = sqN (dyM V c) (7 - t.val % 8) ⟨512 * (t.val / 8) + p.val, by have := t_lt t; omega⟩ :=
  sqArr_eq _ _ _ _ _ fun d => dyPt_eq V c t p d

/-- Slot 1 of the stacked derivatives is probe 0's; the other slots are as the call finds them. -/
theorem arr6 : (dat2 V c).arrAt 6 cfg2.N
    = fun i : S3x4096x2048.Idx => if (i 0).val = 1 then dyM V c 0 (i 1) (i 2) else V c main_v6_0 i := by
  refine (dat2 V c).arrAt_eq_of_coversWhere 6 _ (fun β => β 0 = 1) (by decide +kernel) (fun t hf y => ?_) (fun j => ?_)
  · have h7 : t.val % 8 = 7 := (flush2_6 t).mp hf
    obtain ⟨i0, i1, i2, i3, i4, i5, i6, -⟩ := idx t
    obtain ⟨e0, e1⟩ := coords_eq t
    refine (congrFun (after2_6 V c t) y).trans ((dy_out V c t _).trans ((dyPt_eq V c t _ _).trans ?_))
    rw [h7]
    refine congrArg₂ (dyM V c 0) (Fin.ext ?_) (Fin.ext ?_)
    · blk_simp [i6, e0]
      exact congrArg (· + (y 1).val) (Nat.mul_comm _ _)
    · blk_simp [i6, e0]
  · blk_simp [Pipeline.Window.cell_apply]
    omega

/-- The squared norms of every probe and token. -/
theorem arr7 : (dat2 V c).arrAt 7 cfg2.N = fun i : S8x1x4096.Idx => sqN (dyM V c) (i 0).val (i 2) := by
  refine (dat2 V c).arrAt_eq_of_covers 7 _ (by decide +kernel) fun t hf y => ?_
  obtain ⟨i0, i1, i2, i3, i4, i5, i6, i7, i8⟩ := idx t
  obtain ⟨e0, e1⟩ := coords_eq t
  blk_simp [i7, e0, e1]
  have ey : y = ix3 (0 : Fin 1) (0 : Fin 1) (y 2) := by
    funext a
    fin_cases a
    · exact Subsingleton.elim (α := Fin 1) _ _
    · exact Subsingleton.elim (α := Fin 1) _ _
    · rfl
  rw [after2_7, ey]
  refine (sq_out V c t (y 2)).trans ((sqPt_eq V c t _).trans ?_)
  refine congrArg (sqN (dyM V c) _) (Fin.ext ?_)
  blk_simp [i7, e0]
  exact congrArg (· + (y 2).val) (Nat.mul_comm _ _)

/-- The last grid point. -/
def tLast : Fin cfg2.N := ⟨63, by decide +kernel⟩

/-- The lane sums after the last point. -/
theorem tr_last (l : Fin 128) : (outsAt2 V c tLast.val tLast.isLt).2.2 (ix2 0 l) = laneSum (sqN (dyM V c)) l := by
  rw [laneSum_blocks]
  have h := Pipeline.eq_sum_fin_of_reset_step_apply_last (fun n h (l : Fin 128) => (outsAt2 V c n h).2.2 (ix2 0 l)) 64 (fun _ => 0)
    (fun t l => ∑ r : Fin 4, sqN (dyM V c) (7 - t.val % 8) ⟨512 * (t.val / 8) + (128 * r.val + l.val), by have := t_lt t; omega⟩)
    (fun t h0 l => (tr_A V c t h0 l).trans (congrArg (0 + ·) (Finset.sum_congr rfl fun r _ => sqPt_eq V c t _)))
    (fun t h0 l => (tr_B V c t h0 l).trans (congrArg (_ + ·) (Finset.sum_congr rfl fun r _ => sqPt_eq V c t _)))
    (by decide +kernel) tLast (by decide +kernel) l
  refine h.trans ?_
  rw [zero_add]
  rfl

theorem arr8 : (dat2 V c).arrAt 8 cfg2.N = fun i : S1x128.Idx => laneSum (sqN (dyM V c)) (i 1) := by
  refine (dat2 V c).arrAt_eq_of_after_last 8 tLast (by decide +kernel) _ fun j => ?_
  blk_simp
  rw [after2_8]
  have ej : j = ix2 (0 : Fin 1) (j 1) := by
    funext a
    fin_cases a
    · exact Subsingleton.elim (α := Fin 1) _ _
    · rfl
  rw [ej]
  exact tr_last V c (j 1)

end Proof.Up

end
-- ==== Proof.Down.lean ====
/-
  The down branch's call: what its body leaves at each grid point, and the arrays these blocks make up.
-/
module

public import proofs.«01_k».proof.Proof.Block
public import proofs.«01_k».proof.Proof.Frame.Region3

@[expose] public section

set_option maxRecDepth 16384

noncomputable section

namespace Proof.Down

open Idealize.ShloMosaic Idealize.ShloMosaic.TcCoe Idealize.SL.Sem Cert.KernelIdeal Cert.KernelIdeal.Gen Proof.Signs Proof.Block Proof.Full

variable (V : (c : Dev nD) → (b : Ref sig .tc) → Buf (Elt Ideal) ((c : Thread nD τ).loc b)) (c : Dev nD)

/-! ## One grid point -/

section Point

variable (t : Fin cfg3.N)

/-- The derivative block of a grid point. -/
def dyPt : Fin 512 → Fin 2048 → EReal :=
  dirArr (7 - (cfg3.grid.coords t 1).val) (iblk3 V c 0 t) (iblk3 V c 1 t) (iblk3 V c 2 t)

/-- The block of the layer's output of a grid point. -/
def yPt : Fin 512 → Fin 2048 → EReal := outArr (iblk3 V c 0 t) (iblk3 V c 1 t) (iblk3 V c 3 t) (iblk3 V c 4 t)

/-- The kernel's shift count of a grid point. -/
abbrev sPt : BitVec 32 := Scalar.subi 7#32 (BitVec.ofNat 32 (cfg3.grid.coords t 1).val)

/-- The kernel's 512 derivative columns from column `o` on. -/
abbrev colV (o : ℕ) (h2 : ∀ a, (![0, o] : Fin 2 → ℕ) a + S5632x512.size a ≤ S5632x2048.size a) : FVec Ideal S512x512 .f32 :=
  directV (sPt t) (iblk3 V c 0 t) (View.ld (S := S512x128) (iblk3 V c 1 t) (Rect.unit ![0, 0] ![512, 1] inb_S512x128_S512x1_0_0))
    (View.ld (S := S5632x2048) (iblk3 V c 2 t) (Rect.unit ![0, o] ![5632, 512] h2))

theorem shiftPt : (Scalar.subi 7#32 (sPt t)).toNat + (7 - (cfg3.grid.coords t 1).val) = 7 := shift_eq _ (cfg3.grid.coords t 1).isLt

theorem col_eq (o : ℕ) (h2) (p q : Fin 512) (d : Fin 2048) (hd : d.val = o + q.val) : colV V c t o h2 (ix2 p q) = dyPt V c t p d :=
  direct_block _ _ _ _ _ (shiftPt t) o _ _ p q d hd

theorem col_piece (o : ℕ) (h2) (y : S1x512x512.Idx) (p : Fin 512) (d : Fin 2048) (hp : p.val = (y 1).val) (hd : d.val = o + (y 2).val) :
    shapeCast S1x512x512 (colV V c t o h2) shapeCasts_S512x512_S1x512x512 y = dyPt V c t p d :=
  dir_piece _ _ (shiftPt t) _ _ _ o _ _ y p d hp hd

theorem dy_A (h0 : t.val % 8 = 0) (h2 : t.val % 64 = 0) (y : S1x512x2048.Idx) : (outsAt3 V c t.val t.isLt).1 y = dyPt V c t (y 1) (y 2) := by
  rw [outsAt3_A V c t h0 h2]
  frame_open
  simp (disch := decide) only [↓ View.readCov_skip, ↓ View.readCov_cons_toLoadRect, ↓ View.readCov_fill]
  frame_out
  canon_tiles x h
  · exact col_piece V c t 1536 inb_S5632x2048_S5632x512_0_1536 x _ _ (by omega) (by omega)
  · exact col_piece V c t 1024 inb_S5632x2048_S5632x512_0_1024 x _ _ (by omega) (by omega)
  · exact col_piece V c t 512 inb_S5632x2048_S5632x512_0_512 x _ _ (by omega) (by omega)
  · exact col_piece V c t 0 inb_S5632x2048_S5632x512_0_0 x _ _ (by omega) (by omega)

theorem sq_A (h0 : t.val % 8 = 0) (h2 : t.val % 64 = 0) (p : Fin 512) : (outsAt3 V c t.val t.isLt).2.1 (ix3 0 0 p) = sqArr (dyPt V c t) p := by
  rw [outsAt3_A V c t h0 h2]
  frame_open
  simp (disch := decide) only [↓ View.readCov_skip, ↓ View.readCov_cons_toLoadRect, ↓ View.readCov_fill]
  frame_out
  exact sq_apply (colV V c t 0 inb_S5632x2048_S5632x512_0_0) (colV V c t 512 inb_S5632x2048_S5632x512_0_512)
    (colV V c t 1024 inb_S5632x2048_S5632x512_0_1024) (colV V c t 1536 inb_S5632x2048_S5632x512_0_1536) (dyPt V c t)
    (col_eq V c t 0 _) (col_eq V c t 512 _) (col_eq V c t 1024 _) (col_eq V c t 1536 _) p

theorem tr_A (h0 : t.val % 8 = 0) (h2 : t.val % 64 = 0) (l : Fin 128) : (outsAt3 V c t.val t.isLt).2.2.1 (ix2 0 l)
    = 0 + ∑ r : Fin 4, sqArr (dyPt V c t) ⟨128 * r.val + l.val, by omega⟩ := by
  rw [outsAt3_A V c t h0 h2]
  frame_open
  simp (disch := decide) only [↓ View.readCov_skip, ↓ View.readCov_cons_toLoadRect, ↓ View.readCov_fill]
  frame_out
  exact (tr_apply (colV V c t 0 inb_S5632x2048_S5632x512_0_0) (colV V c t 512 inb_S5632x2048_S5632x512_0_512)
    (colV V c t 1024 inb_S5632x2048_S5632x512_0_1024) (colV V c t 1536 inb_S5632x2048_S5632x512_0_1536) (dyPt V c t)
    (col_eq V c t 0 _) (col_eq V c t 512 _) (col_eq V c t 1024 _) (col_eq V c t 1536 _) _ l).trans (congrArg (· + _) (zero_row l))

theorem y_A (h0 : t.val % 8 = 0) (h2 : t.val % 64 = 0) (y : S512x2048.Idx) : (outsAt3 V c t.val t.isLt).2.2.2 y = yPt V c t (y 0) (y 1) := by
  rw [outsAt3_A V c t h0 h2]
  frame_open
  simp (disch := decide) only [↓ View.readCov_skip, ↓ View.readCov_cons_toLoadRect, ↓ View.readCov_fill]
  frame_out
  canon_tiles x h
  all_goals exact out_piece _ _ _ _ _ _ _ _ x _ _ (by omega) (by omega)

theorem dy_B (h0 : ¬ t.val % 8 = 0) (h2 : ¬ t.val % 64 = 0) (y : S1x512x2048.Idx) : (outsAt3 V c t.val t.isLt).1 y = dyPt V c t (y 1) (y 2) := by
  rw [outsAt3_B V c t h0 h2]
  frame_open
  simp (disch := decide) only [↓ View.readCov_skip, ↓ View.readCov_cons_toLoadRect, ↓ View.readCov_fill]
  frame_out
  canon_tiles x h
  · exact col_piece V c t 1536 inb_S5632x2048_S5632x512_0_1536 x _ _ (by omega) (by omega)
  · exact col_piece V c t 1024 inb_S5632x2048_S5632x512_0_1024 x _ _ (by omega) (by omega)
  · exact col_piece V c t 512 inb_S5632x2048_S5632x512_0_512 x _ _ (by omega) (by omega)
  · exact col_piece V c t 0 inb_S5632x2048_S5632x512_0_0 x _ _ (by omega) (by omega)

theorem sq_B (h0 : ¬ t.val % 8 = 0) (h2 : ¬ t.val % 64 = 0) (p : Fin 512) : (outsAt3 V c t.val t.isLt).2.1 (ix3 0 0 p) = sqArr (dyPt V c t) p := by
  rw [outsAt3_B V c t h0 h2]
  frame_open
  simp (disch := decide) only [↓ View.readCov_skip, ↓ View.readCov_cons_toLoadRect, ↓ View.readCov_fill]
  frame_out
  exact sq_apply (colV V c t 0 inb_S5632x2048_S5632x512_0_0) (colV V c t 512 inb_S5632x2048_S5632x512_0_512)
    (colV V c t 1024 inb_S5632x2048_S5632x512_0_1024) (colV V c t 1536 inb_S5632x2048_S5632x512_0_1536) (dyPt V c t)
    (col_eq V c t 0 _) (col_eq V c t 512 _) (col_eq V c t 1024 _) (col_eq V c t 1536 _) p

theorem tr_B (h0 : ¬ t.val % 8 = 0) (h2 : ¬ t.val % 64 = 0) (l : Fin 128) : (outsAt3 V c t.val t.isLt).2.2.1 (ix2 0 l)
    = (outsAt3 V c (t.val - 1) (by omega)).2.2.1 (ix2 0 l) + ∑ r : Fin 4, sqArr (dyPt V c t) ⟨128 * r.val + l.val, by omega⟩ := by
  rw [outsAt3_B V c t h0 h2]
  frame_open
  simp (disch := decide) only [↓ View.readCov_skip, ↓ View.readCov_cons_toLoadRect, ↓ View.readCov_fill]
  frame_out
  exact tr_apply (colV V c t 0 inb_S5632x2048_S5632x512_0_0) (colV V c t 512 inb_S5632x2048_S5632x512_0_512)
    (colV V c t 1024 inb_S5632x2048_S5632x512_0_1024) (colV V c t 1536 inb_S5632x2048_S5632x512_0_1536) (dyPt V c t)
    (col_eq V c t 0 _) (col_eq V c t 512 _) (col_eq V c t 1024 _) (col_eq V c t 1536 _) _ l

theorem y_B (h0 : ¬ t.val % 8 = 0) (h2 : ¬ t.val % 64 = 0) : (outsAt3 V c t.val t.isLt).2.2.2 = (outsAt3 V c (t.val - 1) (by omega)).2.2.2 := by
  rw [outsAt3_B V c t h0 h2]

theorem dy_C (h0 : t.val % 8 = 0) (h2 : ¬ t.val % 64 = 0) (y : S1x512x2048.Idx) : (outsAt3 V c t.val t.isLt).1 y = dyPt V c t (y 1) (y 2) := by
  rw [outsAt3_C V c t h0 h2]
  frame_open
  simp (disch := decide) only [↓ View.readCov_skip, ↓ View.readCov_cons_toLoadRect, ↓ View.readCov_fill]
  frame_out
  canon_tiles x h
  · exact col_piece V c t 1536 inb_S5632x2048_S5632x512_0_1536 x _ _ (by omega) (by omega)
  · exact col_piece V c t 1024 inb_S5632x2048_S5632x512_0_1024 x _ _ (by omega) (by omega)
  · exact col_piece V c t 512 inb_S5632x2048_S5632x512_0_512 x _ _ (by omega) (by omega)
  · exact col_piece V c t 0 inb_S5632x2048_S5632x512_0_0 x _ _ (by omega) (by omega)

theorem sq_C (h0 : t.val % 8 = 0) (h2 : ¬ t.val % 64 = 0) (p : Fin 512) : (outsAt3 V c t.val t.isLt).2.1 (ix3 0 0 p) = sqArr (dyPt V c t) p := by
  rw [outsAt3_C V c t h0 h2]
  frame_open
  simp (disch := decide) only [↓ View.readCov_skip, ↓ View.readCov_cons_toLoadRect, ↓ View.readCov_fill]
  frame_out
  exact sq_apply (colV V c t 0 inb_S5632x2048_S5632x512_0_0) (colV V c t 512 inb_S5632x2048_S5632x512_0_512)
    (colV V c t 1024 inb_S5632x2048_S5632x512_0_1024) (colV V c t 1536 inb_S5632x2048_S5632x512_0_1536) (dyPt V c t)
    (col_eq V c t 0 _) (col_eq V c t 512 _) (col_eq V c t 1024 _) (col_eq V c t 1536 _) p

theorem tr_C (h0 : t.val % 8 = 0) (h2 : ¬ t.val % 64 = 0) (l : Fin 128) : (outsAt3 V c t.val t.isLt).2.2.1 (ix2 0 l)
    = (outsAt3 V c (t.val - 1) (by omega)).2.2.1 (ix2 0 l) + ∑ r : Fin 4, sqArr (dyPt V c t) ⟨128 * r.val + l.val, by omega⟩ := by
  rw [outsAt3_C V c t h0 h2]
  frame_open
  simp (disch := decide) only [↓ View.readCov_skip, ↓ View.readCov_cons_toLoadRect, ↓ View.readCov_fill]
  frame_out
  exact tr_apply (colV V c t 0 inb_S5632x2048_S5632x512_0_0) (colV V c t 512 inb_S5632x2048_S5632x512_0_512)
    (colV V c t 1024 inb_S5632x2048_S5632x512_0_1024) (colV V c t 1536 inb_S5632x2048_S5632x512_0_1536) (dyPt V c t)
    (col_eq V c t 0 _) (col_eq V c t 512 _) (col_eq V c t 1024 _) (col_eq V c t 1536 _) _ l

theorem y_C (h0 : t.val % 8 = 0) (h2 : ¬ t.val % 64 = 0) (y : S512x2048.Idx) : (outsAt3 V c t.val t.isLt).2.2.2 y = yPt V c t (y 0) (y 1) := by
  rw [outsAt3_C V c t h0 h2]
  frame_open
  simp (disch := decide) only [↓ View.readCov_skip, ↓ View.readCov_cons_toLoadRect, ↓ View.readCov_fill]
  frame_out
  canon_tiles x h
  all_goals exact out_piece _ _ _ _ _ _ _ _ x _ _ (by omega) (by omega)

theorem dy_out (y : S1x512x2048.Idx) : (outsAt3 V c t.val t.isLt).1 y = dyPt V c t (y 1) (y 2) := by
  by_cases h2 : t.val % 64 = 0
  · exact dy_A V c t (by omega) h2 y
  · by_cases h : t.val % 8 = 0
    · exact dy_C V c t h h2 y
    · exact dy_B V c t h h2 y

theorem sq_out (p : Fin 512) : (outsAt3 V c t.val t.isLt).2.1 (ix3 0 0 p) = sqArr (dyPt V c t) p := by
  by_cases h2 : t.val % 64 = 0
  · exact sq_A V c t (by omega) h2 p
  · by_cases h : t.val % 8 = 0
    · exact sq_C V c t h h2 p
    · exact sq_B V c t h h2 p

theorem tr_step (h2 : ¬ t.val % 64 = 0) (l : Fin 128) : (outsAt3 V c t.val t.isLt).2.2.1 (ix2 0 l)
    = (outsAt3 V c (t.val - 1) (by omega)).2.2.1 (ix2 0 l) + ∑ r : Fin 4, sqArr (dyPt V c t) ⟨128 * r.val + l.val, by omega⟩ := by
  by_cases h : t.val % 8 = 0
  · exact tr_C V c t h h2 l
  · exact tr_B V c t h h2 l

end Point

/-! ## Whole arrays -/

/-- The branch's derivatives, from the arrays as the call finds them. -/
def dyM : ℕ → Fin 4096 → Fin 2048 → EReal :=
  dirN (fun n f => V c main_v4_4 (ix2 n f)) (fun n => V c main_v4_5 (ix2 n 0)) (fun f d => V c main_arg9 (ix2 f d))

/-- The layer's output, from the arrays as the call finds them. -/
def yM : Fin 4096 → Fin 2048 → EReal :=
  yN (fun n f => V c main_v4_4 (ix2 n f)) (fun n => V c main_v4_5 (ix2 n 0)) (fun f d => V c main_arg5 (ix2 f d))
    (fun d => V c main_v2 (ix2 0 d))

theorem t_lt (t : Fin cfg3.N) : t.val < 64 := Nat.lt_of_lt_of_eq t.isLt (by decide +kernel)

theorem coords_eq : ∀ t : Fin cfg3.N, (cfg3.grid.coords t 0).val = t.val / 8 ∧ (cfg3.grid.coords t 1).val = t.val % 8 := by decide +kernel

theorem idx : ∀ t : Fin cfg3.N, win3_0.index t = ![(cfg3.grid.coords t 0).val, 0] ∧ win3_1.index t = ![(cfg3.grid.coords t 0).val, 0]
    ∧ win3_2.index t = ![0, 0] ∧ win3_3.index t = ![0, 0] ∧ win3_4.index t = ![0, 0]
    ∧ win3_5.index t = ![2, (cfg3.grid.coords t 0).val, 0] ∧ win3_6.index t = ![7 - (cfg3.grid.coords t 1).val, 0, (cfg3.grid.coords t 0).val]
    ∧ win3_7.index t = ![0, 0] ∧ win3_8.index t = ![(cfg3.grid.coords t 0).val, 0] := by decide +kernel

theorem dyPt_eq (t : Fin cfg3.N) (p : Fin 512) (d : Fin 2048) :
    dyPt V c t p d = dyM V c (7 - t.val % 8) ⟨512 * (t.val / 8) + p.val, by have := t_lt t; omega⟩ d := by
  obtain ⟨e0, e1⟩ := coords_eq t
  obtain ⟨i0, i1, i2, i3, i4, -⟩ := idx t
  unfold dyPt dyM
  rw [e1]
  refine dirArr_eq _ _ _ _ _ _ _ p _ (fun f => ?_) ?_ (fun f d => ?_) d
  · blk_ext [iblk3, i0, e0]
  · blk_ext [iblk3, i1, e0]
  · blk_ext [iblk3, i2, e0]

theorem yPt_eq (t : Fin cfg3.N) (p : Fin 512) (d : Fin 2048) :
    yPt V c t p d = yM V c ⟨512 * (t.val / 8) + p.val, by have := t_lt t; omega⟩ d := by
  obtain ⟨e0, e1⟩ := coords_eq t
  obtain ⟨i0, i1, i2, i3, i4, -⟩ := idx t
  unfold yPt yM
  refine outArr_eq _ _ _ _ _ _ _ _ p _ (fun f => ?_) ?_ (fun f d => ?_) (fun d => ?_) d
  · blk_ext [iblk3, i0, e0]
  · blk_ext [iblk3, i1, e0]
  · blk_ext [iblk3, i3, e0]
  · blk_ext [iblk3, i4, e0]

theorem sqPt_eq (t : Fin cfg3.N) (p : Fin 512) :
    sqArr (dyPt V c t) p = sqN (dyM V c) (7 - t.val % 8) ⟨512 * (t.val / 8) + p.val, by have := t_lt t; omega⟩ :=
  sqArr_eq _ _ _ _ _ fun d => dyPt_eq V c t p d

/-- Slot 2 of the stacked derivatives is probe 0's; the other slots are as the call finds them. -/
theorem arr5 : (dat3 V c).arrAt 5 cfg3.N
    = fun i : S3x4096x2048.Idx => if (i 0).val = 2 then dyM V c 0 (i 1) (i 2) else V c main_v7_0 i := by
  refine (dat3 V c).arrAt_eq_of_coversWhere 5 _ (fun β => β 0 = 2) (by decide +kernel) (fun t hf y => ?_) (fun j => ?_)
  · have h7 : t.val % 8 = 7 := (flush3_5 t).mp hf
    obtain ⟨i0, i1, i2, i3, i4, i6, -⟩ := idx t
    obtain ⟨e0, e1⟩ := coords_eq t
    refine (congrFun (after3_5 V c t) y).trans ((dy_out V c t _).trans ((dyPt_eq V c t _ _).trans ?_))
    rw [h7]
    refine congrArg₂ (dyM V c 0) (Fin.ext ?_) (Fin.ext ?_)
    · blk_simp [i6, e0]
      exact congrArg (· + (y 1).val) (Nat.mul_comm _ _)
    · blk_simp [i6, e0]
  · blk_simp [Pipeline.Window.cell_apply]
    omega

/-- The squared norms of every probe and token. -/
theorem arr6 : (dat3 V c).arrAt 6 cfg3.N = fun i : S8x1x4096.Idx => sqN (dyM V c) (i 0).val (i 2) := by
  refine (dat3 V c).arrAt_eq_of_covers 6 _ (by decide +kernel) fun t hf y => ?_
  obtain ⟨i0, i1, i2, i3, i4, i6, i7, i8, i9⟩ := idx t
  obtain ⟨e0, e1⟩ := coords_eq t
  blk_simp [i7, e0, e1]
  have ey : y = ix3 (0 : Fin 1) (0 : Fin 1) (y 2) := by
    funext a
    fin_cases a
    · exact Subsingleton.elim (α := Fin 1) _ _
    · exact Subsingleton.elim (α := Fin 1) _ _
    · rfl
  rw [after3_6, ey]
  refine (sq_out V c t (y 2)).trans ((sqPt_eq V c t _).trans ?_)
  refine congrArg (sqN (dyM V c) _) (Fin.ext ?_)
  blk_simp [i7, e0]
  exact congrArg (· + (y 2).val) (Nat.mul_comm _ _)

/-- The last grid point. -/
def tLast : Fin cfg3.N := ⟨63, by decide +kernel⟩

/-- The lane sums after the last point. -/
theorem tr_last (l : Fin 128) : (outsAt3 V c tLast.val tLast.isLt).2.2.1 (ix2 0 l) = laneSum (sqN (dyM V c)) l := by
  rw [laneSum_blocks]
  have h := Pipeline.eq_sum_fin_of_reset_step_apply_last (fun n h (l : Fin 128) => (outsAt3 V c n h).2.2.1 (ix2 0 l)) 64 (fun _ => 0)
    (fun t l => ∑ r : Fin 4, sqN (dyM V c) (7 - t.val % 8) ⟨512 * (t.val / 8) + (128 * r.val + l.val), by have := t_lt t; omega⟩)
    (fun t h0 l => (tr_A V c t (by omega) h0 l).trans (congrArg (0 + ·) (Finset.sum_congr rfl fun r _ => sqPt_eq V c t _)))
    (fun t h0 l => (tr_step V c t h0 l).trans (congrArg (_ + ·) (Finset.sum_congr rfl fun r _ => sqPt_eq V c t _)))
    (by decide +kernel) tLast (by decide +kernel) l
  refine h.trans ?_
  rw [zero_add]
  rfl

theorem arr7 : (dat3 V c).arrAt 7 cfg3.N = fun i : S1x128.Idx => laneSum (sqN (dyM V c)) (i 1) := by
  refine (dat3 V c).arrAt_eq_of_after_last 7 tLast (by decide +kernel) _ fun j => ?_
  blk_simp
  rw [after3_7]
  have ej : j = ix2 (0 : Fin 1) (j 1) := by
    funext a
    fin_cases a
    · exact Subsingleton.elim (α := Fin 1) _ _
    · rfl
  rw [ej]
  exact tr_last V c (j 1)

/-- The output block that the body holds at a point is the one of the point's tokens: stored at the first point of a block of
    tokens, left in place at the seven others. -/
theorem y_out : ∀ (n : ℕ) (h : n < cfg3.N) (p : Fin 512) (d : Fin 2048),
    (outsAt3 V c n h).2.2.2 (ix2 p d) = yM V c ⟨512 * (n / 8) + p.val, by have := t_lt ⟨n, h⟩; dsimp only at this; omega⟩ d
  | 0, h, p, d => (y_A V c ⟨0, h⟩ (Nat.zero_mod _) (Nat.zero_mod _) _).trans (yPt_eq V c ⟨0, h⟩ p d)
  | n + 1, h, p, d => by
    by_cases h8 : (n + 1) % 8 = 0
    · by_cases h64 : (n + 1) % 64 = 0
      · exact (y_A V c ⟨n + 1, h⟩ h8 h64 _).trans (yPt_eq V c ⟨n + 1, h⟩ p d)
      · exact (y_C V c ⟨n + 1, h⟩ h8 h64 _).trans (yPt_eq V c ⟨n + 1, h⟩ p d)
    · refine (congrFun (y_B V c ⟨n + 1, h⟩ h8 (by dsimp only; omega)) (ix2 p d)).trans ((y_out n (by omega) p d).trans ?_)
      refine congrArg (yM V c · d) (Fin.ext ?_)
      show 512 * (n / 8) + p.val = 512 * ((n + 1) / 8) + p.val
      omega

/-- The layer's output. -/
theorem arr8 : (dat3 V c).arrAt 8 cfg3.N = fun i : S4096x2048.Idx => yM V c (i 0) (i 1) := by
  refine (dat3 V c).arrAt_eq_of_covers 8 _ (by decide +kernel) fun t hf y => ?_
  obtain ⟨i0, i1, i2, i3, i4, i6, i7, i8, i9⟩ := idx t
  obtain ⟨e0, e1⟩ := coords_eq t
  blk_simp [i9, e0, e1]
  have ey : y = ix2 (y 0) (y 1) := by
    funext a
    fin_cases a <;> rfl
  rw [after3_8, ey]
  refine (y_out V c _ _ (y 0) (y 1)).trans ?_
  refine congrArg₂ (yM V c) (Fin.ext ?_) (Fin.ext ?_)
  · blk_simp [i9, e0]
    exact congrArg (· + (y 0).val) (Nat.mul_comm _ _)
  · blk_simp [i9, e0]

end Proof.Down

end
-- ==== Proof.Chain.lean ====
/-
  The kernel's four calls chained: what each leaves, and the kernel's results, as the plain formulas of the launch arrays.
-/
module

public import proofs.«01_k».proof.Proof.Ref
public import proofs.«01_k».proof.Proof.Tail
public import proofs.«01_k».proof.Proof.Primal
public import proofs.«01_k».proof.Proof.Gate
public import proofs.«01_k».proof.Proof.Up
public import proofs.«01_k».proof.Proof.Down
public import proofs.«01_k».proof.Proof.Frame.Fold0
public import Idealize.ShloMosaic.Lib.StableHlo.RunRead

@[expose] public section

set_option maxRecDepth 16384

noncomputable section

namespace Proof.Chain

open Idealize.ShloMosaic Idealize.ShloMosaic.TcCoe Idealize.SL.Sem Cert.KernelIdeal Cert.KernelIdeal.Gen Proof.Full Proof.Row Proof.Spec

variable (m : (ℓ : Loc nD τ sig) → Buf (Elt Ideal) ℓ) (ρ : Dev nD → PrngReg) (c : Dev nD)

/-- The layer of the launch arrays. -/
def L : Layer := Proof.Ref.layer
  (shapeCast S4096x2048 (m ((c : Thread nD τ).loc main_arg0)) shapeCasts_S4x1024x2048_S4096x2048)
  (m ((c : Thread nD τ).loc main_arg1))
  (shapeCast S1x5632 (m ((c : Thread nD τ).loc main_arg2)) shapeCasts_S5632_S1x5632)
  (m ((c : Thread nD τ).loc main_arg3))
  (shapeCast S1x5632 (m ((c : Thread nD τ).loc main_arg4)) shapeCasts_S5632_S1x5632)
  (m ((c : Thread nD τ).loc main_arg5))
  (shapeCast S1x2048 (m ((c : Thread nD τ).loc main_arg6)) shapeCasts_S2048_S1x2048)
  (m ((c : Thread nD τ).loc main_arg7)) (m ((c : Thread nD τ).loc main_arg8)) (m ((c : Thread nD τ).loc main_arg9))

/-! ## The first call -/

theorem W1_v0 : W1 m ρ c (Proc.devRef .tc main_v0)
    = shapeCast S1x5632 (m ((c : Thread nD τ).loc main_arg2)) shapeCasts_S5632_S1x5632 := by
  after_reads_simp
  rfl

theorem W1_v1 : W1 m ρ c (Proc.devRef .tc main_v1)
    = shapeCast S1x5632 (m ((c : Thread nD τ).loc main_arg4)) shapeCasts_S5632_S1x5632 := by
  after_reads_simp
  rfl

theorem W1_v2 : W1 m ρ c (Proc.devRef .tc main_v2)
    = shapeCast S1x2048 (m ((c : Thread nD τ).loc main_arg6)) shapeCasts_S2048_S1x2048 := by
  after_reads_simp
  rfl

theorem W1_v3 : W1 m ρ c (Proc.devRef .tc main_v3)
    = shapeCast S4096x2048 (m ((c : Thread nD τ).loc main_arg0)) shapeCasts_S4x1024x2048_S4096x2048 := by
  after_reads_simp
  rfl

theorem xrow_eq (n : Fin 4096) : Proof.Primal.xrow (V1 m ρ) c n = (L m c).x n :=
  funext fun d => congrFun (W1_v3 m ρ c) (ix2 n d)

theorem wg_eq : Proof.Primal.wg (V1 m ρ) c = (L m c).wg :=
  funext fun d => funext fun f => congrFun (W1_args m ρ c main_arg1 (by decide)) (ix2 d f)

theorem zg_eq : Proof.Primal.zg (V1 m ρ) c = (L m c).zg :=
  funext fun f => congrFun (W1_v0 m ρ c) (ix2 0 f)

theorem wu_eq : Proof.Primal.wu (V1 m ρ) c = (L m c).wu :=
  funext fun d => funext fun f => congrFun (W1_args m ρ c main_arg3 (by decide)) (ix2 d f)

theorem zu_eq : Proof.Primal.zu (V1 m ρ) c = (L m c).zu :=
  funext fun f => congrFun (W1_v1 m ρ c) (ix2 0 f)

theorem hid_eq (n : Fin 4096) : Proof.Primal.hidRow (V1 m ρ) c n = (L m c).hidden n := by
  unfold Proof.Primal.hidRow
  rw [xrow_eq, wg_eq, zg_eq, wu_eq, zu_eq]
  rfl

theorem xq_at (n : Fin 4096) (d : Fin 2048) : code (Proof.Primal.xrow (V1 m ρ) c n) d = (L m c).xq n d := by
  rw [xrow_eq]; rfl

theorem sx_at (n : Fin 4096) : rowScale (Proof.Primal.xrow (V1 m ρ) c n) = (L m c).sx n := by
  rw [xrow_eq]; rfl

theorem act_at (n : Fin 4096) (f : Fin 5632) :
    silu (Proof.Primal.xrow (V1 m ρ) c n) (Proof.Primal.wg (V1 m ρ) c) (Proof.Primal.zg (V1 m ρ) c) f = (L m c).act n f := by
  rw [xrow_eq, wg_eq, zg_eq]; rfl

theorem dact_at (n : Fin 4096) (f : Fin 5632) :
    dsilu (Proof.Primal.xrow (V1 m ρ) c n) (Proof.Primal.wg (V1 m ρ) c) (Proof.Primal.zg (V1 m ρ) c) (Proof.Primal.wu (V1 m ρ) c)
      (Proof.Primal.zu (V1 m ρ) c) f = (L m c).dact n f := by
  rw [xrow_eq, wg_eq, zg_eq, wu_eq, zu_eq]; rfl

theorem hq_at (n : Fin 4096) (f : Fin 5632) : code (Proof.Primal.hidRow (V1 m ρ) c n) f = (L m c).hq n f := by
  rw [hid_eq]; rfl

theorem sh_at (n : Fin 4096) : rowScale (Proof.Primal.hidRow (V1 m ρ) c n) = (L m c).sh n := by
  rw [hid_eq]; rfl

theorem W2_v4_0 : W2 m ρ c (Proc.devRef .tc main_v4_0) = fun i : S4096x2048.Idx => (L m c).xq (i 0) (i 1) :=
  (W2_arr m ρ c 5).trans ((Proof.Primal.arr5 (V1 m ρ) c).trans (funext fun i => xq_at m ρ c (i 0) (i 1)))

theorem W2_v4_1 : W2 m ρ c (Proc.devRef .tc main_v4_1) = fun i : S4096x128.Idx => (L m c).sx (i 0) :=
  (W2_arr m ρ c 6).trans ((Proof.Primal.arr6 (V1 m ρ) c).trans (funext fun i => sx_at m ρ c (i 0)))

theorem W2_v4_2 : W2 m ρ c (Proc.devRef .tc main_v4_2) = fun i : S4096x5632.Idx => (L m c).act (i 0) (i 1) :=
  (W2_arr m ρ c 7).trans ((Proof.Primal.arr7 (V1 m ρ) c).trans (funext fun i => act_at m ρ c (i 0) (i 1)))

theorem W2_v4_3 : W2 m ρ c (Proc.devRef .tc main_v4_3) = fun i : S4096x5632.Idx => (L m c).dact (i 0) (i 1) :=
  (W2_arr m ρ c 8).trans ((Proof.Primal.arr8 (V1 m ρ) c).trans (funext fun i => dact_at m ρ c (i 0) (i 1)))

theorem W2_v4_4 : W2 m ρ c (Proc.devRef .tc main_v4_4) = fun i : S4096x5632.Idx => (L m c).hq (i 0) (i 1) :=
  (W2_arr m ρ c 9).trans ((Proof.Primal.arr9 (V1 m ρ) c).trans (funext fun i => hq_at m ρ c (i 0) (i 1)))

theorem W2_v4_5 : W2 m ρ c (Proc.devRef .tc main_v4_5) = fun i : S4096x128.Idx => (L m c).sh (i 0) :=
  (W2_arr m ρ c 10).trans ((Proof.Primal.arr10 (V1 m ρ) c).trans (funext fun i => sh_at m ρ c (i 0)))

/-! ## What the later stretches and calls leave as it is -/

theorem W3_v4_0 : W3 m ρ c (Proc.devRef .tc main_v4_0) = W2 m ρ c (Proc.devRef .tc main_v4_0) :=
  rfl

theorem W5_v4_0 : W5 m ρ c (Proc.devRef .tc main_v4_0) = W2 m ρ c (Proc.devRef .tc main_v4_0) :=
  (W5_of m ρ c main_v4_0 (by decide)).trans (W4_of m ρ c main_v4_0 (by decide))

theorem W8_v4_0 : W8 m ρ c (Proc.devRef .tc main_v4_0) = W2 m ρ c (Proc.devRef .tc main_v4_0) :=
  (W8_of m ρ c main_v4_0 (by decide)).trans ((W7_of m ρ c main_v4_0 (by decide)).trans ((W6_of m ρ c main_v4_0 (by decide)).trans ((W5_of m ρ c main_v4_0 (by decide)).trans (W4_of m ρ c main_v4_0 (by decide)))))

theorem W3_v4_1 : W3 m ρ c (Proc.devRef .tc main_v4_1) = W2 m ρ c (Proc.devRef .tc main_v4_1) :=
  rfl

theorem W5_v4_1 : W5 m ρ c (Proc.devRef .tc main_v4_1) = W2 m ρ c (Proc.devRef .tc main_v4_1) :=
  (W5_of m ρ c main_v4_1 (by decide)).trans (W4_of m ρ c main_v4_1 (by decide))

theorem W8_v4_1 : W8 m ρ c (Proc.devRef .tc main_v4_1) = W2 m ρ c (Proc.devRef .tc main_v4_1) :=
  (W8_of m ρ c main_v4_1 (by decide)).trans ((W7_of m ρ c main_v4_1 (by decide)).trans ((W6_of m ρ c main_v4_1 (by decide)).trans ((W5_of m ρ c main_v4_1 (by decide)).trans (W4_of m ρ c main_v4_1 (by decide)))))

theorem W5_v4_2 : W5 m ρ c (Proc.devRef .tc main_v4_2) = W2 m ρ c (Proc.devRef .tc main_v4_2) :=
  (W5_of m ρ c main_v4_2 (by decide)).trans (W4_of m ρ c main_v4_2 (by decide))

theorem W3_v4_3 : W3 m ρ c (Proc.devRef .tc main_v4_3) = W2 m ρ c (Proc.devRef .tc main_v4_3) :=
  rfl

theorem W7_v4_4 : W7 m ρ c (Proc.devRef .tc main_v4_4) = W2 m ρ c (Proc.devRef .tc main_v4_4) :=
  (W7_of m ρ c main_v4_4 (by decide)).trans ((W6_of m ρ c main_v4_4 (by decide)).trans ((W5_of m ρ c main_v4_4 (by decide)).trans (W4_of m ρ c main_v4_4 (by decide))))

theorem W8_v4_4 : W8 m ρ c (Proc.devRef .tc main_v4_4) = W2 m ρ c (Proc.devRef .tc main_v4_4) :=
  (W8_of m ρ c main_v4_4 (by decide)).trans ((W7_of m ρ c main_v4_4 (by decide)).trans ((W6_of m ρ c main_v4_4 (by decide)).trans ((W5_of m ρ c main_v4_4 (by decide)).trans (W4_of m ρ c main_v4_4 (by decide)))))

theorem W7_v4_5 : W7 m ρ c (Proc.devRef .tc main_v4_5) = W2 m ρ c (Proc.devRef .tc main_v4_5) :=
  (W7_of m ρ c main_v4_5 (by decide)).trans ((W6_of m ρ c main_v4_5 (by decide)).trans ((W5_of m ρ c main_v4_5 (by decide)).trans (W4_of m ρ c main_v4_5 (by decide))))

theorem W8_v4_5 : W8 m ρ c (Proc.devRef .tc main_v4_5) = W2 m ρ c (Proc.devRef .tc main_v4_5) :=
  (W8_of m ρ c main_v4_5 (by decide)).trans ((W7_of m ρ c main_v4_5 (by decide)).trans ((W6_of m ρ c main_v4_5 (by decide)).trans ((W5_of m ρ c main_v4_5 (by decide)).trans (W4_of m ρ c main_v4_5 (by decide)))))

theorem W3_v2 : W3 m ρ c (Proc.devRef .tc main_v2) = W1 m ρ c (Proc.devRef .tc main_v2) :=
  W2_of m ρ c main_v2 (by decide)

theorem W5_v2 : W5 m ρ c (Proc.devRef .tc main_v2) = W1 m ρ c (Proc.devRef .tc main_v2) :=
  (W5_of m ρ c main_v2 (by decide)).trans ((W4_of m ρ c main_v2 (by decide)).trans (W2_of m ρ c main_v2 (by decide)))

theorem W7_v2 : W7 m ρ c (Proc.devRef .tc main_v2) = W1 m ρ c (Proc.devRef .tc main_v2) :=
  (W7_of m ρ c main_v2 (by decide)).trans ((W6_of m ρ c main_v2 (by decide)).trans ((W5_of m ρ c main_v2 (by decide)).trans ((W4_of m ρ c main_v2 (by decide)).trans (W2_of m ρ c main_v2 (by decide)))))

/-! ## The probes' calls -/

theorem dyN_congr {xq xq' : Fin 4096 → Fin 2048 → EReal} {sx sx' : Fin 4096 → EReal} {co co' : Fin 4096 → Fin 5632 → EReal}
    {v v' : Fin 2048 → Fin 5632 → BitVec 8} {wd wd' : Fin 5632 → Fin 2048 → EReal} {ds ds' : Fin 2048 → EReal}
    (h1 : xq = xq') (h2 : sx = sx') (h3 : co = co') (h4 : v = v') (h5 : wd = wd') (h6 : ds = ds') :
    dyN xq sx co v wd ds = dyN xq' sx' co' v' wd' ds' := by
  subst h1 h2 h3 h4 h5 h6; rfl

theorem dirN_congr {hq hq' : Fin 4096 → Fin 5632 → EReal} {sh sh' : Fin 4096 → EReal} {v v' : Fin 5632 → Fin 2048 → BitVec 8}
    (h1 : hq = hq') (h2 : sh = sh') (h3 : v = v') : dirN hq sh v = dirN hq' sh' v' := by
  subst h1 h2 h3; rfl

theorem yN_congr {hq hq' : Fin 4096 → Fin 5632 → EReal} {sh sh' : Fin 4096 → EReal} {wd wd' : Fin 5632 → Fin 2048 → EReal} {ds ds' : Fin 2048 → EReal}
    (h1 : hq = hq') (h2 : sh = sh') (h3 : wd = wd') (h4 : ds = ds') : yN hq sh wd ds = yN hq' sh' wd' ds' := by
  subst h1 h2 h3 h4; rfl

theorem gate_dyM : Proof.Gate.dyM (V3 m ρ) c = (L m c).dyGate :=
  dyN_congr (funext fun n => funext fun d => congrFun ((W3_v4_0 m ρ c).trans (W2_v4_0 m ρ c)) (ix2 n d))
    (funext fun n => congrFun ((W3_v4_1 m ρ c).trans (W2_v4_1 m ρ c)) (ix2 n 0))
    (funext fun n => funext fun f => congrFun ((W3_v4_3 m ρ c).trans (W2_v4_3 m ρ c)) (ix2 n f))
    (funext fun d => funext fun f => congrFun (W3_args m ρ c main_arg7 (by decide)) (ix2 d f))
    (funext fun f => funext fun d => congrFun (W3_args m ρ c main_arg5 (by decide)) (ix2 f d))
    (funext fun d => congrFun ((W3_v2 m ρ c).trans (W1_v2 m ρ c)) (ix2 0 d))

theorem up_dyM : Proof.Up.dyM (V5 m ρ) c = (L m c).dyUp :=
  dyN_congr (funext fun n => funext fun d => congrFun ((W5_v4_0 m ρ c).trans (W2_v4_0 m ρ c)) (ix2 n d))
    (funext fun n => congrFun ((W5_v4_1 m ρ c).trans (W2_v4_1 m ρ c)) (ix2 n 0))
    (funext fun n => funext fun f => congrFun ((W5_v4_2 m ρ c).trans (W2_v4_2 m ρ c)) (ix2 n f))
    (funext fun d => funext fun f => congrFun (W5_args m ρ c main_arg8 (by decide)) (ix2 d f))
    (funext fun f => funext fun d => congrFun (W5_args m ρ c main_arg5 (by decide)) (ix2 f d))
    (funext fun d => congrFun ((W5_v2 m ρ c).trans (W1_v2 m ρ c)) (ix2 0 d))

theorem down_dyM : Proof.Down.dyM (V7 m ρ) c = (L m c).dyDown :=
  dirN_congr (funext fun n => funext fun f => congrFun ((W7_v4_4 m ρ c).trans (W2_v4_4 m ρ c)) (ix2 n f))
    (funext fun n => congrFun ((W7_v4_5 m ρ c).trans (W2_v4_5 m ρ c)) (ix2 n 0))
    (funext fun f => funext fun d => congrFun (W7_args m ρ c main_arg9 (by decide)) (ix2 f d))

theorem down_yM : Proof.Down.yM (V7 m ρ) c = (L m c).y :=
  yN_congr (funext fun n => funext fun f => congrFun ((W7_v4_4 m ρ c).trans (W2_v4_4 m ρ c)) (ix2 n f))
    (funext fun n => congrFun ((W7_v4_5 m ρ c).trans (W2_v4_5 m ρ c)) (ix2 n 0))
    (funext fun f => funext fun d => congrFun (W7_args m ρ c main_arg5 (by decide)) (ix2 f d))
    (funext fun d => congrFun ((W7_v2 m ρ c).trans (W1_v2 m ρ c)) (ix2 0 d))

theorem W4_v5_0 : W4 m ρ c (Proc.devRef .tc main_v5_0)
    = fun i : S3x4096x2048.Idx => if (i 0).val = 0 then (L m c).dyGate 0 (i 1) (i 2) else W3 m ρ c (Proc.devRef .tc main_v5_0) i :=
  (W4_arr m ρ c 6).trans ((Proof.Gate.arr6 (V3 m ρ) c).trans (by rw [gate_dyM]))

theorem W8_v5_1 : W8 m ρ c (Proc.devRef .tc main_v5_1) = fun i : S8x1x4096.Idx => sqN (L m c).dyGate (i 0).val (i 2) :=
  ((W8_of m ρ c main_v5_1 (by decide)).trans ((W7_of m ρ c main_v5_1 (by decide)).trans ((W6_of m ρ c main_v5_1 (by decide)).trans (W5_of m ρ c main_v5_1 (by decide))))).trans ((W4_arr m ρ c 7).trans ((Proof.Gate.arr7 (V3 m ρ) c).trans (by rw [gate_dyM])))

theorem W8_v5_2 : W8 m ρ c (Proc.devRef .tc main_v5_2) = fun i : S1x128.Idx => laneSum (sqN (L m c).dyGate) (i 1) :=
  ((W8_of m ρ c main_v5_2 (by decide)).trans ((W7_of m ρ c main_v5_2 (by decide)).trans ((W6_of m ρ c main_v5_2 (by decide)).trans (W5_of m ρ c main_v5_2 (by decide))))).trans ((W4_arr m ρ c 8).trans ((Proof.Gate.arr8 (V3 m ρ) c).trans (by rw [gate_dyM])))

theorem W6_v6_0 : W6 m ρ c (Proc.devRef .tc main_v6_0)
    = fun i : S3x4096x2048.Idx => if (i 0).val = 1 then (L m c).dyUp 0 (i 1) (i 2) else W5 m ρ c (Proc.devRef .tc main_v6_0) i :=
  (W6_arr m ρ c 6).trans ((Proof.Up.arr6 (V5 m ρ) c).trans (by rw [up_dyM]))

theorem W8_v6_1 : W8 m ρ c (Proc.devRef .tc main_v6_1) = fun i : S8x1x4096.Idx => sqN (L m c).dyUp (i 0).val (i 2) :=
  ((W8_of m ρ c main_v6_1 (by decide)).trans (W7_of m ρ c main_v6_1 (by decide))).trans ((W6_arr m ρ c 7).trans ((Proof.Up.arr7 (V5 m ρ) c).trans (by rw [up_dyM])))

theorem W8_v6_2 : W8 m ρ c (Proc.devRef .tc main_v6_2) = fun i : S1x128.Idx => laneSum (sqN (L m c).dyUp) (i 1) :=
  ((W8_of m ρ c main_v6_2 (by decide)).trans (W7_of m ρ c main_v6_2 (by decide))).trans ((W6_arr m ρ c 8).trans ((Proof.Up.arr8 (V5 m ρ) c).trans (by rw [up_dyM])))

theorem W8_v7_0 : W8 m ρ c (Proc.devRef .tc main_v7_0)
    = fun i : S3x4096x2048.Idx => if (i 0).val = 2 then (L m c).dyDown 0 (i 1) (i 2) else W7 m ρ c (Proc.devRef .tc main_v7_0) i :=
  (W8_arr m ρ c 5).trans ((Proof.Down.arr5 (V7 m ρ) c).trans (by rw [down_dyM]))

theorem W8_v7_1 : W8 m ρ c (Proc.devRef .tc main_v7_1) = fun i : S8x1x4096.Idx => sqN (L m c).dyDown (i 0).val (i 2) :=
  (W8_arr m ρ c 6).trans ((Proof.Down.arr6 (V7 m ρ) c).trans (by rw [down_dyM]))

theorem W8_v7_2 : W8 m ρ c (Proc.devRef .tc main_v7_2) = fun i : S1x128.Idx => laneSum (sqN (L m c).dyDown) (i 1) :=
  (W8_arr m ρ c 7).trans ((Proof.Down.arr7 (V7 m ρ) c).trans (by rw [down_dyM]))

theorem W8_v7_3 : W8 m ρ c (Proc.devRef .tc main_v7_3) = fun i : S4096x2048.Idx => (L m c).y (i 0) (i 1) :=
  (W8_arr m ρ c 8).trans ((Proof.Down.arr8 (V7 m ρ) c).trans (by rw [down_yM]))

theorem W5_v6_0 : W5 m ρ c (Proc.devRef .tc main_v6_0) = W4 m ρ c (Proc.devRef .tc main_v5_0) := by
  after_reads_simp
  rfl

theorem W7_v7_0 : W7 m ρ c (Proc.devRef .tc main_v7_0) = W6 m ρ c (Proc.devRef .tc main_v6_0) := by
  after_reads_simp
  rfl

/-- The derivatives' array: one slot from each probe call. -/
theorem W8_dy : W8 m ρ c (Proc.devRef .tc main_v7_0) = fun i : S3x4096x2048.Idx => (L m c).dy (i 0).val 0 (i 1) (i 2) := by
  funext i
  have h3 : (i 0).val < 3 := (i 0).isLt
  refine (congrFun (W8_v7_0 m ρ c) i).trans ?_
  rw [W7_v7_0, W6_v6_0, W5_v6_0, W4_v5_0]
  unfold Layer.dy
  rcases (show (i 0).val = 0 ∨ (i 0).val = 1 ∨ (i 0).val = 2 by omega) with h | h | h <;> simp [h]

end Proof.Chain

end
-- ==== Proof.KernelRun.lean ====
/-
  The kernel's run with its memory: every weakly fair execution ends with each buffer at what the segments leave.
-/
module

public import proofs.«01_k».proof.Proof.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.KernelIdeal.Gen

end
-- ==== Proof.KernelResults.lean ====
/-
  The kernel's results: the eight arrays of the layer of its launch arrays.
-/
module

public import proofs.«01_k».proof.Proof.Results
public import proofs.«01_k».proof.Proof.Chain
public import proofs.«01_k».proof.Proof.KernelRun

@[expose] public section

set_option maxRecDepth 16384

noncomputable section

namespace Proof.KernelResults

open Idealize.ShloMosaic Idealize.ShloMosaic.TcCoe Idealize.SL.Sem Cert.KernelIdeal Cert.KernelIdeal.Gen Proof.Full Proof.Spec Proof.Chain

variable (m : (ℓ : Loc nD τ sig) → Buf (Elt Ideal) ℓ) (ρ : Dev nD → PrngReg) (c : Dev nD)

theorem y : W9 m ρ c (Proc.devRef .tc main_v17) = Results.y (L m c) :=
  (Tail.v17 (W8 m ρ c)).trans (congrArg (fun x => shapeCast S4x1024x2048 x shapeCasts_S4096x2048_S4x1024x2048) (W8_v7_3 m ρ c))

theorem xq : W9 m ρ c (Proc.devRef .tc main_v19) = Results.xq (L m c) :=
  (Tail.v19 (W8 m ρ c)).trans (congrArg (fun x => shapeCast S4x1024x2048 x shapeCasts_S4096x2048_S4x1024x2048) ((W8_v4_0 m ρ c).trans (W2_v4_0 m ρ c)))

theorem hq : W9 m ρ c (Proc.devRef .tc main_v23) = Results.hq (L m c) :=
  (Tail.v23 (W8 m ρ c)).trans (congrArg (fun x => shapeCast S4x1024x5632 x shapeCasts_S4096x5632_S4x1024x5632) ((W8_v4_4 m ρ c).trans (W2_v4_4 m ρ c)))

theorem dy : W9 m ρ c (Proc.devRef .tc main_v18) = Results.dy (L m c) :=
  (Tail.v18 (W8 m ρ c)).trans (congrArg (fun x => shapeCast S3x4x1024x2048 x shapeCasts_S3x4096x2048_S3x4x1024x2048) (W8_dy m ρ c))

theorem sx : W9 m ρ c (Proc.devRef .tc main_v22) = Results.sx (L m c) := by
  funext i
  refine (congrArg (W9 m ρ c (Proc.devRef .tc main_v22)) (Results.eta2 i)).trans ((Tail.v22 (W8 m ρ c) (i 0) (i 1)).trans ?_)
  exact congrFun ((W8_v4_1 m ρ c).trans (W2_v4_1 m ρ c)) (ix2 _ 0)

theorem sh : W9 m ρ c (Proc.devRef .tc main_v26) = Results.sh (L m c) := by
  funext i
  refine (congrArg (W9 m ρ c (Proc.devRef .tc main_v26)) (Results.eta2 i)).trans ((Tail.v26 (W8 m ρ c) (i 0) (i 1)).trans ?_)
  exact congrFun ((W8_v4_5 m ρ c).trans (W2_v4_5 m ρ c)) (ix2 _ 0)

theorem sq : W9 m ρ c (Proc.devRef .tc main_v12) = Results.sq (L m c) := by
  funext i
  refine (congrArg (W9 m ρ c (Proc.devRef .tc main_v12)) (Results.eta4 i)).trans ?_
  exact Tail.v12 (W8 m ρ c) (fun b k n => (L m c).sq b.val k.val n) (fun k n => congrFun (W8_v5_1 m ρ c) (ix3 k 0 n))
    (fun k n => congrFun (W8_v6_1 m ρ c) (ix3 k 0 n)) (fun k n => congrFun (W8_v7_1 m ρ c) (ix3 k 0 n)) (i 0) (i 1) (i 2) (i 3)

theorem trace : W9 m ρ c (Proc.devRef .tc main_v16) = Results.trace (L m c) := by
  funext i
  refine (congrArg (W9 m ρ c (Proc.devRef .tc main_v16)) (Results.eta1 i)).trans ?_
  refine (Tail.v16 (W8 m ρ c) (fun b l => laneSum ((L m c).sq b.val) l) (fun l => congrFun (W8_v5_2 m ρ c) (ix2 0 l))
    (fun l => congrFun (W8_v6_2 m ρ c) (ix2 0 l)) (fun l => congrFun (W8_v7_2 m ρ c) (ix2 0 l)) (i 0)).trans ?_
  exact congrArg (fun x => Ideal.div x (Ideal.ofBits .f32 0x47000000#32)) (laneSum_total ((L m c).sq (i 0).val))

/-- The kernel runs, and returns the layer's eight arrays, its arguments unchanged. -/
theorem run : θ_run defs (onTc (τ := τ) (main (F := Ideal))) ⟨m, fun _ => 0, ρ⟩ (fun r => ∀ c : Dev nD,
      r.2.mem ((c.tc : Thread nD τ).loc main_v17) = Results.y (L m c)
      ∧ r.2.mem ((c.tc : Thread nD τ).loc main_v16) = Results.trace (L m c)
      ∧ r.2.mem ((c.tc : Thread nD τ).loc main_v12) = Results.sq (L m c)
      ∧ r.2.mem ((c.tc : Thread nD τ).loc main_v18) = Results.dy (L m c)
      ∧ r.2.mem ((c.tc : Thread nD τ).loc main_v19) = Results.xq (L m c)
      ∧ r.2.mem ((c.tc : Thread nD τ).loc main_v22) = Results.sx (L m c)
      ∧ r.2.mem ((c.tc : Thread nD τ).loc main_v23) = Results.hq (L m c)
      ∧ r.2.mem ((c.tc : Thread nD τ).loc main_v26) = Results.sh (L m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v17 (by decide))).trans (y m ρ c),
     (h c _ (mem_uc main_v16 (by decide))).trans (trace m ρ c),
     (h c _ (mem_uc main_v12 (by decide))).trans (sq m ρ c),
     (h c _ (mem_uc main_v18 (by decide))).trans (dy m ρ c),
     (h c _ (mem_uc main_v19 (by decide))).trans (xq m ρ c),
     (h c _ (mem_uc main_v22 (by decide))).trans (sx m ρ c),
     (h c _ (mem_uc main_v23 (by decide))).trans (hq m ρ c),
     (h c _ (mem_uc main_v26 (by decide))).trans (sh m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

end Proof.KernelResults

end
-- ==== Proof.RefBranch.lean ====
/-
  The probes of the reference, read at an index: the directional derivatives of one probe and their squared norms.
-/
module

public import proofs.«01_k».proof.Proof.Ref

@[expose] public section

set_option maxRecDepth 16384

noncomputable section

namespace Proof.Ref

open Idealize.ShloMosaic Cert.ReferenceIdeal Cert.ReferenceIdeal.Gen Proof.Signs Proof.Full Proof.Quant Proof.Row Proof.Spec

/-! ## A hidden branch -/

section Hidden

variable (s : BitVec 32) (k : ℕ) (xq : FVec Ideal S4096x2048 .bf16) (sx : FVec Ideal S4096x1 .f32) (coef : FVec Ideal S4096x5632 .f32)
  (v : Vec Ideal S2048x5632 .i8) (wd : FVec Ideal S5632x2048 .bf16) (ds : Vec Ideal S1x2048 .f32)

/-- The scaled product of the codes with the probe's signs, as the reference's operations. -/
def prodV : FVec Ideal S4096x5632 .f32 :=
  mulf (matmul dot_S4096x2048_S2048x5632_S4096x5632_1_0_0_1_n_n none xq
    (subf (broadcast S2048x5632 (Scalar.ofBits (F := Ideal) .bf16 0x3F80#16)) (mulf (broadcast S2048x5632 (Scalar.ofBits (F := Ideal) .bf16 0x4000#16))
      (sitofp .bf16 (andi (shrui (extui 32 v natLt_8_32) (broadcast S2048x5632 s)) (broadcast S2048x5632 1#32)))))
    (constant S4096x5632 .f32 0x00000000#32))
    (broadcastTo S4096x5632 sx broadcasts_S4096x1_S4096x5632)

/-- The probe's directional derivative, as the reference's operations. -/
def dyV : FVec Ideal S4096x2048 .f32 :=
  mulf (matmul dot_S4096x5632_S5632x2048_S4096x2048_1_0_0_1_n_n none (truncf .bf16 (mulf coef (prodV s xq sx v)) bitsLt_bf16_f32) wd
    (constant S4096x2048 .f32 0x00000000#32))
    (broadcastTo S4096x2048 (shapeCast S1x2048 ds shapeCasts_S1x2048_S1x2048) broadcasts_S1x2048_S4096x2048)

/-- The scaled product at an index. -/
theorem prodV_apply (hk : s.toNat = k) (h8 : k < 8) (n : Fin 4096) (f : Fin 5632) :
    prodV s xq sx v (ix2 n f) = (∑ d : Fin 2048, xq (ix2 n d) * sgn k (v (ix2 d f))) * sx (ix2 n 0) := by
  pointwise [prodV]
  refine congrArg₂ (· * ·) (Finset.sum_congr rfl fun d _ => congrArg _ ?_) rfl
  rw [ofBits_two]
  exact ref_sign _ s k hk h8

/-- The probe's directional derivative at an index. -/
theorem dyV_apply (hk : s.toNat = k) (h8 : k < 8) (X : Fin 4096 → Fin 2048 → EReal) (Sx : Fin 4096 → EReal) (C : Fin 4096 → Fin 5632 → EReal)
    (W : Fin 5632 → Fin 2048 → EReal)
    (hX : ∀ n d, xq (ix2 n d) = X n d) (hS : ∀ n, sx (ix2 n 0) = Sx n) (hC : ∀ n f, coef (ix2 n f) = C n f) (hW : ∀ f d, wd (ix2 f d) = W f d)
    (n : Fin 4096) (d : Fin 2048) :
    dyV s xq sx coef v wd ds (ix2 n d) = dyN X Sx C (fun d f => v (ix2 d f)) W (fun d => ds (ix2 0 d)) k n d := by
  pointwise [dyV]
  unfold dyN tN
  simp only [prodV_apply s k xq sx v hk h8, hX, hS, hC, hW]

end Hidden

/-! ## The down branch -/

section Down

variable (s : BitVec 32) (k : ℕ) (hq : FVec Ideal S4096x5632 .bf16) (sh : FVec Ideal S4096x1 .f32) (v : Vec Ideal S5632x2048 .i8)

/-- The probe's directional derivative, as the reference's operations. -/
def dirV : FVec Ideal S4096x2048 .f32 :=
  mulf (matmul dot_S4096x5632_S5632x2048_S4096x2048_1_0_0_1_n_n none hq
    (subf (broadcast S5632x2048 (Scalar.ofBits (F := Ideal) .bf16 0x3F80#16)) (mulf (broadcast S5632x2048 (Scalar.ofBits (F := Ideal) .bf16 0x4000#16))
      (sitofp .bf16 (andi (shrui (extui 32 v natLt_8_32) (broadcast S5632x2048 s)) (broadcast S5632x2048 1#32)))))
    (constant S4096x2048 .f32 0x00000000#32))
    (broadcastTo S4096x2048 sh broadcasts_S4096x1_S4096x2048)

/-- The probe's directional derivative at an index. -/
theorem dirV_apply (hk : s.toNat = k) (h8 : k < 8) (H : Fin 4096 → Fin 5632 → EReal) (Sh : Fin 4096 → EReal)
    (hH : ∀ n f, hq (ix2 n f) = H n f) (hS : ∀ n, sh (ix2 n 0) = Sh n) (n : Fin 4096) (d : Fin 2048) :
    dirV s hq sh v (ix2 n d) = dirN H Sh (fun f d => v (ix2 f d)) k n d := by
  pointwise [dirV]
  unfold dirN
  rw [hS]
  simp only [hH]
  refine congrArg₂ (· * ·) (Finset.sum_congr rfl fun f _ => congrArg _ ?_) rfl
  rw [ofBits_two]
  exact ref_sign _ s k hk h8

end Down

/-! ## The pieces that the reference stores -/

/-- The squared norms of a directional derivative, as the reference's operations. -/
def sqV (dy : FVec Ideal S4096x2048 .f32) : FVec Ideal S1x1x4096 .f32 :=
  shapeCast S1x1x4096 (multiReduction .add [1] S4096 (mulf dy dy) 0x00000000#32 reduces_S4096x2048_S4096 (.inl rfl) rfl) shapeCasts_S4096_S1x1x4096

theorem sum_a (v : FVec Ideal S4096x2048 .f32) (n : Fin 4096) :
    multiReduction .add [1] S4096 v 0x00000000#32 reduces_S4096x2048_S4096 (.inl rfl) rfl (ix1 n) = ∑ d : Fin 2048, v (ix2 n d) := by
  pointwise []

theorem row_a (v : FVec Ideal S4096 .f32) (x : S1x1x4096.Idx) (n : Fin 4096) (e : n.val = (x 2).val) :
    shapeCast S1x1x4096 v shapeCasts_S4096_S1x1x4096 x = v (ix1 n) := by
  idx_vars x
  pointwise []
  refine congrArg v (congrArg ix1 (Fin.ext ?_))
  simp at e ⊢
  omega

theorem sqr_a (v : FVec Ideal S4096x2048 .f32) (n : Fin 4096) (d : Fin 2048) : mulf v v (ix2 n d) = v (ix2 n d) * v (ix2 n d) := by
  pointwise []

theorem sqV_apply (dy : FVec Ideal S4096x2048 .f32) (D : ℕ → Fin 4096 → Fin 2048 → EReal) (k : ℕ) (h : ∀ n d, dy (ix2 n d) = D k n d)
    (x : S1x1x4096.Idx) (n : Fin 4096) (e : n.val = (x 2).val) : sqV dy x = sqN D k n := by
  refine (row_a _ x n e).trans ((sum_a _ n).trans ?_)
  unfold sqN
  refine Finset.sum_congr rfl fun d _ => ?_
  rw [sqr_a, h]

/-- A directional derivative stored as a slot. -/
theorem slot_apply (dy : FVec Ideal S4096x2048 .f32) (D : ℕ → Fin 4096 → Fin 2048 → EReal) (k : ℕ) (h : ∀ n d, dy (ix2 n d) = D k n d)
    (x : S1x4096x2048.Idx) (n : Fin 4096) (d : Fin 2048) (e1 : n.val = (x 1).val) (e2 : d.val = (x 2).val) :
    shapeCast S1x4096x2048 dy shapeCasts_S4096x2048_S1x4096x2048 x = D k n d := by
  rw [← h]
  idx_vars x
  pointwise []
  refine congrArg dy (congrArg₂ ix2 (Fin.ext ?_) (Fin.ext ?_)) <;> simp at e1 e2 ⊢ <;> omega

end Proof.Ref

end
-- ==== Proof.RefShared.lean ====
/-
  The arrays that the reference's call writes: each is the plain formula of Proof/Spec.lean at every index.
-/
module

public import proofs.«01_k».proof.Proof.RefBranch

@[expose] public section

set_option maxRecDepth 16384

noncomputable section

namespace Proof.Ref

open Idealize.ShloMosaic Cert.ReferenceIdeal Cert.ReferenceIdeal.Gen Proof.Signs Proof.Full Proof.Quant Proof.Row Proof.Spec

section Arrays

variable (x0 : Vec Ideal S4096x2048 .bf16) (x1 : Vec Ideal S2048x5632 .fp8e4m3) (x2 : Vec Ideal S1x5632 .f32)
  (x3 : Vec Ideal S2048x5632 .fp8e4m3) (x4 : Vec Ideal S1x5632 .f32) (x5 : Vec Ideal S5632x2048 .fp8e4m3) (x6 : Vec Ideal S1x2048 .f32)
  (x7 x8 : Vec Ideal S2048x5632 .i8) (x9 : Vec Ideal S5632x2048 .i8)

/-- The layer's output. -/
theorem y_apply (n : Fin 4096) (d : Fin 2048) : out0_10 (F := Ideal) x0 x1 x2 x3 x4 x5 x6 x7 x8 x9 (ix2 n d) = (layer x0 x1 x2 x3 x4 x5 x6 x7 x8 x9).y n d := by
  unfold out0_10
  rw [View.canon_unit_zero hz]
  rw [ld_wd, ld_zd]
  exact p18 x0 x1 x2 x3 x4 x5 x6 x7 x8 x9 n d

/-- The tokens' codes. -/
theorem xq_apply (n : Fin 4096) (d : Fin 2048) : out0_13 (F := Ideal) x0 x1 x2 x3 x4 x5 x6 x7 x8 x9 (ix2 n d) = (layer x0 x1 x2 x3 x4 x5 x6 x7 x8 x9).xq n d := by
  unfold out0_13
  rw [View.canon_unit_zero hz]
  exact p66 x0 x1 x2 x3 x4 x5 x6 x7 x8 x9 n d

/-- The tokens' scales. -/
theorem sx_apply (n : Fin 4096) : out0_14 (F := Ideal) x0 x1 x2 x3 x4 x5 x6 x7 x8 x9 (ix2 n 0) = (layer x0 x1 x2 x3 x4 x5 x6 x7 x8 x9).sx n := by
  unfold out0_14
  rw [View.canon_unit_zero hz]
  exact p65 x0 x1 x2 x3 x4 x5 x6 x7 x8 x9 n

/-- The hidden rows' codes. -/
theorem hq_apply (n : Fin 4096) (d : Fin 5632) : out0_15 (F := Ideal) x0 x1 x2 x3 x4 x5 x6 x7 x8 x9 (ix2 n d) = (layer x0 x1 x2 x3 x4 x5 x6 x7 x8 x9).hq n d := by
  unfold out0_15
  rw [View.canon_unit_zero hz]
  exact p17 x0 x1 x2 x3 x4 x5 x6 x7 x8 x9 n d

/-- The hidden rows' scales. -/
theorem sh_apply (n : Fin 4096) : out0_16 (F := Ideal) x0 x1 x2 x3 x4 x5 x6 x7 x8 x9 (ix2 n 0) = (layer x0 x1 x2 x3 x4 x5 x6 x7 x8 x9).sh n := by
  unfold out0_16
  rw [View.canon_unit_zero hz]
  exact p74 x0 x1 x2 x3 x4 x5 x6 x7 x8 x9 n

end Arrays

end Proof.Ref

end
-- ==== Proof.RefArrays.lean ====
/-
  The arrays that the reference's call writes: each is the plain formula of Proof/Spec.lean at every index.
-/
module

public import proofs.«01_k».proof.Proof.RefBranch

@[expose] public section

set_option maxRecDepth 16384

noncomputable section

namespace Proof.Ref

open Idealize.ShloMosaic Cert.ReferenceIdeal Cert.ReferenceIdeal.Gen Proof.Signs Proof.Full Proof.Quant Proof.Row Proof.Spec

section Arrays

variable (x0 : Vec Ideal S4096x2048 .bf16) (x1 : Vec Ideal S2048x5632 .fp8e4m3) (x2 : Vec Ideal S1x5632 .f32)
  (x3 : Vec Ideal S2048x5632 .fp8e4m3) (x4 : Vec Ideal S1x5632 .f32) (x5 : Vec Ideal S5632x2048 .fp8e4m3) (x6 : Vec Ideal S1x2048 .f32)
  (x7 x8 : Vec Ideal S2048x5632 .i8) (x9 : Vec Ideal S5632x2048 .i8)

/-! ## The probes of the three branches -/

theorem gate_dy (s : BitVec 32) (k : ℕ) (hk : s.toNat = k) (h8 : k < 8) (n : Fin 4096) (d : Fin 2048) :
    dyV s (k0_pay75 x0 x1 x2 x3 x4 x5 x6 x7 x8 x9) (k0_pay65 x0 x1 x2 x3 x4 x5 x6 x7 x8 x9) (k0_pay70 x0 x1 x2 x3 x4 x5 x6 x7 x8 x9) x7 (k0_pay77 x0 x1 x2 x3 x4 x5 x6 x7 x8 x9) x6 (ix2 n d) = (layer x0 x1 x2 x3 x4 x5 x6 x7 x8 x9).dy 0 k n d :=
  dyV_apply s k _ _ _ x7 _ x6 hk h8 (layer x0 x1 x2 x3 x4 x5 x6 x7 x8 x9).xq (layer x0 x1 x2 x3 x4 x5 x6 x7 x8 x9).sx (layer x0 x1 x2 x3 x4 x5 x6 x7 x8 x9).dact (layer x0 x1 x2 x3 x4 x5 x6 x7 x8 x9).wd (p75 x0 x1 x2 x3 x4 x5 x6 x7 x8 x9) (p65 x0 x1 x2 x3 x4 x5 x6 x7 x8 x9) (p70 x0 x1 x2 x3 x4 x5 x6 x7 x8 x9) (p77 x0 x1 x2 x3 x4 x5 x6 x7 x8 x9) n d

theorem up_dy (s : BitVec 32) (k : ℕ) (hk : s.toNat = k) (h8 : k < 8) (n : Fin 4096) (d : Fin 2048) :
    dyV s (k0_pay75 x0 x1 x2 x3 x4 x5 x6 x7 x8 x9) (k0_pay65 x0 x1 x2 x3 x4 x5 x6 x7 x8 x9) (k0_pay69 x0 x1 x2 x3 x4 x5 x6 x7 x8 x9) x8 (k0_pay77 x0 x1 x2 x3 x4 x5 x6 x7 x8 x9) x6 (ix2 n d) = (layer x0 x1 x2 x3 x4 x5 x6 x7 x8 x9).dy 1 k n d :=
  dyV_apply s k _ _ _ x8 _ x6 hk h8 (layer x0 x1 x2 x3 x4 x5 x6 x7 x8 x9).xq (layer x0 x1 x2 x3 x4 x5 x6 x7 x8 x9).sx (layer x0 x1 x2 x3 x4 x5 x6 x7 x8 x9).act (layer x0 x1 x2 x3 x4 x5 x6 x7 x8 x9).wd (p75 x0 x1 x2 x3 x4 x5 x6 x7 x8 x9) (p65 x0 x1 x2 x3 x4 x5 x6 x7 x8 x9) (p69 x0 x1 x2 x3 x4 x5 x6 x7 x8 x9) (p77 x0 x1 x2 x3 x4 x5 x6 x7 x8 x9) n d

theorem down_dy (s : BitVec 32) (k : ℕ) (hk : s.toNat = k) (h8 : k < 8) (n : Fin 4096) (d : Fin 2048) :
    dirV s (k0_pay76 x0 x1 x2 x3 x4 x5 x6 x7 x8 x9) (k0_pay74 x0 x1 x2 x3 x4 x5 x6 x7 x8 x9) x9 (ix2 n d) = (layer x0 x1 x2 x3 x4 x5 x6 x7 x8 x9).dy 2 k n d :=
  dirV_apply s k _ _ x9 hk h8 (layer x0 x1 x2 x3 x4 x5 x6 x7 x8 x9).hq (layer x0 x1 x2 x3 x4 x5 x6 x7 x8 x9).sh (p76 x0 x1 x2 x3 x4 x5 x6 x7 x8 x9) (p74 x0 x1 x2 x3 x4 x5 x6 x7 x8 x9) n d

/-- A row of squared norms at its place. -/
theorem sq_piece (dy : FVec Ideal S4096x2048 .f32) (b k : ℕ) (h : ∀ n d, dy (ix2 n d) = (layer x0 x1 x2 x3 x4 x5 x6 x7 x8 x9).dy b k n d) (x : S1x1x4096.Idx) (y : S3x8x4096.Idx)
    (e0 : (y 0).val = b) (e1 : (y 1).val = k) (e2 : (y 2).val = (x 2).val) : sqV dy x = (layer x0 x1 x2 x3 x4 x5 x6 x7 x8 x9).sq (y 0).val (y 1).val (y 2) := by
  rw [e0, e1]
  exact sqV_apply dy ((layer x0 x1 x2 x3 x4 x5 x6 x7 x8 x9).dy b) k h x _ e2

/-- A slot of directional derivatives at its place. -/
theorem dy_piece (dy : FVec Ideal S4096x2048 .f32) (b : ℕ) (h : ∀ n d, dy (ix2 n d) = (layer x0 x1 x2 x3 x4 x5 x6 x7 x8 x9).dy b 0 n d) (x : S1x4096x2048.Idx) (y : S3x4096x2048.Idx)
    (e0 : (y 0).val = b) (e1 : (y 1).val = (x 1).val) (e2 : (y 2).val = (x 2).val) :
    shapeCast S1x4096x2048 dy shapeCasts_S4096x2048_S1x4096x2048 x = (layer x0 x1 x2 x3 x4 x5 x6 x7 x8 x9).dy (y 0).val 0 (y 1) (y 2) := by
  rw [e0]
  exact slot_apply dy ((layer x0 x1 x2 x3 x4 x5 x6 x7 x8 x9).dy b) 0 h x _ _ e1 e2

/-! ## The arrays -/

/-- The squared norms. -/
theorem sq_apply (y : S3x8x4096.Idx) : out0_11 (F := Ideal) x0 x1 x2 x3 x4 x5 x6 x7 x8 x9 y = (layer x0 x1 x2 x3 x4 x5 x6 x7 x8 x9).sq (y 0).val (y 1).val (y 2) := by
  unfold out0_11 k0_pay78 k0_pay79
  simp only [ld_v, ld_vd, ld_zd]
  canon_tiles x h
  · exact sq_piece x0 x1 x2 x3 x4 x5 x6 x7 x8 x9 _ 2 7 (down_dy x0 x1 x2 x3 x4 x5 x6 x7 x8 x9 7#32 7 rfl (by decide)) x y (by omega) (by omega) h2
  · exact sq_piece x0 x1 x2 x3 x4 x5 x6 x7 x8 x9 _ 2 6 (down_dy x0 x1 x2 x3 x4 x5 x6 x7 x8 x9 6#32 6 rfl (by decide)) x y (by omega) (by omega) h2
  · exact sq_piece x0 x1 x2 x3 x4 x5 x6 x7 x8 x9 _ 2 5 (down_dy x0 x1 x2 x3 x4 x5 x6 x7 x8 x9 5#32 5 rfl (by decide)) x y (by omega) (by omega) h2
  · exact sq_piece x0 x1 x2 x3 x4 x5 x6 x7 x8 x9 _ 2 4 (down_dy x0 x1 x2 x3 x4 x5 x6 x7 x8 x9 4#32 4 rfl (by decide)) x y (by omega) (by omega) h2
  · exact sq_piece x0 x1 x2 x3 x4 x5 x6 x7 x8 x9 _ 2 3 (down_dy x0 x1 x2 x3 x4 x5 x6 x7 x8 x9 3#32 3 rfl (by decide)) x y (by omega) (by omega) h2
  · exact sq_piece x0 x1 x2 x3 x4 x5 x6 x7 x8 x9 _ 2 2 (down_dy x0 x1 x2 x3 x4 x5 x6 x7 x8 x9 2#32 2 rfl (by decide)) x y (by omega) (by omega) h2
  · exact sq_piece x0 x1 x2 x3 x4 x5 x6 x7 x8 x9 _ 2 1 (down_dy x0 x1 x2 x3 x4 x5 x6 x7 x8 x9 1#32 1 rfl (by decide)) x y (by omega) (by omega) h2
  · exact sq_piece x0 x1 x2 x3 x4 x5 x6 x7 x8 x9 _ 2 0 (down_dy x0 x1 x2 x3 x4 x5 x6 x7 x8 x9 0#32 0 rfl (by decide)) x y (by omega) (by omega) h2
  · exact sq_piece x0 x1 x2 x3 x4 x5 x6 x7 x8 x9 _ 1 7 (up_dy x0 x1 x2 x3 x4 x5 x6 x7 x8 x9 7#32 7 rfl (by decide)) x y (by omega) (by omega) h2
  · exact sq_piece x0 x1 x2 x3 x4 x5 x6 x7 x8 x9 _ 1 6 (up_dy x0 x1 x2 x3 x4 x5 x6 x7 x8 x9 6#32 6 rfl (by decide)) x y (by omega) (by omega) h2
  · exact sq_piece x0 x1 x2 x3 x4 x5 x6 x7 x8 x9 _ 1 5 (up_dy x0 x1 x2 x3 x4 x5 x6 x7 x8 x9 5#32 5 rfl (by decide)) x y (by omega) (by omega) h2
  · exact sq_piece x0 x1 x2 x3 x4 x5 x6 x7 x8 x9 _ 1 4 (up_dy x0 x1 x2 x3 x4 x5 x6 x7 x8 x9 4#32 4 rfl (by decide)) x y (by omega) (by omega) h2
  · exact sq_piece x0 x1 x2 x3 x4 x5 x6 x7 x8 x9 _ 1 3 (up_dy x0 x1 x2 x3 x4 x5 x6 x7 x8 x9 3#32 3 rfl (by decide)) x y (by omega) (by omega) h2
  · exact sq_piece x0 x1 x2 x3 x4 x5 x6 x7 x8 x9 _ 1 2 (up_dy x0 x1 x2 x3 x4 x5 x6 x7 x8 x9 2#32 2 rfl (by decide)) x y (by omega) (by omega) h2
  · exact sq_piece x0 x1 x2 x3 x4 x5 x6 x7 x8 x9 _ 1 1 (up_dy x0 x1 x2 x3 x4 x5 x6 x7 x8 x9 1#32 1 rfl (by decide)) x y (by omega) (by omega) h2
  · exact sq_piece x0 x1 x2 x3 x4 x5 x6 x7 x8 x9 _ 1 0 (up_dy x0 x1 x2 x3 x4 x5 x6 x7 x8 x9 0#32 0 rfl (by decide)) x y (by omega) (by omega) h2
  · exact sq_piece x0 x1 x2 x3 x4 x5 x6 x7 x8 x9 _ 0 7 (gate_dy x0 x1 x2 x3 x4 x5 x6 x7 x8 x9 7#32 7 rfl (by decide)) x y (by omega) (by omega) h2
  · exact sq_piece x0 x1 x2 x3 x4 x5 x6 x7 x8 x9 _ 0 6 (gate_dy x0 x1 x2 x3 x4 x5 x6 x7 x8 x9 6#32 6 rfl (by decide)) x y (by omega) (by omega) h2
  · exact sq_piece x0 x1 x2 x3 x4 x5 x6 x7 x8 x9 _ 0 5 (gate_dy x0 x1 x2 x3 x4 x5 x6 x7 x8 x9 5#32 5 rfl (by decide)) x y (by omega) (by omega) h2
  · exact sq_piece x0 x1 x2 x3 x4 x5 x6 x7 x8 x9 _ 0 4 (gate_dy x0 x1 x2 x3 x4 x5 x6 x7 x8 x9 4#32 4 rfl (by decide)) x y (by omega) (by omega) h2
  · exact sq_piece x0 x1 x2 x3 x4 x5 x6 x7 x8 x9 _ 0 3 (gate_dy x0 x1 x2 x3 x4 x5 x6 x7 x8 x9 3#32 3 rfl (by decide)) x y (by omega) (by omega) h2
  · exact sq_piece x0 x1 x2 x3 x4 x5 x6 x7 x8 x9 _ 0 2 (gate_dy x0 x1 x2 x3 x4 x5 x6 x7 x8 x9 2#32 2 rfl (by decide)) x y (by omega) (by omega) h2
  · exact sq_piece x0 x1 x2 x3 x4 x5 x6 x7 x8 x9 _ 0 1 (gate_dy x0 x1 x2 x3 x4 x5 x6 x7 x8 x9 1#32 1 rfl (by decide)) x y (by omega) (by omega) h2
  · exact sq_piece x0 x1 x2 x3 x4 x5 x6 x7 x8 x9 _ 0 0 (gate_dy x0 x1 x2 x3 x4 x5 x6 x7 x8 x9 0#32 0 rfl (by decide)) x y (by omega) (by omega) h2

/-- The first probe's directional derivatives. -/
theorem dy_apply (y : S3x4096x2048.Idx) : out0_12 (F := Ideal) x0 x1 x2 x3 x4 x5 x6 x7 x8 x9 y = (layer x0 x1 x2 x3 x4 x5 x6 x7 x8 x9).dy (y 0).val 0 (y 1) (y 2) := by
  unfold out0_12 k0_pay78 k0_pay79
  simp only [ld_v, ld_vd, ld_zd]
  canon_tiles x h
  · exact dy_piece x0 x1 x2 x3 x4 x5 x6 x7 x8 x9 _ 2 (down_dy x0 x1 x2 x3 x4 x5 x6 x7 x8 x9 0#32 0 rfl (by decide)) x y (by omega) h1 h2
  · exact dy_piece x0 x1 x2 x3 x4 x5 x6 x7 x8 x9 _ 1 (up_dy x0 x1 x2 x3 x4 x5 x6 x7 x8 x9 0#32 0 rfl (by decide)) x y (by omega) h1 h2
  · exact dy_piece x0 x1 x2 x3 x4 x5 x6 x7 x8 x9 _ 0 (gate_dy x0 x1 x2 x3 x4 x5 x6 x7 x8 x9 0#32 0 rfl (by decide)) x y (by omega) h1 h2

end Arrays

end Proof.Ref

end
-- ==== Proof.RefRun.lean ====
/-
  The reference's run: its results are the plain formulas of Proof/Spec.lean at the launch arrays.
-/
module

public import proofs.«01_k».proof.Proof.RefShared
public import proofs.«01_k».proof.Proof.RefArrays
public import Idealize.ShloMosaic.Lib.StableHlo.RunRead

@[expose] public section

set_option maxRecDepth 16384

noncomputable section

namespace Proof.RefRun

open Idealize.ShloMosaic Idealize.ShloMosaic.TcCoe Idealize.SL.Sem Cert.ReferenceIdeal Cert.ReferenceIdeal.Gen Proof.Full Proof.Row Proof.Spec

variable (m : (ℓ : Loc nD τ sig) → Buf (Elt Ideal) ℓ) (ρ : Dev nD → PrngReg) (c : Dev nD)

/-- The layer of the launch arrays. -/
def L : Layer := Proof.Ref.layer
  (shapeCast S4096x2048 (m ((c : Thread nD τ).loc main_arg0)) shapeCasts_S4x1024x2048_S4096x2048)
  (m ((c : Thread nD τ).loc main_arg1))
  (shapeCast S1x5632 (m ((c : Thread nD τ).loc main_arg2)) shapeCasts_S5632_S1x5632)
  (m ((c : Thread nD τ).loc main_arg3))
  (shapeCast S1x5632 (m ((c : Thread nD τ).loc main_arg4)) shapeCasts_S5632_S1x5632)
  (m ((c : Thread nD τ).loc main_arg5))
  (shapeCast S1x2048 (m ((c : Thread nD τ).loc main_arg6)) shapeCasts_S2048_S1x2048)
  (m ((c : Thread nD τ).loc main_arg7)) (m ((c : Thread nD τ).loc main_arg8)) (m ((c : Thread nD τ).loc main_arg9))

/-! ## The call's operands -/

theorem V_v0 : V m c main_v0 = shapeCast S4096x2048 (m ((c : Thread nD τ).loc main_arg0)) shapeCasts_S4x1024x2048_S4096x2048 := by
  unfold V V0
  simp only [List.flatten_cons, List.flatten_nil, List.append_nil]
  after_reads_simp
  rfl

theorem V_v1 : V m c main_v1 = shapeCast S1x5632 (m ((c : Thread nD τ).loc main_arg2)) shapeCasts_S5632_S1x5632 := by
  unfold V V0
  simp only [List.flatten_cons, List.flatten_nil, List.append_nil]
  after_reads_simp
  rfl

theorem V_v2 : V m c main_v2 = shapeCast S1x5632 (m ((c : Thread nD τ).loc main_arg4)) shapeCasts_S5632_S1x5632 := by
  unfold V V0
  simp only [List.flatten_cons, List.flatten_nil, List.append_nil]
  after_reads_simp
  rfl

theorem V_v3 : V m c main_v3 = shapeCast S1x2048 (m ((c : Thread nD τ).loc main_arg6)) shapeCasts_S2048_S1x2048 := by
  unfold V V0
  simp only [List.flatten_cons, List.flatten_nil, List.append_nil]
  after_reads_simp
  rfl

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0, 0]
    ∧ win0_13.index t = ![0, 0]
    ∧ win0_14.index t = ![0, 0]
    ∧ win0_15.index t = ![0, 0]
    ∧ win0_16.index t = ![0, 0] := by decide +kernel

theorem iblk_0 (t : Fin cfg0.N) : iblk m c 0 t = V m c main_v0 := by
  obtain ⟨i, -⟩ := idx t
  funext y
  blk_ext [iblk, i]

theorem iblk_1 (t : Fin cfg0.N) : iblk m c 1 t = V m c main_arg1 := by
  obtain ⟨-, i, -⟩ := idx t
  funext y
  blk_ext [iblk, i]

theorem iblk_2 (t : Fin cfg0.N) : iblk m c 2 t = V m c main_v1 := by
  obtain ⟨-, -, i, -⟩ := idx t
  funext y
  blk_ext [iblk, i]

theorem iblk_3 (t : Fin cfg0.N) : iblk m c 3 t = V m c main_arg3 := by
  obtain ⟨-, -, -, i, -⟩ := idx t
  funext y
  blk_ext [iblk, i]

theorem iblk_4 (t : Fin cfg0.N) : iblk m c 4 t = V m c main_v2 := by
  obtain ⟨-, -, -, -, i, -⟩ := idx t
  funext y
  blk_ext [iblk, i]

theorem iblk_5 (t : Fin cfg0.N) : iblk m c 5 t = V m c main_arg5 := by
  obtain ⟨-, -, -, -, -, i, -⟩ := idx t
  funext y
  blk_ext [iblk, i]

theorem iblk_6 (t : Fin cfg0.N) : iblk m c 6 t = V m c main_v3 := by
  obtain ⟨-, -, -, -, -, -, i, -⟩ := idx t
  funext y
  blk_ext [iblk, i]

theorem iblk_7 (t : Fin cfg0.N) : iblk m c 7 t = V m c main_arg7 := by
  obtain ⟨-, -, -, -, -, -, -, i, -⟩ := idx t
  funext y
  blk_ext [iblk, i]

theorem iblk_8 (t : Fin cfg0.N) : iblk m c 8 t = V m c main_arg8 := by
  obtain ⟨-, -, -, -, -, -, -, -, i, -⟩ := idx t
  funext y
  blk_ext [iblk, i]

theorem iblk_9 (t : Fin cfg0.N) : iblk m c 9 t = V m c main_arg9 := by
  obtain ⟨-, -, -, -, -, -, -, -, -, i, -⟩ := idx t
  funext y
  blk_ext [iblk, i]

theorem V_layer : Proof.Ref.layer (V m c main_v0) (V m c main_arg1) (V m c main_v1) (V m c main_arg3) (V m c main_v2) (V m c main_arg5) (V m c main_v3) (V m c main_arg7) (V m c main_arg8) (V m c main_arg9) = L m c := by
  rw [V_v0, V_main_arg1, V_v1, V_main_arg3, V_v2, V_main_arg5, V_v3, V_main_arg7, V_main_arg8, V_main_arg9]
  rfl

/-! ## The call's arrays -/

theorem out10 (t : Fin cfg0.N) (y : S4096x2048.Idx) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).y (y 0) (y 1) := by
  rw [iblk_0, iblk_1, iblk_2, iblk_3, iblk_4, iblk_5, iblk_6, iblk_7, iblk_8, iblk_9]
  have h : out0_10 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).y (y 0) (y 1) := by
    have ey : y = ix2 (y 0) (y 1) := by
      funext a
      fin_cases a <;> first | rfl | exact Subsingleton.elim (α := Fin 1) _ _
    exact (congrArg _ ey).trans (Proof.Ref.y_apply (V m c main_v0) (V m c main_arg1) (V m c main_v1) (V m c main_arg3) (V m c main_v2) (V m c main_arg5) (V m c main_v3) (V m c main_arg7) (V m c main_arg8) (V m c main_arg9) (y 0) (y 1))
  rw [V_layer] at h
  exact h

theorem emb10 (t : Fin cfg0.N) (y : S4096x2048.Idx) : ((win0_10.blk t).view.emb y : S4096x2048.Idx) = y := by
  obtain ⟨-, -, -, -, -, -, -, -, -, -, i, -⟩ := idx t
  funext a
  fin_cases a <;> refine Fin.ext ?_ <;> blk_simp [i]

theorem arr10 : (dats m 0 c).arrAt 10 cfg0.N = fun y : S4096x2048.Idx => (L m c).y (y 0) (y 1) := by
  refine (dats m 0 c).arrAt_eq_of_covers 10 _ (by decide +kernel) fun t hf y => ?_
  refine (congrFun (after0_10 m c t) y).trans ((out10 m c t y).trans ?_)
  exact congrArg (fun y : S4096x2048.Idx => (L m c).y (y 0) (y 1)) (emb10 t y).symm

theorem out11 (t : Fin cfg0.N) (y : S3x8x4096.Idx) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).sq (y 0).val (y 1).val (y 2) := by
  rw [iblk_0, iblk_1, iblk_2, iblk_3, iblk_4, iblk_5, iblk_6, iblk_7, iblk_8, iblk_9]
  have h : out0_11 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).sq (y 0).val (y 1).val (y 2) := by
    exact Proof.Ref.sq_apply (V m c main_v0) (V m c main_arg1) (V m c main_v1) (V m c main_arg3) (V m c main_v2) (V m c main_arg5) (V m c main_v3) (V m c main_arg7) (V m c main_arg8) (V m c main_arg9) y
  rw [V_layer] at h
  exact h

theorem emb11 (t : Fin cfg0.N) (y : S3x8x4096.Idx) : ((win0_11.blk t).view.emb y : S3x8x4096.Idx) = y := by
  obtain ⟨-, -, -, -, -, -, -, -, -, -, -, i, -⟩ := idx t
  funext a
  fin_cases a <;> refine Fin.ext ?_ <;> blk_simp [i]

theorem arr11 : (dats m 0 c).arrAt 11 cfg0.N = fun y : S3x8x4096.Idx => (L m c).sq (y 0).val (y 1).val (y 2) := by
  refine (dats m 0 c).arrAt_eq_of_covers 11 _ (by decide +kernel) fun t hf y => ?_
  refine (congrFun (after0_11 m c t) y).trans ((out11 m c t y).trans ?_)
  exact congrArg (fun y : S3x8x4096.Idx => (L m c).sq (y 0).val (y 1).val (y 2)) (emb11 t y).symm

theorem out12 (t : Fin cfg0.N) (y : S3x4096x2048.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).dy (y 0).val 0 (y 1) (y 2) := by
  rw [iblk_0, iblk_1, iblk_2, iblk_3, iblk_4, iblk_5, iblk_6, iblk_7, iblk_8, iblk_9]
  have h : out0_12 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).dy (y 0).val 0 (y 1) (y 2) := by
    exact Proof.Ref.dy_apply (V m c main_v0) (V m c main_arg1) (V m c main_v1) (V m c main_arg3) (V m c main_v2) (V m c main_arg5) (V m c main_v3) (V m c main_arg7) (V m c main_arg8) (V m c main_arg9) y
  rw [V_layer] at h
  exact h

theorem emb12 (t : Fin cfg0.N) (y : S3x4096x2048.Idx) : ((win0_12.blk t).view.emb y : S3x4096x2048.Idx) = y := by
  obtain ⟨-, -, -, -, -, -, -, -, -, -, -, -, i, -⟩ := idx t
  funext a
  fin_cases a <;> refine Fin.ext ?_ <;> blk_simp [i]

theorem arr12 : (dats m 0 c).arrAt 12 cfg0.N = fun y : S3x4096x2048.Idx => (L m c).dy (y 0).val 0 (y 1) (y 2) := by
  refine (dats m 0 c).arrAt_eq_of_covers 12 _ (by decide +kernel) fun t hf y => ?_
  refine (congrFun (after0_12 m c t) y).trans ((out12 m c t y).trans ?_)
  exact congrArg (fun y : S3x4096x2048.Idx => (L m c).dy (y 0).val 0 (y 1) (y 2)) (emb12 t y).symm

theorem out13 (t : Fin cfg0.N) (y : S4096x2048.Idx) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).xq (y 0) (y 1) := by
  rw [iblk_0, iblk_1, iblk_2, iblk_3, iblk_4, iblk_5, iblk_6, iblk_7, iblk_8, iblk_9]
  have h : out0_13 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).xq (y 0) (y 1) := by
    have ey : y = ix2 (y 0) (y 1) := by
      funext a
      fin_cases a <;> first | rfl | exact Subsingleton.elim (α := Fin 1) _ _
    exact (congrArg _ ey).trans (Proof.Ref.xq_apply (V m c main_v0) (V m c main_arg1) (V m c main_v1) (V m c main_arg3) (V m c main_v2) (V m c main_arg5) (V m c main_v3) (V m c main_arg7) (V m c main_arg8) (V m c main_arg9) (y 0) (y 1))
  rw [V_layer] at h
  exact h

theorem emb13 (t : Fin cfg0.N) (y : S4096x2048.Idx) : ((win0_13.blk t).view.emb y : S4096x2048.Idx) = y := by
  obtain ⟨-, -, -, -, -, -, -, -, -, -, -, -, -, i, -⟩ := idx t
  funext a
  fin_cases a <;> refine Fin.ext ?_ <;> blk_simp [i]

theorem arr13 : (dats m 0 c).arrAt 13 cfg0.N = fun y : S4096x2048.Idx => (L m c).xq (y 0) (y 1) := by
  refine (dats m 0 c).arrAt_eq_of_covers 13 _ (by decide +kernel) fun t hf y => ?_
  refine (congrFun (after0_13 m c t) y).trans ((out13 m c t y).trans ?_)
  exact congrArg (fun y : S4096x2048.Idx => (L m c).xq (y 0) (y 1)) (emb13 t y).symm

theorem out14 (t : Fin cfg0.N) (y : S4096x1.Idx) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).sx (y 0) := by
  rw [iblk_0, iblk_1, iblk_2, iblk_3, iblk_4, iblk_5, iblk_6, iblk_7, iblk_8, iblk_9]
  have h : out0_14 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).sx (y 0) := by
    have ey : y = ix2 (y 0) 0 := by
      funext a
      fin_cases a <;> first | rfl | exact Subsingleton.elim (α := Fin 1) _ _
    exact (congrArg _ ey).trans (Proof.Ref.sx_apply (V m c main_v0) (V m c main_arg1) (V m c main_v1) (V m c main_arg3) (V m c main_v2) (V m c main_arg5) (V m c main_v3) (V m c main_arg7) (V m c main_arg8) (V m c main_arg9) (y 0))
  rw [V_layer] at h
  exact h

theorem emb14 (t : Fin cfg0.N) (y : S4096x1.Idx) : ((win0_14.blk t).view.emb y : S4096x1.Idx) = y := by
  obtain ⟨-, -, -, -, -, -, -, -, -, -, -, -, -, -, i, -⟩ := idx t
  funext a
  fin_cases a <;> refine Fin.ext ?_ <;> blk_simp [i]

theorem arr14 : (dats m 0 c).arrAt 14 cfg0.N = fun y : S4096x1.Idx => (L m c).sx (y 0) := by
  refine (dats m 0 c).arrAt_eq_of_covers 14 _ (by decide +kernel) fun t hf y => ?_
  refine (congrFun (after0_14 m c t) y).trans ((out14 m c t y).trans ?_)
  exact congrArg (fun y : S4096x1.Idx => (L m c).sx (y 0)) (emb14 t y).symm

theorem out15 (t : Fin cfg0.N) (y : S4096x5632.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).hq (y 0) (y 1) := by
  rw [iblk_0, iblk_1, iblk_2, iblk_3, iblk_4, iblk_5, iblk_6, iblk_7, iblk_8, iblk_9]
  have h : out0_15 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).hq (y 0) (y 1) := by
    have ey : y = ix2 (y 0) (y 1) := by
      funext a
      fin_cases a <;> first | rfl | exact Subsingleton.elim (α := Fin 1) _ _
    exact (congrArg _ ey).trans (Proof.Ref.hq_apply (V m c main_v0) (V m c main_arg1) (V m c main_v1) (V m c main_arg3) (V m c main_v2) (V m c main_arg5) (V m c main_v3) (V m c main_arg7) (V m c main_arg8) (V m c main_arg9) (y 0) (y 1))
  rw [V_layer] at h
  exact h

theorem emb15 (t : Fin cfg0.N) (y : S4096x5632.Idx) : ((win0_15.blk t).view.emb y : S4096x5632.Idx) = y := by
  obtain ⟨-, -, -, -, -, -, -, -, -, -, -, -, -, -, -, i, -⟩ := idx t
  funext a
  fin_cases a <;> refine Fin.ext ?_ <;> blk_simp [i]

theorem arr15 : (dats m 0 c).arrAt 15 cfg0.N = fun y : S4096x5632.Idx => (L m c).hq (y 0) (y 1) := by
  refine (dats m 0 c).arrAt_eq_of_covers 15 _ (by decide +kernel) fun t hf y => ?_
  refine (congrFun (after0_15 m c t) y).trans ((out15 m c t y).trans ?_)
  exact congrArg (fun y : S4096x5632.Idx => (L m c).hq (y 0) (y 1)) (emb15 t y).symm

theorem out16 (t : Fin cfg0.N) (y : S4096x1.Idx) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) y = (L m c).sh (y 0) := by
  rw [iblk_0, iblk_1, iblk_2, iblk_3, iblk_4, iblk_5, iblk_6, iblk_7, iblk_8, iblk_9]
  have h : out0_16 (F := Ideal) (V m c main_v0) (V m c main_arg1) (V m c main_v1) (V m c main_arg3) (V m c main_v2) (V m c main_arg5) (V m c main_v3) (V m c main_arg7) (V m c main_arg8) (V m c main_arg9) y = (Proof.Ref.layer (V m c main_v0) (V m c main_arg1) (V m c main_v1) (V m c main_arg3) (V m c main_v2) (V m c main_arg5) (V m c main_v3) (V m c main_arg7) (V m c main_arg8) (V m c main_arg9)).sh (y 0) := by
    have ey : y = ix2 (y 0) 0 := by
      funext a
      fin_cases a <;> first | rfl | exact Subsingleton.elim (α := Fin 1) _ _
    exact (congrArg _ ey).trans (Proof.Ref.sh_apply (V m c main_v0) (V m c main_arg1) (V m c main_v1) (V m c main_arg3) (V m c main_v2) (V m c main_arg5) (V m c main_v3) (V m c main_arg7) (V m c main_arg8) (V m c main_arg9) (y 0))
  rw [V_layer] at h
  exact h

theorem emb16 (t : Fin cfg0.N) (y : S4096x1.Idx) : ((win0_16.blk t).view.emb y : S4096x1.Idx) = y := by
  obtain ⟨-, -, -, -, -, -, -, -, -, -, -, -, -, -, -, -, i⟩ := idx t
  funext a
  fin_cases a <;> refine Fin.ext ?_ <;> blk_simp [i]

theorem arr16 : (dats m 0 c).arrAt 16 cfg0.N = fun y : S4096x1.Idx => (L m c).sh (y 0) := by
  refine (dats m 0 c).arrAt_eq_of_covers 16 _ (by decide +kernel) fun t hf y => ?_
  refine (congrFun (after0_16 m c t) y).trans ((out16 m c t y).trans ?_)
  exact congrArg (fun y : S4096x1.Idx => (L m c).sh (y 0)) (emb16 t y).symm

end Proof.RefRun

end
-- ==== Proof.RefTail.lean ====
/-
  The reference's host operations after its call, read at an index.
-/
module

public import proofs.«01_k».proof.Proof.Full
public import proofs.«01_k».proof.Proof.Gen.ReferenceIdeal.Launch
public import Idealize.ShloMosaic.Lib.StableHlo.RunRead
public import Idealize.ShloMosaic.Lib.Pipeline.ValueKit

@[expose] public section

set_option maxRecDepth 16384

noncomputable section

namespace Proof.RefTail

open Idealize.ShloMosaic Idealize.ShloMosaic.TcCoe Idealize.SL.Sem Cert.ReferenceIdeal Cert.ReferenceIdeal.Gen Proof.Full

variable (W : Valuation τ sig (Elt Ideal))

theorem v8 : StableHlo.after hostOps1 W (Proc.devRef .tc main_v8)
    = shapeCast S4x1024x2048 (W (Proc.devRef .tc main_v4_0)) shapeCasts_S4096x2048_S4x1024x2048 := by
  after_reads_simp
  rfl

theorem v10 : StableHlo.after hostOps1 W (Proc.devRef .tc main_v10)
    = shapeCast S3x4x1024x2048 (W (Proc.devRef .tc main_v4_2)) shapeCasts_S3x4096x2048_S3x4x1024x2048 := by
  after_reads_simp
  rfl

theorem v11 : StableHlo.after hostOps1 W (Proc.devRef .tc main_v11)
    = shapeCast S4x1024x2048 (W (Proc.devRef .tc main_v4_3)) shapeCasts_S4096x2048_S4x1024x2048 := by
  after_reads_simp
  rfl

theorem v13 : StableHlo.after hostOps1 W (Proc.devRef .tc main_v13)
    = shapeCast S4x1024x5632 (W (Proc.devRef .tc main_v4_5)) shapeCasts_S4096x5632_S4x1024x5632 := by
  after_reads_simp
  rfl

theorem v12 (r : Fin 4) (s : Fin 1024) :
    (show FVec Ideal S4x1024 .f32 from StableHlo.after hostOps1 W (Proc.devRef .tc main_v12)) (ix2 r s)
      = (W (Proc.devRef .tc main_v4_4) : FVec Ideal S4096x1 .f32) (ix2 ⟨r.val * 1024 + s.val, by omega⟩ 0) := by
  after_reads_simp
  pointwise []

theorem v14 (r : Fin 4) (s : Fin 1024) :
    (show FVec Ideal S4x1024 .f32 from StableHlo.after hostOps1 W (Proc.devRef .tc main_v14)) (ix2 r s)
      = (W (Proc.devRef .tc main_v4_6) : FVec Ideal S4096x1 .f32) (ix2 ⟨r.val * 1024 + s.val, by omega⟩ 0) := by
  after_reads_simp
  pointwise []

theorem v9 (b : Fin 3) (k : Fin 8) (r : Fin 4) (s : Fin 1024) :
    (show FVec Ideal S3x8x4x1024 .f32 from StableHlo.after hostOps1 W (Proc.devRef .tc main_v9)) (ix4 b k r s)
      = (W (Proc.devRef .tc main_v4_1) : FVec Ideal S3x8x4096 .f32) (ix3 b k ⟨r.val * 1024 + s.val, by omega⟩) := by
  after_reads_simp
  pointwise []

/-- The trace estimates. -/
theorem v7 (b : Fin 3) : (show FVec Ideal S3 .f32 from StableHlo.after hostOps1 W (Proc.devRef .tc main_v7)) (ix1 b)
    = Ideal.div (∑ k : Fin 8, ∑ n : Fin 4096, (W (Proc.devRef .tc main_v4_1) : FVec Ideal S3x8x4096 .f32) (ix3 b k n))
      (Ideal.ofBits .f32 0x47000000#32) := by
  after_reads_simp
  pointwise []

end Proof.RefTail

end
-- ==== Proof.RefResults.lean ====
/-
  The reference's results: the eight arrays of the layer of its launch arrays.
-/
module

public import proofs.«01_k».proof.Proof.Results
public import proofs.«01_k».proof.Proof.RefRun
public import proofs.«01_k».proof.Proof.RefTail

@[expose] public section

set_option maxRecDepth 16384

noncomputable section

namespace Proof.RefResults

open Idealize.ShloMosaic Idealize.ShloMosaic.TcCoe Idealize.SL.Sem Cert.ReferenceIdeal Cert.ReferenceIdeal.Gen Proof.Full Proof.Spec Proof.RefRun

variable (m : (ℓ : Loc nD τ sig) → Buf (Elt Ideal) ℓ) (ρ : Dev nD → PrngReg) (c : Dev nD)

/-- The buffers as the call leaves them. -/
def WA : Valuation τ sig (Elt Ideal) := Pipeline.withArrays spec0 c (V0 m c) fun w => (dats m 0 c).arrAt w cfg0.N

theorem WA_arr (w : Fin cfg0.W) : WA m c (Proc.devRef .tc (Pipeline.arrRef spec0 w)) = (dats m 0 c).arrAt w cfg0.N := by
  unfold WA; exact Pipeline.withArrays_arr spec0 launch0.win.arr_inj c _ _ w

theorem y : StableHlo.after hostOps1 (WA m c) (Proc.devRef .tc main_v8) = Results.y (L m c) :=
  (RefTail.v8 (WA m c)).trans (congrArg (fun x => shapeCast S4x1024x2048 x shapeCasts_S4096x2048_S4x1024x2048) ((WA_arr m c 10).trans (arr10 m c)))

theorem dy : StableHlo.after hostOps1 (WA m c) (Proc.devRef .tc main_v10) = Results.dy (L m c) :=
  (RefTail.v10 (WA m c)).trans (congrArg (fun x => shapeCast S3x4x1024x2048 x shapeCasts_S3x4096x2048_S3x4x1024x2048) ((WA_arr m c 12).trans (arr12 m c)))

theorem xq : StableHlo.after hostOps1 (WA m c) (Proc.devRef .tc main_v11) = Results.xq (L m c) :=
  (RefTail.v11 (WA m c)).trans (congrArg (fun x => shapeCast S4x1024x2048 x shapeCasts_S4096x2048_S4x1024x2048) ((WA_arr m c 13).trans (arr13 m c)))

theorem hq : StableHlo.after hostOps1 (WA m c) (Proc.devRef .tc main_v13) = Results.hq (L m c) :=
  (RefTail.v13 (WA m c)).trans (congrArg (fun x => shapeCast S4x1024x5632 x shapeCasts_S4096x5632_S4x1024x5632) ((WA_arr m c 15).trans (arr15 m c)))

theorem sx : StableHlo.after hostOps1 (WA m c) (Proc.devRef .tc main_v12) = Results.sx (L m c) := by
  funext i
  refine (congrArg (StableHlo.after hostOps1 (WA m c) (Proc.devRef .tc main_v12)) (Results.eta2 i)).trans ((RefTail.v12 (WA m c) (i 0) (i 1)).trans ?_)
  exact congrFun ((WA_arr m c 14).trans (arr14 m c)) (ix2 _ 0)

theorem sh : StableHlo.after hostOps1 (WA m c) (Proc.devRef .tc main_v14) = Results.sh (L m c) := by
  funext i
  refine (congrArg (StableHlo.after hostOps1 (WA m c) (Proc.devRef .tc main_v14)) (Results.eta2 i)).trans ((RefTail.v14 (WA m c) (i 0) (i 1)).trans ?_)
  exact congrFun ((WA_arr m c 16).trans (arr16 m c)) (ix2 _ 0)

theorem sq : StableHlo.after hostOps1 (WA m c) (Proc.devRef .tc main_v9) = Results.sq (L m c) := by
  funext i
  refine (congrArg (StableHlo.after hostOps1 (WA m c) (Proc.devRef .tc main_v9)) (Results.eta4 i)).trans
    ((RefTail.v9 (WA m c) (i 0) (i 1) (i 2) (i 3)).trans ?_)
  exact congrFun ((WA_arr m c 11).trans (arr11 m c)) (ix3 _ _ _)

theorem trace : StableHlo.after hostOps1 (WA m c) (Proc.devRef .tc main_v7) = Results.trace (L m c) := by
  funext i
  refine (congrArg (StableHlo.after hostOps1 (WA m c) (Proc.devRef .tc main_v7)) (Results.eta1 i)).trans
    ((RefTail.v7 (WA m c) (i 0)).trans ?_)
  refine congrArg (fun x => Ideal.div x (Ideal.ofBits .f32 0x47000000#32)) ?_
  exact Finset.sum_congr rfl fun k _ => Finset.sum_congr rfl fun n _ => congrFun ((WA_arr m c 11).trans (arr11 m c)) (ix3 _ _ _)

/-- The reference's results after its run. -/
theorem values : θ_run defs (onTc (τ := τ) (main (F := Ideal))) (s₀ m ρ) (fun r => ∀ c : Dev nD,
      r.2.mem ((c.tc : Thread nD τ).loc main_v8) = Results.y (L m c)
      ∧ r.2.mem ((c.tc : Thread nD τ).loc main_v7) = Results.trace (L m c)
      ∧ r.2.mem ((c.tc : Thread nD τ).loc main_v9) = Results.sq (L m c)
      ∧ r.2.mem ((c.tc : Thread nD τ).loc main_v10) = Results.dy (L m c)
      ∧ r.2.mem ((c.tc : Thread nD τ).loc main_v11) = Results.xq (L m c)
      ∧ r.2.mem ((c.tc : Thread nD τ).loc main_v12) = Results.sx (L m c)
      ∧ r.2.mem ((c.tc : Thread nD τ).loc main_v13) = Results.hq (L m c)
      ∧ r.2.mem ((c.tc : Thread nD τ).loc main_v14) = Results.sh (L m c)) :=
  (θ_run defs _ _).mono (fun r h c =>
    ⟨((h c).2 main_v8 (Pipeline.mem_restRefs_of main_v8 (by decide) (by decide))).trans (y m c),
     ((h c).2 main_v7 (Pipeline.mem_restRefs_of main_v7 (by decide) (by decide))).trans (trace m c),
     ((h c).2 main_v9 (Pipeline.mem_restRefs_of main_v9 (by decide) (by decide))).trans (sq m c),
     ((h c).2 main_v10 (Pipeline.mem_restRefs_of main_v10 (by decide) (by decide))).trans (dy m c),
     ((h c).2 main_v11 (Pipeline.mem_restRefs_of main_v11 (by decide) (by decide))).trans (xq m c),
     ((h c).2 main_v12 (Pipeline.mem_restRefs_of main_v12 (by decide) (by decide))).trans (sx m c),
     ((h c).2 main_v13 (Pipeline.mem_restRefs_of main_v13 (by decide) (by decide))).trans (hq m c),
     ((h c).2 main_v14 (Pipeline.mem_restRefs_of main_v14 (by decide) (by decide))).trans (sh m c)⟩) (run_main m ρ)

/-- The reference runs, and returns the layer's eight arrays, its arguments unchanged. -/
theorem run : θ_run defs (onTc (τ := τ) (main (F := Ideal))) ⟨m, fun _ => 0, ρ⟩ (fun r => ∀ c : Dev nD,
      r.2.mem ((c.tc : Thread nD τ).loc main_v8) = Results.y (L m c)
      ∧ r.2.mem ((c.tc : Thread nD τ).loc main_v7) = Results.trace (L m c)
      ∧ r.2.mem ((c.tc : Thread nD τ).loc main_v9) = Results.sq (L m c)
      ∧ r.2.mem ((c.tc : Thread nD τ).loc main_v10) = Results.dy (L m c)
      ∧ r.2.mem ((c.tc : Thread nD τ).loc main_v11) = Results.xq (L m c)
      ∧ r.2.mem ((c.tc : Thread nD τ).loc main_v12) = Results.sx (L m c)
      ∧ r.2.mem ((c.tc : Thread nD τ).loc main_v13) = Results.hq (L m c)
      ∧ r.2.mem ((c.tc : Thread nD τ).loc main_v14) = Results.sh (L m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨h0, h1, h2, h3, h4, h5, h6, h7⟩ := h.1 c
    exact ⟨h0, h1, h2, h3, h4, h5, h6, h7, h.2 c⟩) (θ_run_and (values m ρ) (unchanged m ρ))

end Proof.RefResults

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Bits
public import proofs.«01_k».proof.Proof.KernelResults
public import proofs.«01_k».proof.Proof.RefResults

@[expose] public section

noncomputable section

namespace Cert.Proof

open Idealize.ShloMosaic Idealize.SL.Sem Cert.Kernel

/-- Both programs run, and from equal arguments their eight results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, _, _, _, Proof.KernelResults.run m g, ?_⟩
  refine (θ_run (Cert.ReferenceIdeal.defs (F := Ideal)) _ _).mono (fun r h c => ?_) (Proof.RefResults.run m' g')
  have e : Proof.RefRun.L m' c = Proof.Chain.L m c := by
    obtain ⟨e0, e1, e2, e3, e4, e5, e6, e7, e8, e9⟩ := hargs c
    unfold Proof.RefRun.L Proof.Chain.L
    rw [e0, e1, e2, e3, e4, e5, e6, e7, e8, e9]
  have h' := h c
  rw [e] at h'
  exact h'

theorem claim : Cert.Claim :=
  ⟨Cert.Kernel.Gen.facts, Cert.KernelIdeal.Gen.facts, Cert.ReferenceIdeal.Gen.facts, quiescent_Kernel,
    fun m ρ _ => Cert.KernelIdeal.Gen.frame m ρ, fun m ρ _ => Cert.ReferenceIdeal.Gen.frame m ρ, trivial, algebraic⟩

end Cert.Proof

end
